-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x2048x512 : Shape := ⟨3, ![12, 2048, 512]⟩
abbrev S12x2048 : Shape := ⟨2, ![12, 2048]⟩
abbrev S512x2048 : Shape := ⟨2, ![512, 2048]⟩
abbrev S512 : Shape := ⟨1, ![512]⟩
abbrev S_ : Shape := ⟨0, ![]⟩
abbrev S512x2180 : Shape := ⟨2, ![512, 2180]⟩
abbrev S512x2176 : Shape := ⟨2, ![512, 2176]⟩
abbrev S512x17x128 : Shape := ⟨3, ![512, 17, 128]⟩
abbrev S512x24x128 : Shape := ⟨3, ![512, 24, 128]⟩
abbrev S16x2048 : Shape := ⟨2, ![16, 2048]⟩
abbrev S16x8x2x4x32 : Shape := ⟨5, ![16, 8, 2, 4, 32]⟩
abbrev S32x8x4x2x16 : Shape := ⟨5, ![32, 8, 4, 2, 16]⟩
abbrev S32x1024 : Shape := ⟨2, ![32, 1024]⟩
abbrev S16x2176 : Shape := ⟨2, ![16, 2176]⟩
abbrev S16x16x128 : Shape := ⟨3, ![16, 16, 128]⟩
abbrev S1x16x16x128 : Shape := ⟨4, ![1, 16, 16, 128]⟩
abbrev S4x16x16x128 : Shape := ⟨4, ![4, 16, 16, 128]⟩
abbrev S4x1x128 : Shape := ⟨3, ![4, 1, 128]⟩
abbrev S24576x512 : Shape := ⟨2, ![24576, 512]⟩
abbrev S1x1x128 : Shape := ⟨3, ![1, 1, 128]⟩
abbrev S24576x128 : Shape := ⟨2, ![24576, 128]⟩
abbrev S128x24x128 : Shape := ⟨3, ![128, 24, 128]⟩
abbrev S12x2048x128 : Shape := ⟨3, ![12, 2048, 128]⟩
abbrev S128x2048 : Shape := ⟨2, ![128, 2048]⟩
abbrev S8704x128 : Shape := ⟨2, ![8704, 128]⟩
abbrev S6192x128 : Shape := ⟨2, ![6192, 128]⟩
abbrev S33792x128 : Shape := ⟨2, ![33792, 128]⟩
abbrev S1056x128 : Shape := ⟨2, ![1056, 128]⟩
abbrev S128x128 : Shape := ⟨2, ![128, 128]⟩
abbrev S32x128 : Shape := ⟨2, ![32, 128]⟩
abbrev S2048x128 : Shape := ⟨2, ![2048, 128]⟩
abbrev S512x128 : Shape := ⟨2, ![512, 128]⟩
abbrev S8x128 : Shape := ⟨2, ![8, 128]⟩
abbrev S16x128 : Shape := ⟨2, ![16, 128]⟩
abbrev S1x1x16x128 : Shape := ⟨4, ![1, 1, 16, 128]⟩
abbrev S1x128 : Shape := ⟨2, ![1, 128]⟩
abbrev S128x256 : Shape := ⟨2, ![128, 256]⟩
abbrev S16x256 : Shape := ⟨2, ![16, 256]⟩
abbrev S256x256 : Shape := ⟨2, ![256, 256]⟩
abbrev S1x1x1 : Shape := ⟨3, ![1, 1, 1]⟩
abbrev S256x128 : Shape := ⟨2, ![256, 128]⟩
abbrev S32x256 : Shape := ⟨2, ![32, 256]⟩
abbrev S8x128x1 : Shape := ⟨3, ![8, 128, 1]⟩
abbrev S1x128x128 : Shape := ⟨3, ![1, 128, 128]⟩

abbrev nBuf : Space → Nat
  | .hbm => 66
  | .vmem => 18
  | .smem => 2
  | _ => 0

abbrev bufTy : (tb : Table) → Fin (tcTables nBuf tb) → BufTy
  | .hbm, ⟨0, _⟩ => ⟨S12x2048x512, .i8⟩
  | .hbm, ⟨1, _⟩ => ⟨S12x2048, .f32⟩
  | .hbm, ⟨2, _⟩ => ⟨S12x2048x512, .i8⟩
  | .hbm, ⟨3, _⟩ => ⟨S12x2048, .f32⟩
  | .hbm, ⟨4, _⟩ => ⟨S512x2048, .i8⟩
  | .hbm, ⟨5, _⟩ => ⟨S512, .f32⟩
  | .hbm, ⟨6, _⟩ => ⟨S512x2048, .i32⟩
  | .hbm, ⟨7, _⟩ => ⟨S512x2048, .i32⟩
  | .hbm, ⟨8, _⟩ => ⟨S_, .i32⟩
  | .hbm, ⟨9, _⟩ => ⟨S_, .i32⟩
  | .hbm, ⟨10, _⟩ => ⟨S512x2180, .i32⟩
  | .hbm, ⟨11, _⟩ => ⟨S512x2176, .i32⟩
  | .hbm, ⟨12, _⟩ => ⟨S512x2176, .i32⟩
  | .hbm, ⟨13, _⟩ => ⟨S_, .i32⟩
  | .hbm, ⟨14, _⟩ => ⟨S512x2176, .i32⟩
  | .hbm, ⟨15, _⟩ => ⟨S512x2176, .i32⟩
  | .hbm, ⟨16, _⟩ => ⟨S512x2176, .i32⟩
  | .hbm, ⟨17, _⟩ => ⟨S512x2176, .i32⟩
  | .hbm, ⟨18, _⟩ => ⟨S_, .i32⟩
  | .hbm, ⟨19, _⟩ => ⟨S512x2176, .i32⟩
  | .hbm, ⟨20, _⟩ => ⟨S512x2176, .i32⟩
  | .hbm, ⟨21, _⟩ => ⟨S512x2176, .i32⟩
  | .hbm, ⟨22, _⟩ => ⟨S512x2176, .i32⟩
  | .hbm, ⟨23, _⟩ => ⟨S_, .i32⟩
  | .hbm, ⟨24, _⟩ => ⟨S512x2176, .i32⟩
  | .hbm, ⟨25, _⟩ => ⟨S512x2176, .i32⟩
  | .hbm, ⟨26, _⟩ => ⟨S512x2176, .i32⟩
  | .hbm, ⟨27, _⟩ => ⟨S512x2176, .i32⟩
  | .hbm, ⟨28, _⟩ => ⟨S512x17x128, .i32⟩
  | .hbm, ⟨29, _⟩ => ⟨S512x17x128, .i32⟩
  | .hbm, ⟨30, _⟩ => ⟨S_, .i32⟩
  | .hbm, ⟨31, _⟩ => ⟨S_, .i32⟩
  | .hbm, ⟨32, _⟩ => ⟨S512x24x128, .i32⟩
  | .hbm, ⟨33, _⟩ => ⟨S12x2048, .bf16⟩
  | .hbm, ⟨34, _⟩ => ⟨S_, .i32⟩
  | .hbm, ⟨35, _⟩ => ⟨S_, .bf16⟩
  | .hbm, ⟨36, _⟩ => ⟨S16x2048, .bf16⟩
  | .hbm, ⟨37, _⟩ => ⟨S16x8x2x4x32, .bf16⟩
  | .hbm, ⟨38, _⟩ => ⟨S32x8x4x2x16, .bf16⟩
  | .hbm, ⟨39, _⟩ => ⟨S32x1024, .bf16⟩
  | .hbm, ⟨40, _⟩ => ⟨S12x2048, .bf16⟩
  | .hbm, ⟨41, _⟩ => ⟨S_, .i32⟩
  | .hbm, ⟨42, _⟩ => ⟨S_, .bf16⟩
  | .hbm, ⟨43, _⟩ => ⟨S16x2176, .bf16⟩
  | .hbm, ⟨44, _⟩ => ⟨S16x2048, .bf16⟩
  | .hbm, ⟨45, _⟩ => ⟨S16x16x128, .bf16⟩
  | .hbm, ⟨46, _⟩ => ⟨S16x16x128, .bf16⟩
  | .hbm, ⟨47, _⟩ => ⟨S16x2048, .bf16⟩
  | .hbm, ⟨48, _⟩ => ⟨S16x16x128, .bf16⟩
  | .hbm, ⟨49, _⟩ => ⟨S16x16x128, .bf16⟩
  | .hbm, ⟨50, _⟩ => ⟨S16x2048, .bf16⟩
  | .hbm, ⟨51, _⟩ => ⟨S16x16x128, .bf16⟩
  | .hbm, ⟨52, _⟩ => ⟨S16x16x128, .bf16⟩
  | .hbm, ⟨53, _⟩ => ⟨S16x2048, .bf16⟩
  | .hbm, ⟨54, _⟩ => ⟨S16x16x128, .bf16⟩
  | .hbm, ⟨55, _⟩ => ⟨S16x16x128, .bf16⟩
  | .hbm, ⟨56, _⟩ => ⟨S1x16x16x128, .bf16⟩
  | .hbm, ⟨57, _⟩ => ⟨S1x16x16x128, .bf16⟩
  | .hbm, ⟨58, _⟩ => ⟨S1x16x16x128, .bf16⟩
  | .hbm, ⟨59, _⟩ => ⟨S1x16x16x128, .bf16⟩
  | .hbm, ⟨60, _⟩ => ⟨S4x16x16x128, .bf16⟩
  | .hbm, ⟨61, _⟩ => ⟨S4x1x128, .f32⟩
  | .hbm, ⟨62, _⟩ => ⟨S24576x512, .i8⟩
  | .hbm, ⟨63, _⟩ => ⟨S24576x512, .i8⟩
  | .hbm, ⟨64, _⟩ => ⟨S12x2048x512, .bf16⟩
  | .hbm, ⟨65, _⟩ => ⟨S512x2048, .f32⟩
  | .local _ .vmem, ⟨0, _⟩ => ⟨S24576x128, .i8⟩
  | .local _ .vmem, ⟨1, _⟩ => ⟨S24576x128, .i8⟩
  | .local _ .vmem, ⟨2, _⟩ => ⟨S24576x128, .i8⟩
  | .local _ .vmem, ⟨3, _⟩ => ⟨S24576x128, .i8⟩
  | .local _ .vmem, ⟨4, _⟩ => ⟨S128x24x128, .i32⟩
  | .local _ .vmem, ⟨5, _⟩ => ⟨S128x24x128, .i32⟩
  | .local _ .vmem, ⟨6, _⟩ => ⟨S32x1024, .bf16⟩
  | .local _ .vmem, ⟨7, _⟩ => ⟨S4x16x16x128, .bf16⟩
  | .local _ .vmem, ⟨8, _⟩ => ⟨S12x2048x128, .bf16⟩
  | .local _ .vmem, ⟨9, _⟩ => ⟨S12x2048x128, .bf16⟩
  | .local _ .vmem, ⟨10, _⟩ => ⟨S128x2048, .f32⟩
  | .local _ .vmem, ⟨11, _⟩ => ⟨S128x2048, .f32⟩
  | .local _ .vmem, ⟨12, _⟩ => ⟨S8704x128, .i32⟩
  | .local _ .vmem, ⟨13, _⟩ => ⟨S8704x128, .i32⟩
  | .local _ .vmem, ⟨14, _⟩ => ⟨S6192x128, .i32⟩
  | .local _ .vmem, ⟨15, _⟩ => ⟨S33792x128, .f32⟩
  | .local _ .vmem, ⟨16, _⟩ => ⟨S1056x128, .f32⟩
  | .local _ .vmem, ⟨17, _⟩ => ⟨S128x128, .i32⟩
  | .local _ .smem, ⟨0, _⟩ => ⟨S1x1x128, .f32⟩
  | .local _ .smem, ⟨1, _⟩ => ⟨S1x1x128, .f32⟩
  | _, _ => ⟨S12x2048x512, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_call1_v0 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_call2_v0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_call3_v0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47_0 : Ref sig .tc := ⟨.hbm, 64, rfl⟩
abbrev main_v47_1 : Ref sig .tc := ⟨.hbm, 65, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_off1 (k0_t1 : Fin k0_t1_loop.trips) (c0_i32_19 : BitVec 32) : Fin 2 → Nat :=
  let c0_i32_18 : BitVec 32 := 0#32
  let c0_i32_1 : BitVec 32 := 0#32
  let c1_i32 : BitVec 32 := 1#32
  let arg15 : BitVec 32 := Scf.iv c0_i32_1 c1_i32 k0_t1
  let c1_i32_17 : BitVec 32 := 1#32
  let v11 : BitVec 32 := Scalar.muli arg15 c1_i32_17
  let v12 : BitVec 32 := Scalar.addi c0_i32_18 v11
  let c128_i32 : BitVec 32 := 128#32
  let v13 : BitVec 32 := Scalar.muli v12 c128_i32
  let v14 : BitVec 32 := Scalar.addi c0_i32_19 v13
  let v15 : Index := Scalar.indexCast v14
  let c0 : Index := 0#32
  ![v15.toNat, 0]
def k0_off2 (k0_t1 : Fin k0_t1_loop.trips) (c0_i32_55 : BitVec 32) : Fin 2 → Nat :=
  let c0_i32_18 : BitVec 32 := 0#32
  let c0_i32_1 : BitVec 32 := 0#32
  let c1_i32 : BitVec 32 := 1#32
  let arg15 : BitVec 32 := Scf.iv c0_i32_1 c1_i32 k0_t1
  let c1_i32_17 : BitVec 32 := 1#32
  let v11 : BitVec 32 := Scalar.muli arg15 c1_i32_17
  let v12 : BitVec 32 := Scalar.addi c0_i32_18 v11
  let c4_i32_54 : BitVec 32 := 4#32
  let v103 : BitVec 32 := Scalar.muli v12 c4_i32_54
  let v104 : BitVec 32 := Scalar.addi v103 c0_i32_55
  let v105 : Index := Scalar.indexCast v104
  let c0_56 : Index := 0#32
  ![v105.toNat, 0]
@[reducible] def k0_t2_loop : Scf.Loop 32 :=
  let c0_i32_3 : BitVec 32 := 0#32
  let c12_i32 : BitVec 32 := 12#32
  let v4 : BitVec 32 := Scalar.addi c0_i32_3 c12_i32
  let c1_i32_4 : BitVec 32 := 1#32
  ⟨c0_i32_3, v4, c1_i32_4⟩
def k0_off3 (k0_t2 : Fin k0_t2_loop.trips) : Fin 2 → Nat :=
  let c0_i32_18 : BitVec 32 := 0#32
  let c0_i32_3 : BitVec 32 := 0#32
  let c1_i32_4 : BitVec 32 := 1#32
  let arg15 : BitVec 32 := Scf.iv c0_i32_3 c1_i32_4 k0_t2
  let c1_i32_17 : BitVec 32 := 1#32
  let v11 : BitVec 32 := Scalar.muli arg15 c1_i32_17
  let v12 : BitVec 32 := Scalar.addi c0_i32_18 v11
  let c2048_i32 : BitVec 32 := 2048#32
  let v13 : BitVec 32 := Scalar.muli v12 c2048_i32
  let v14 : Index := Scalar.indexCast v13
  let c0 : Index := 0#32
  ![v14.toNat, 0]
def k0_off4 (k0_t2 : Fin k0_t2_loop.trips) : Fin 2 → Nat :=
  let c0_i32_18 : BitVec 32 := 0#32
  let c0_i32_3 : BitVec 32 := 0#32
  let c1_i32_4 : BitVec 32 := 1#32
  let arg15 : BitVec 32 := Scf.iv c0_i32_3 c1_i32_4 k0_t2
  let c1_i32_17 : BitVec 32 := 1#32
  let v11 : BitVec 32 := Scalar.muli arg15 c1_i32_17
  let v12 : BitVec 32 := Scalar.addi c0_i32_18 v11
  let c516_i32 : BitVec 32 := 516#32
  let v18 : BitVec 32 := Scalar.muli v12 c516_i32
  let v19 : Index := Scalar.indexCast v18
  let c0_19 : Index := 0#32
  ![v19.toNat, 0]
@[reducible] def k0_t3_loop : Scf.Loop 32 :=
  let c0_i32_6 : BitVec 32 := 0#32
  let c8_i32 : BitVec 32 := 8#32
  let v8 : BitVec 32 := Scalar.addi c0_i32_6 c8_i32
  let c1_i32_7 : BitVec 32 := 1#32
  ⟨c0_i32_6, v8, c1_i32_7⟩
def k0_off5 (k0_t3 : Fin k0_t3_loop.trips) (c0_i32_20 : BitVec 32) (c0_i32_21 : BitVec 32) (c0_i32_23 : BitVec 32) : Fin 2 → Nat :=
  let c8_i32_19 : BitVec 32 := 8#32
  let c0_i32_18 : BitVec 32 := 0#32
  let c0_i32_6 : BitVec 32 := 0#32
  let c1_i32_7 : BitVec 32 := 1#32
  let arg15 : BitVec 32 := Scf.iv c0_i32_6 c1_i32_7 k0_t3
  let c1_i32_17 : BitVec 32 := 1#32
  let v11 : BitVec 32 := Scalar.muli arg15 c1_i32_17
  let v12 : BitVec 32 := Scalar.addi c0_i32_18 v11
  let v13 : BitVec 32 := Scalar.muli c8_i32_19 v12
  let v14 : BitVec 32 := Scalar.addi v13 c0_i32_20
  let v15 : BitVec 32 := Scalar.addi v14 c0_i32_21
  let c8_i32_22 : BitVec 32 := 8#32
  let v16 : BitVec 32 := Scalar.muli v15 c8_i32_22
  let v17 : BitVec 32 := Scalar.addi v16 c0_i32_23
  let v18 : Index := Scalar.indexCast v17
  let c0 : Index := 0#32
  ![v18.toNat, 0]
def k0_off6 (k0_t3 : Fin k0_t3_loop.trips) (c0_i32_20 : BitVec 32) (c0_i32_21 : BitVec 32) (c0_i32_23 : BitVec 32) : Fin 2 → Nat :=
  let c2064_i32 : BitVec 32 := 2064#32
  let c8_i32_19 : BitVec 32 := 8#32
  let c0_i32_18 : BitVec 32 := 0#32
  let c0_i32_6 : BitVec 32 := 0#32
  let c1_i32_7 : BitVec 32 := 1#32
  let arg15 : BitVec 32 := Scf.iv c0_i32_6 c1_i32_7 k0_t3
  let c1_i32_17 : BitVec 32 := 1#32
  let v11 : BitVec 32 := Scalar.muli arg15 c1_i32_17
  let v12 : BitVec 32 := Scalar.addi c0_i32_18 v11
  let v13 : BitVec 32 := Scalar.muli c8_i32_19 v12
  let v14 : BitVec 32 := Scalar.addi v13 c0_i32_20
  let v15 : BitVec 32 := Scalar.addi v14 c0_i32_21
  let c8_i32_22 : BitVec 32 := 8#32
  let v16 : BitVec 32 := Scalar.muli v15 c8_i32_22
  let v17 : BitVec 32 := Scalar.addi v16 c0_i32_23
  let v20 : BitVec 32 := Scalar.addi c2064_i32 v17
  let v21 : Index := Scalar.indexCast v20
  let c0_24 : Index := 0#32
  ![v21.toNat, 0]
def k0_off7 (k0_t3 : Fin k0_t3_loop.trips) (c0_i32_96 : BitVec 32) : Fin 2 → Nat :=
  let c8_i32_95 : BitVec 32 := 8#32
  let c0_i32_18 : BitVec 32 := 0#32
  let c0_i32_6 : BitVec 32 := 0#32
  let c1_i32_7 : BitVec 32 := 1#32
  let arg15 : BitVec 32 := Scf.iv c0_i32_6 c1_i32_7 k0_t3
  let c1_i32_17 : BitVec 32 := 1#32
  let v11 : BitVec 32 := Scalar.muli arg15 c1_i32_17
  let v12 : BitVec 32 := Scalar.addi c0_i32_18 v11
  let v119 : BitVec 32 := Scalar.muli c8_i32_95 v12
  let v120 : BitVec 32 := Scalar.addi v119 c0_i32_96
  let v121 : Index := Scalar.indexCast v120
  let c0_97 : Index := 0#32
  ![v121.toNat, 0]
@[reducible] def k0_t4_loop : Scf.Loop 32 :=
  let c0_i32_9 : BitVec 32 := 0#32
  let c16_i32_10 : BitVec 32 := 16#32
  let v9 : BitVec 32 := Scalar.addi c0_i32_9 c16_i32_10
  let c1_i32_11 : BitVec 32 := 1#32
  ⟨c0_i32_9, v9, c1_i32_11⟩
@[reducible] def k0_t5_loop : Scf.Loop 32 :=
  let c0_i32_19 : BitVec 32 := 0#32
  let c8_i32_20 : BitVec 32 := 8#32
  let v13 : BitVec 32 := Scalar.addi c0_i32_19 c8_i32_20
  let c1_i32_21 : BitVec 32 := 1#32
  ⟨c0_i32_19, v13, c1_i32_21⟩
def k0_off8 (k0_t4 : Fin k0_t4_loop.trips) (k0_t5 : Fin k0_t5_loop.trips) (c0_i32_171 : BitVec 32) : Fin 2 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_170 : BitVec 32 := 8#32
  let v320 : BitVec 32 := Scalar.muli v12 c8_i32_170
  let c0_i32_169 : BitVec 32 := 0#32
  let c0_i32_19 : BitVec 32 := 0#32
  let c1_i32_21 : BitVec 32 := 1#32
  let arg16 : BitVec 32 := Scf.iv c0_i32_19 c1_i32_21 k0_t5
  let c1_i32_168 : BitVec 32 := 1#32
  let v318 : BitVec 32 := Scalar.muli arg16 c1_i32_168
  let v319 : BitVec 32 := Scalar.addi c0_i32_169 v318
  let v321 : BitVec 32 := Scalar.addi v320 v319
  let c68_i32 : BitVec 32 := 68#32
  let v324 : BitVec 32 := Scalar.muli v321 c68_i32
  let v325 : BitVec 32 := Scalar.addi v324 c0_i32_171
  let v326 : Index := Scalar.indexCast v325
  let c0_172 : Index := 0#32
  ![v326.toNat, 0]
def k0_off9 (k0_t4 : Fin k0_t4_loop.trips) (k0_t5 : Fin k0_t5_loop.trips) (c0_i32_257 : BitVec 32) : Fin 2 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_170 : BitVec 32 := 8#32
  let v320 : BitVec 32 := Scalar.muli v12 c8_i32_170
  let c0_i32_169 : BitVec 32 := 0#32
  let c0_i32_19 : BitVec 32 := 0#32
  let c1_i32_21 : BitVec 32 := 1#32
  let arg16 : BitVec 32 := Scf.iv c0_i32_19 c1_i32_21 k0_t5
  let c1_i32_168 : BitVec 32 := 1#32
  let v318 : BitVec 32 := Scalar.muli arg16 c1_i32_168
  let v319 : BitVec 32 := Scalar.addi c0_i32_169 v318
  let v321 : BitVec 32 := Scalar.addi v320 v319
  let c68_i32_256 : BitVec 32 := 68#32
  let v441 : BitVec 32 := Scalar.muli v321 c68_i32_256
  let v442 : BitVec 32 := Scalar.addi v441 c0_i32_257
  let c4_i32_258 : BitVec 32 := 4#32
  let v443 : BitVec 32 := Scalar.addi v442 c4_i32_258
  let v444 : Index := Scalar.indexCast v443
  let c0_259 : Index := 0#32
  ![v444.toNat, 0]
def k0_off10 (k0_t4 : Fin k0_t4_loop.trips) (k0_t5 : Fin k0_t5_loop.trips) : Fin 3 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_170 : BitVec 32 := 8#32
  let v320 : BitVec 32 := Scalar.muli v12 c8_i32_170
  let c0_i32_169 : BitVec 32 := 0#32
  let c0_i32_19 : BitVec 32 := 0#32
  let c1_i32_21 : BitVec 32 := 1#32
  let arg16 : BitVec 32 := Scf.iv c0_i32_19 c1_i32_21 k0_t5
  let c1_i32_168 : BitVec 32 := 1#32
  let v318 : BitVec 32 := Scalar.muli arg16 c1_i32_168
  let v319 : BitVec 32 := Scalar.addi c0_i32_169 v318
  let v321 : BitVec 32 := Scalar.addi v320 v319
  let v993 : Index := Scalar.indexCast v321
  let c0_663 : Index := 0#32
  let c0_664 : Index := 0#32
  ![v993.toNat, 0, 0]
def k0_off11 (k0_t4 : Fin k0_t4_loop.trips) (k0_t5 : Fin k0_t5_loop.trips) : Fin 3 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_170 : BitVec 32 := 8#32
  let v320 : BitVec 32 := Scalar.muli v12 c8_i32_170
  let c0_i32_169 : BitVec 32 := 0#32
  let c0_i32_19 : BitVec 32 := 0#32
  let c1_i32_21 : BitVec 32 := 1#32
  let arg16 : BitVec 32 := Scf.iv c0_i32_19 c1_i32_21 k0_t5
  let c1_i32_168 : BitVec 32 := 1#32
  let v318 : BitVec 32 := Scalar.muli arg16 c1_i32_168
  let v319 : BitVec 32 := Scalar.addi c0_i32_169 v318
  let v321 : BitVec 32 := Scalar.addi v320 v319
  let v998 : Index := Scalar.indexCast v321
  let c1_665 : Index := 1#32
  let c0_666 : Index := 0#32
  ![v998.toNat, 1, 0]
def k0_off12 (k0_t4 : Fin k0_t4_loop.trips) (k0_t5 : Fin k0_t5_loop.trips) : Fin 3 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_170 : BitVec 32 := 8#32
  let v320 : BitVec 32 := Scalar.muli v12 c8_i32_170
  let c0_i32_169 : BitVec 32 := 0#32
  let c0_i32_19 : BitVec 32 := 0#32
  let c1_i32_21 : BitVec 32 := 1#32
  let arg16 : BitVec 32 := Scf.iv c0_i32_19 c1_i32_21 k0_t5
  let c1_i32_168 : BitVec 32 := 1#32
  let v318 : BitVec 32 := Scalar.muli arg16 c1_i32_168
  let v319 : BitVec 32 := Scalar.addi c0_i32_169 v318
  let v321 : BitVec 32 := Scalar.addi v320 v319
  let v1041 : Index := Scalar.indexCast v321
  let c2_680 : Index := 2#32
  let c0_681 : Index := 0#32
  ![v1041.toNat, 2, 0]
def k0_off13 (k0_t4 : Fin k0_t4_loop.trips) (k0_t5 : Fin k0_t5_loop.trips) : Fin 3 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_170 : BitVec 32 := 8#32
  let v320 : BitVec 32 := Scalar.muli v12 c8_i32_170
  let c0_i32_169 : BitVec 32 := 0#32
  let c0_i32_19 : BitVec 32 := 0#32
  let c1_i32_21 : BitVec 32 := 1#32
  let arg16 : BitVec 32 := Scf.iv c0_i32_19 c1_i32_21 k0_t5
  let c1_i32_168 : BitVec 32 := 1#32
  let v318 : BitVec 32 := Scalar.muli arg16 c1_i32_168
  let v319 : BitVec 32 := Scalar.addi c0_i32_169 v318
  let v321 : BitVec 32 := Scalar.addi v320 v319
  let v1084 : Index := Scalar.indexCast v321
  let c3_696 : Index := 3#32
  let c0_697 : Index := 0#32
  ![v1084.toNat, 3, 0]
def k0_off14 (k0_t4 : Fin k0_t4_loop.trips) (k0_t5 : Fin k0_t5_loop.trips) : Fin 3 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_170 : BitVec 32 := 8#32
  let v320 : BitVec 32 := Scalar.muli v12 c8_i32_170
  let c0_i32_169 : BitVec 32 := 0#32
  let c0_i32_19 : BitVec 32 := 0#32
  let c1_i32_21 : BitVec 32 := 1#32
  let arg16 : BitVec 32 := Scf.iv c0_i32_19 c1_i32_21 k0_t5
  let c1_i32_168 : BitVec 32 := 1#32
  let v318 : BitVec 32 := Scalar.muli arg16 c1_i32_168
  let v319 : BitVec 32 := Scalar.addi c0_i32_169 v318
  let v321 : BitVec 32 := Scalar.addi v320 v319
  let v1127 : Index := Scalar.indexCast v321
  let c4_712 : Index := 4#32
  let c0_713 : Index := 0#32
  ![v1127.toNat, 4, 0]
def k0_off15 (k0_t4 : Fin k0_t4_loop.trips) (k0_t5 : Fin k0_t5_loop.trips) : Fin 3 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_170 : BitVec 32 := 8#32
  let v320 : BitVec 32 := Scalar.muli v12 c8_i32_170
  let c0_i32_169 : BitVec 32 := 0#32
  let c0_i32_19 : BitVec 32 := 0#32
  let c1_i32_21 : BitVec 32 := 1#32
  let arg16 : BitVec 32 := Scf.iv c0_i32_19 c1_i32_21 k0_t5
  let c1_i32_168 : BitVec 32 := 1#32
  let v318 : BitVec 32 := Scalar.muli arg16 c1_i32_168
  let v319 : BitVec 32 := Scalar.addi c0_i32_169 v318
  let v321 : BitVec 32 := Scalar.addi v320 v319
  let v1170 : Index := Scalar.indexCast v321
  let c5_728 : Index := 5#32
  let c0_729 : Index := 0#32
  ![v1170.toNat, 5, 0]
def k0_off16 (k0_t4 : Fin k0_t4_loop.trips) (k0_t5 : Fin k0_t5_loop.trips) : Fin 3 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_170 : BitVec 32 := 8#32
  let v320 : BitVec 32 := Scalar.muli v12 c8_i32_170
  let c0_i32_169 : BitVec 32 := 0#32
  let c0_i32_19 : BitVec 32 := 0#32
  let c1_i32_21 : BitVec 32 := 1#32
  let arg16 : BitVec 32 := Scf.iv c0_i32_19 c1_i32_21 k0_t5
  let c1_i32_168 : BitVec 32 := 1#32
  let v318 : BitVec 32 := Scalar.muli arg16 c1_i32_168
  let v319 : BitVec 32 := Scalar.addi c0_i32_169 v318
  let v321 : BitVec 32 := Scalar.addi v320 v319
  let v1213 : Index := Scalar.indexCast v321
  let c6_744 : Index := 6#32
  let c0_745 : Index := 0#32
  ![v1213.toNat, 6, 0]
def k0_off17 (k0_t4 : Fin k0_t4_loop.trips) (k0_t5 : Fin k0_t5_loop.trips) : Fin 3 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_170 : BitVec 32 := 8#32
  let v320 : BitVec 32 := Scalar.muli v12 c8_i32_170
  let c0_i32_169 : BitVec 32 := 0#32
  let c0_i32_19 : BitVec 32 := 0#32
  let c1_i32_21 : BitVec 32 := 1#32
  let arg16 : BitVec 32 := Scf.iv c0_i32_19 c1_i32_21 k0_t5
  let c1_i32_168 : BitVec 32 := 1#32
  let v318 : BitVec 32 := Scalar.muli arg16 c1_i32_168
  let v319 : BitVec 32 := Scalar.addi c0_i32_169 v318
  let v321 : BitVec 32 := Scalar.addi v320 v319
  let v1256 : Index := Scalar.indexCast v321
  let c7_760 : Index := 7#32
  let c0_761 : Index := 0#32
  ![v1256.toNat, 7, 0]
def k0_off18 (k0_t4 : Fin k0_t4_loop.trips) (k0_t5 : Fin k0_t5_loop.trips) : Fin 3 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_170 : BitVec 32 := 8#32
  let v320 : BitVec 32 := Scalar.muli v12 c8_i32_170
  let c0_i32_169 : BitVec 32 := 0#32
  let c0_i32_19 : BitVec 32 := 0#32
  let c1_i32_21 : BitVec 32 := 1#32
  let arg16 : BitVec 32 := Scf.iv c0_i32_19 c1_i32_21 k0_t5
  let c1_i32_168 : BitVec 32 := 1#32
  let v318 : BitVec 32 := Scalar.muli arg16 c1_i32_168
  let v319 : BitVec 32 := Scalar.addi c0_i32_169 v318
  let v321 : BitVec 32 := Scalar.addi v320 v319
  let v1299 : Index := Scalar.indexCast v321
  let c8_776 : Index := 8#32
  let c0_777 : Index := 0#32
  ![v1299.toNat, 8, 0]
def k0_off19 (k0_t4 : Fin k0_t4_loop.trips) (k0_t5 : Fin k0_t5_loop.trips) : Fin 3 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_170 : BitVec 32 := 8#32
  let v320 : BitVec 32 := Scalar.muli v12 c8_i32_170
  let c0_i32_169 : BitVec 32 := 0#32
  let c0_i32_19 : BitVec 32 := 0#32
  let c1_i32_21 : BitVec 32 := 1#32
  let arg16 : BitVec 32 := Scf.iv c0_i32_19 c1_i32_21 k0_t5
  let c1_i32_168 : BitVec 32 := 1#32
  let v318 : BitVec 32 := Scalar.muli arg16 c1_i32_168
  let v319 : BitVec 32 := Scalar.addi c0_i32_169 v318
  let v321 : BitVec 32 := Scalar.addi v320 v319
  let v1342 : Index := Scalar.indexCast v321
  let c9_792 : Index := 9#32
  let c0_793 : Index := 0#32
  ![v1342.toNat, 9, 0]
def k0_off20 (k0_t4 : Fin k0_t4_loop.trips) (k0_t5 : Fin k0_t5_loop.trips) : Fin 3 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_170 : BitVec 32 := 8#32
  let v320 : BitVec 32 := Scalar.muli v12 c8_i32_170
  let c0_i32_169 : BitVec 32 := 0#32
  let c0_i32_19 : BitVec 32 := 0#32
  let c1_i32_21 : BitVec 32 := 1#32
  let arg16 : BitVec 32 := Scf.iv c0_i32_19 c1_i32_21 k0_t5
  let c1_i32_168 : BitVec 32 := 1#32
  let v318 : BitVec 32 := Scalar.muli arg16 c1_i32_168
  let v319 : BitVec 32 := Scalar.addi c0_i32_169 v318
  let v321 : BitVec 32 := Scalar.addi v320 v319
  let v1385 : Index := Scalar.indexCast v321
  let c10_808 : Index := 10#32
  let c0_809 : Index := 0#32
  ![v1385.toNat, 10, 0]
def k0_off21 (k0_t4 : Fin k0_t4_loop.trips) (k0_t5 : Fin k0_t5_loop.trips) : Fin 3 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_170 : BitVec 32 := 8#32
  let v320 : BitVec 32 := Scalar.muli v12 c8_i32_170
  let c0_i32_169 : BitVec 32 := 0#32
  let c0_i32_19 : BitVec 32 := 0#32
  let c1_i32_21 : BitVec 32 := 1#32
  let arg16 : BitVec 32 := Scf.iv c0_i32_19 c1_i32_21 k0_t5
  let c1_i32_168 : BitVec 32 := 1#32
  let v318 : BitVec 32 := Scalar.muli arg16 c1_i32_168
  let v319 : BitVec 32 := Scalar.addi c0_i32_169 v318
  let v321 : BitVec 32 := Scalar.addi v320 v319
  let v1428 : Index := Scalar.indexCast v321
  let c11_824 : Index := 11#32
  let c0_825 : Index := 0#32
  ![v1428.toNat, 11, 0]
def k0_off22 (k0_t4 : Fin k0_t4_loop.trips) (k0_t5 : Fin k0_t5_loop.trips) : Fin 3 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_170 : BitVec 32 := 8#32
  let v320 : BitVec 32 := Scalar.muli v12 c8_i32_170
  let c0_i32_169 : BitVec 32 := 0#32
  let c0_i32_19 : BitVec 32 := 0#32
  let c1_i32_21 : BitVec 32 := 1#32
  let arg16 : BitVec 32 := Scf.iv c0_i32_19 c1_i32_21 k0_t5
  let c1_i32_168 : BitVec 32 := 1#32
  let v318 : BitVec 32 := Scalar.muli arg16 c1_i32_168
  let v319 : BitVec 32 := Scalar.addi c0_i32_169 v318
  let v321 : BitVec 32 := Scalar.addi v320 v319
  let v1471 : Index := Scalar.indexCast v321
  let c12_840 : Index := 12#32
  let c0_841 : Index := 0#32
  ![v1471.toNat, 12, 0]
def k0_off23 (k0_t4 : Fin k0_t4_loop.trips) (k0_t5 : Fin k0_t5_loop.trips) : Fin 3 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_170 : BitVec 32 := 8#32
  let v320 : BitVec 32 := Scalar.muli v12 c8_i32_170
  let c0_i32_169 : BitVec 32 := 0#32
  let c0_i32_19 : BitVec 32 := 0#32
  let c1_i32_21 : BitVec 32 := 1#32
  let arg16 : BitVec 32 := Scf.iv c0_i32_19 c1_i32_21 k0_t5
  let c1_i32_168 : BitVec 32 := 1#32
  let v318 : BitVec 32 := Scalar.muli arg16 c1_i32_168
  let v319 : BitVec 32 := Scalar.addi c0_i32_169 v318
  let v321 : BitVec 32 := Scalar.addi v320 v319
  let v1514 : Index := Scalar.indexCast v321
  let c13_856 : Index := 13#32
  let c0_857 : Index := 0#32
  ![v1514.toNat, 13, 0]
def k0_off24 (k0_t4 : Fin k0_t4_loop.trips) (k0_t5 : Fin k0_t5_loop.trips) : Fin 3 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_170 : BitVec 32 := 8#32
  let v320 : BitVec 32 := Scalar.muli v12 c8_i32_170
  let c0_i32_169 : BitVec 32 := 0#32
  let c0_i32_19 : BitVec 32 := 0#32
  let c1_i32_21 : BitVec 32 := 1#32
  let arg16 : BitVec 32 := Scf.iv c0_i32_19 c1_i32_21 k0_t5
  let c1_i32_168 : BitVec 32 := 1#32
  let v318 : BitVec 32 := Scalar.muli arg16 c1_i32_168
  let v319 : BitVec 32 := Scalar.addi c0_i32_169 v318
  let v321 : BitVec 32 := Scalar.addi v320 v319
  let v1557 : Index := Scalar.indexCast v321
  let c14_872 : Index := 14#32
  let c0_873 : Index := 0#32
  ![v1557.toNat, 14, 0]
def k0_off25 (k0_t4 : Fin k0_t4_loop.trips) (k0_t5 : Fin k0_t5_loop.trips) : Fin 3 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_170 : BitVec 32 := 8#32
  let v320 : BitVec 32 := Scalar.muli v12 c8_i32_170
  let c0_i32_169 : BitVec 32 := 0#32
  let c0_i32_19 : BitVec 32 := 0#32
  let c1_i32_21 : BitVec 32 := 1#32
  let arg16 : BitVec 32 := Scf.iv c0_i32_19 c1_i32_21 k0_t5
  let c1_i32_168 : BitVec 32 := 1#32
  let v318 : BitVec 32 := Scalar.muli arg16 c1_i32_168
  let v319 : BitVec 32 := Scalar.addi c0_i32_169 v318
  let v321 : BitVec 32 := Scalar.addi v320 v319
  let v1600 : Index := Scalar.indexCast v321
  let c15_888 : Index := 15#32
  let c0_889 : Index := 0#32
  ![v1600.toNat, 15, 0]
def k0_off26 (k0_t4 : Fin k0_t4_loop.trips) (k0_t5 : Fin k0_t5_loop.trips) : Fin 3 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_170 : BitVec 32 := 8#32
  let v320 : BitVec 32 := Scalar.muli v12 c8_i32_170
  let c0_i32_169 : BitVec 32 := 0#32
  let c0_i32_19 : BitVec 32 := 0#32
  let c1_i32_21 : BitVec 32 := 1#32
  let arg16 : BitVec 32 := Scf.iv c0_i32_19 c1_i32_21 k0_t5
  let c1_i32_168 : BitVec 32 := 1#32
  let v318 : BitVec 32 := Scalar.muli arg16 c1_i32_168
  let v319 : BitVec 32 := Scalar.addi c0_i32_169 v318
  let v321 : BitVec 32 := Scalar.addi v320 v319
  let v1643 : Index := Scalar.indexCast v321
  let c16_904 : Index := 16#32
  let c0_905 : Index := 0#32
  ![v1643.toNat, 16, 0]
def k0_off27 (k0_t4 : Fin k0_t4_loop.trips) (k0_t5 : Fin k0_t5_loop.trips) : Fin 3 → Nat :=
  let c0_928 : Index := 0#32
  let c0_929 : Index := 0#32
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_170 : BitVec 32 := 8#32
  let v320 : BitVec 32 := Scalar.muli v12 c8_i32_170
  let c0_i32_169 : BitVec 32 := 0#32
  let c0_i32_19 : BitVec 32 := 0#32
  let c1_i32_21 : BitVec 32 := 1#32
  let arg16 : BitVec 32 := Scf.iv c0_i32_19 c1_i32_21 k0_t5
  let c1_i32_168 : BitVec 32 := 1#32
  let v318 : BitVec 32 := Scalar.muli arg16 c1_i32_168
  let v319 : BitVec 32 := Scalar.addi c0_i32_169 v318
  let v321 : BitVec 32 := Scalar.addi v320 v319
  let v1739 : Index := Scalar.indexCast v321
  ![0, 0, v1739.toNat]
def k0_off28 (k0_t4 : Fin k0_t4_loop.trips) (k0_t5 : Fin k0_t5_loop.trips) (c0_i32_930 : BitVec 32) : Fin 2 → Nat :=
  let c2_i32 : BitVec 32 := 2#32
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_170 : BitVec 32 := 8#32
  let v320 : BitVec 32 := Scalar.muli v12 c8_i32_170
  let c0_i32_169 : BitVec 32 := 0#32
  let c0_i32_19 : BitVec 32 := 0#32
  let c1_i32_21 : BitVec 32 := 1#32
  let arg16 : BitVec 32 := Scf.iv c0_i32_19 c1_i32_21 k0_t5
  let c1_i32_168 : BitVec 32 := 1#32
  let v318 : BitVec 32 := Scalar.muli arg16 c1_i32_168
  let v319 : BitVec 32 := Scalar.addi c0_i32_169 v318
  let v321 : BitVec 32 := Scalar.addi v320 v319
  let c132_i32 : BitVec 32 := 132#32
  let v1746 : BitVec 32 := Scalar.muli v321 c132_i32
  let v1747 : BitVec 32 := Scalar.addi v1746 c0_i32_930
  let v1748 : BitVec 32 := Scalar.muli c2_i32 v1747
  let v1749 : Index := Scalar.indexCast v1748
  let c0_931 : Index := 0#32
  ![v1749.toNat, 0]
def k0_off29 (k0_t4 : Fin k0_t4_loop.trips) (k0_t5 : Fin k0_t5_loop.trips) (c0_i32_1059 : BitVec 32) : Fin 2 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_170 : BitVec 32 := 8#32
  let v320 : BitVec 32 := Scalar.muli v12 c8_i32_170
  let c0_i32_169 : BitVec 32 := 0#32
  let c0_i32_19 : BitVec 32 := 0#32
  let c1_i32_21 : BitVec 32 := 1#32
  let arg16 : BitVec 32 := Scf.iv c0_i32_19 c1_i32_21 k0_t5
  let c1_i32_168 : BitVec 32 := 1#32
  let v318 : BitVec 32 := Scalar.muli arg16 c1_i32_168
  let v319 : BitVec 32 := Scalar.addi c0_i32_169 v318
  let v321 : BitVec 32 := Scalar.addi v320 v319
  let c8_i32_1052 : BitVec 32 := 8#32
  let c0_i32_1053 : BitVec 32 := 0#32
  let v2099 : BitVec 1 := Scalar.cmpi .eq c8_i32_1052 c0_i32_1053
  let c1_i32_1054 : BitVec 32 := 1#32
  let v2100 : BitVec 32 := Scalar.select v2099 c1_i32_1054 c8_i32_1052
  let v2101 : BitVec 32 := Scalar.remsi v321 v2100
  let c0_i32_1056 : BitVec 32 := 0#32
  let v2103 : BitVec 1 := Scalar.cmpi .slt v2101 c0_i32_1056
  let c0_i32_1057 : BitVec 32 := 0#32
  let v2104 : BitVec 1 := Scalar.cmpi .slt v2100 c0_i32_1057
  let v2105 : BitVec 1 := Scalar.xori v2103 v2104
  let c0_i32_1055 : BitVec 32 := 0#32
  let v2102 : BitVec 1 := Scalar.cmpi .ne v2101 c0_i32_1055
  let v2106 : BitVec 1 := Scalar.andi v2105 v2102
  let v2107 : BitVec 32 := Scalar.addi v2101 v2100
  let v2108 : BitVec 32 := Scalar.select v2106 v2107 v2101
  let c132_i32_1058 : BitVec 32 := 132#32
  let v2109 : BitVec 32 := Scalar.muli v2108 c132_i32_1058
  let v2110 : BitVec 32 := Scalar.addi v2109 c0_i32_1059
  let v2111 : Index := Scalar.indexCast v2110
  let c0_1060 : Index := 0#32
  ![v2111.toNat, 0]
def k0_mult1 (k0_t4 : Fin k0_t4_loop.trips) : BitVec 32 :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_31 : BitVec 32 := 8#32
  let v29 : BitVec 32 := Scalar.muli v12 c8_i32_31
  v29
def k0_off30 (k0_t4 : Fin k0_t4_loop.trips) : Fin 2 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_31 : BitVec 32 := 8#32
  let v29 : BitVec 32 := Scalar.muli v12 c8_i32_31
  let v30 : BitVec 32 := v29
  let v31 : Index := Scalar.indexCast v30
  let c0_32 : Index := 0#32
  ![v31.toNat, 0]
def k0_mult2 (k0_t4 : Fin k0_t4_loop.trips) : BitVec 32 :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_41 : BitVec 32 := 8#32
  let v48 : BitVec 32 := Scalar.muli v12 c8_i32_41
  v48
def k0_off31 (k0_t4 : Fin k0_t4_loop.trips) : Fin 2 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_41 : BitVec 32 := 8#32
  let v48 : BitVec 32 := Scalar.muli v12 c8_i32_41
  let v49 : BitVec 32 := v48
  let v50 : Index := Scalar.indexCast v49
  let c128 : Index := 128#32
  ![v50.toNat, 128]
def k0_mult3 (k0_t4 : Fin k0_t4_loop.trips) : BitVec 32 :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_50 : BitVec 32 := 8#32
  let v67 : BitVec 32 := Scalar.muli v12 c8_i32_50
  v67
def k0_off32 (k0_t4 : Fin k0_t4_loop.trips) : Fin 2 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_50 : BitVec 32 := 8#32
  let v67 : BitVec 32 := Scalar.muli v12 c8_i32_50
  let v68 : BitVec 32 := v67
  let v69 : Index := Scalar.indexCast v68
  let c256 : Index := 256#32
  ![v69.toNat, 256]
def k0_mult4 (k0_t4 : Fin k0_t4_loop.trips) : BitVec 32 :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_59 : BitVec 32 := 8#32
  let v86 : BitVec 32 := Scalar.muli v12 c8_i32_59
  v86
def k0_off33 (k0_t4 : Fin k0_t4_loop.trips) : Fin 2 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_59 : BitVec 32 := 8#32
  let v86 : BitVec 32 := Scalar.muli v12 c8_i32_59
  let v87 : BitVec 32 := v86
  let v88 : Index := Scalar.indexCast v87
  let c384 : Index := 384#32
  ![v88.toNat, 384]
def k0_mult5 (k0_t4 : Fin k0_t4_loop.trips) : BitVec 32 :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_68 : BitVec 32 := 8#32
  let v105 : BitVec 32 := Scalar.muli v12 c8_i32_68
  v105
def k0_off34 (k0_t4 : Fin k0_t4_loop.trips) : Fin 2 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_68 : BitVec 32 := 8#32
  let v105 : BitVec 32 := Scalar.muli v12 c8_i32_68
  let v106 : BitVec 32 := v105
  let v107 : Index := Scalar.indexCast v106
  let c512 : Index := 512#32
  ![v107.toNat, 512]
def k0_mult6 (k0_t4 : Fin k0_t4_loop.trips) : BitVec 32 :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_77 : BitVec 32 := 8#32
  let v124 : BitVec 32 := Scalar.muli v12 c8_i32_77
  v124
def k0_off35 (k0_t4 : Fin k0_t4_loop.trips) : Fin 2 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_77 : BitVec 32 := 8#32
  let v124 : BitVec 32 := Scalar.muli v12 c8_i32_77
  let v125 : BitVec 32 := v124
  let v126 : Index := Scalar.indexCast v125
  let c640 : Index := 640#32
  ![v126.toNat, 640]
def k0_mult7 (k0_t4 : Fin k0_t4_loop.trips) : BitVec 32 :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_86 : BitVec 32 := 8#32
  let v143 : BitVec 32 := Scalar.muli v12 c8_i32_86
  v143
def k0_off36 (k0_t4 : Fin k0_t4_loop.trips) : Fin 2 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_86 : BitVec 32 := 8#32
  let v143 : BitVec 32 := Scalar.muli v12 c8_i32_86
  let v144 : BitVec 32 := v143
  let v145 : Index := Scalar.indexCast v144
  let c768 : Index := 768#32
  ![v145.toNat, 768]
def k0_mult8 (k0_t4 : Fin k0_t4_loop.trips) : BitVec 32 :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_95 : BitVec 32 := 8#32
  let v162 : BitVec 32 := Scalar.muli v12 c8_i32_95
  v162
def k0_off37 (k0_t4 : Fin k0_t4_loop.trips) : Fin 2 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_95 : BitVec 32 := 8#32
  let v162 : BitVec 32 := Scalar.muli v12 c8_i32_95
  let v163 : BitVec 32 := v162
  let v164 : Index := Scalar.indexCast v163
  let c896 : Index := 896#32
  ![v164.toNat, 896]
def k0_mult9 (k0_t4 : Fin k0_t4_loop.trips) : BitVec 32 :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_104 : BitVec 32 := 8#32
  let v181 : BitVec 32 := Scalar.muli v12 c8_i32_104
  v181
def k0_off38 (k0_t4 : Fin k0_t4_loop.trips) : Fin 2 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_104 : BitVec 32 := 8#32
  let v181 : BitVec 32 := Scalar.muli v12 c8_i32_104
  let v182 : BitVec 32 := v181
  let v183 : Index := Scalar.indexCast v182
  let c1024 : Index := 1024#32
  ![v183.toNat, 1024]
def k0_mult10 (k0_t4 : Fin k0_t4_loop.trips) : BitVec 32 :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_113 : BitVec 32 := 8#32
  let v200 : BitVec 32 := Scalar.muli v12 c8_i32_113
  v200
def k0_off39 (k0_t4 : Fin k0_t4_loop.trips) : Fin 2 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_113 : BitVec 32 := 8#32
  let v200 : BitVec 32 := Scalar.muli v12 c8_i32_113
  let v201 : BitVec 32 := v200
  let v202 : Index := Scalar.indexCast v201
  let c1152 : Index := 1152#32
  ![v202.toNat, 1152]
def k0_mult11 (k0_t4 : Fin k0_t4_loop.trips) : BitVec 32 :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_122 : BitVec 32 := 8#32
  let v219 : BitVec 32 := Scalar.muli v12 c8_i32_122
  v219
def k0_off40 (k0_t4 : Fin k0_t4_loop.trips) : Fin 2 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_122 : BitVec 32 := 8#32
  let v219 : BitVec 32 := Scalar.muli v12 c8_i32_122
  let v220 : BitVec 32 := v219
  let v221 : Index := Scalar.indexCast v220
  let c1280 : Index := 1280#32
  ![v221.toNat, 1280]
def k0_mult12 (k0_t4 : Fin k0_t4_loop.trips) : BitVec 32 :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_131 : BitVec 32 := 8#32
  let v238 : BitVec 32 := Scalar.muli v12 c8_i32_131
  v238
def k0_off41 (k0_t4 : Fin k0_t4_loop.trips) : Fin 2 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_131 : BitVec 32 := 8#32
  let v238 : BitVec 32 := Scalar.muli v12 c8_i32_131
  let v239 : BitVec 32 := v238
  let v240 : Index := Scalar.indexCast v239
  let c1408 : Index := 1408#32
  ![v240.toNat, 1408]
def k0_mult13 (k0_t4 : Fin k0_t4_loop.trips) : BitVec 32 :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_140 : BitVec 32 := 8#32
  let v257 : BitVec 32 := Scalar.muli v12 c8_i32_140
  v257
def k0_off42 (k0_t4 : Fin k0_t4_loop.trips) : Fin 2 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_140 : BitVec 32 := 8#32
  let v257 : BitVec 32 := Scalar.muli v12 c8_i32_140
  let v258 : BitVec 32 := v257
  let v259 : Index := Scalar.indexCast v258
  let c1536 : Index := 1536#32
  ![v259.toNat, 1536]
def k0_mult14 (k0_t4 : Fin k0_t4_loop.trips) : BitVec 32 :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_149 : BitVec 32 := 8#32
  let v276 : BitVec 32 := Scalar.muli v12 c8_i32_149
  v276
def k0_off43 (k0_t4 : Fin k0_t4_loop.trips) : Fin 2 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_149 : BitVec 32 := 8#32
  let v276 : BitVec 32 := Scalar.muli v12 c8_i32_149
  let v277 : BitVec 32 := v276
  let v278 : Index := Scalar.indexCast v277
  let c1664 : Index := 1664#32
  ![v278.toNat, 1664]
def k0_mult15 (k0_t4 : Fin k0_t4_loop.trips) : BitVec 32 :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_158 : BitVec 32 := 8#32
  let v295 : BitVec 32 := Scalar.muli v12 c8_i32_158
  v295
def k0_off44 (k0_t4 : Fin k0_t4_loop.trips) : Fin 2 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_158 : BitVec 32 := 8#32
  let v295 : BitVec 32 := Scalar.muli v12 c8_i32_158
  let v296 : BitVec 32 := v295
  let v297 : Index := Scalar.indexCast v296
  let c1792 : Index := 1792#32
  ![v297.toNat, 1792]
def k0_mult16 (k0_t4 : Fin k0_t4_loop.trips) : BitVec 32 :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_167 : BitVec 32 := 8#32
  let v314 : BitVec 32 := Scalar.muli v12 c8_i32_167
  v314
def k0_off45 (k0_t4 : Fin k0_t4_loop.trips) : Fin 2 → Nat :=
  let c0_i32_18 : BitVec 32 := 0#32
  let c0_i32_9 : BitVec 32 := 0#32
  let c1_i32_11 : BitVec 32 := 1#32
  let arg15 : BitVec 32 := Scf.iv c0_i32_9 c1_i32_11 k0_t4
  let c1_i32_17 : BitVec 32 := 1#32
  let v11 : BitVec 32 := Scalar.muli arg15 c1_i32_17
  let v12 : BitVec 32 := Scalar.addi c0_i32_18 v11
  let c8_i32_167 : BitVec 32 := 8#32
  let v314 : BitVec 32 := Scalar.muli v12 c8_i32_167
  let v315 : BitVec 32 := v314
  let v316 : Index := Scalar.indexCast v315
  let c1920 : Index := 1920#32
  ![v316.toNat, 1920]
@[reducible] def k0_t6_loop : Scf.Loop 32 :=
  let c0_i32_13 : BitVec 32 := 0#32
  let c16_i32_14 : BitVec 32 := 16#32
  let v10 : BitVec 32 := Scalar.addi c0_i32_13 c16_i32_14
  let c1_i32_15 : BitVec 32 := 1#32
  ⟨c0_i32_13, v10, c1_i32_15⟩
def k0_off46 (k0_t6 : Fin k0_t6_loop.trips) (c0_i32_20 : BitVec 32) : Fin 2 → Nat :=
  let c2_i32 : BitVec 32 := 2#32
  let c0_i32_18 : BitVec 32 := 0#32
  let c0_i32_13 : BitVec 32 := 0#32
  let c1_i32_15 : BitVec 32 := 1#32
  let arg15 : BitVec 32 := Scf.iv c0_i32_13 c1_i32_15 k0_t6
  let c1_i32_17 : BitVec 32 := 1#32
  let v11 : BitVec 32 := Scalar.muli arg15 c1_i32_17
  let v12 : BitVec 32 := Scalar.addi c0_i32_18 v11
  let c8_i32_19 : BitVec 32 := 8#32
  let v13 : BitVec 32 := Scalar.muli v12 c8_i32_19
  let v14 : BitVec 32 := Scalar.addi v13 c0_i32_20
  let v15 : BitVec 32 := Scalar.muli c2_i32 v14
  let v16 : Index := Scalar.indexCast v15
  let c0 : Index := 0#32
  ![v16.toNat, 0]
def k0_off47 (k0_t6 : Fin k0_t6_loop.trips) (c0_i32_22 : BitVec 32) : Fin 2 → Nat :=
  let c2_i32_23 : BitVec 32 := 2#32
  let c0_i32_18 : BitVec 32 := 0#32
  let c0_i32_13 : BitVec 32 := 0#32
  let c1_i32_15 : BitVec 32 := 1#32
  let arg15 : BitVec 32 := Scf.iv c0_i32_13 c1_i32_15 k0_t6
  let c1_i32_17 : BitVec 32 := 1#32
  let v11 : BitVec 32 := Scalar.muli arg15 c1_i32_17
  let v12 : BitVec 32 := Scalar.addi c0_i32_18 v11
  let c8_i32_21 : BitVec 32 := 8#32
  let v19 : BitVec 32 := Scalar.muli v12 c8_i32_21
  let v20 : BitVec 32 := Scalar.addi v19 c0_i32_22
  let v21 : BitVec 32 := Scalar.muli c2_i32_23 v20
  let c1_i32_24 : BitVec 32 := 1#32
  let v22 : BitVec 32 := Scalar.addi v21 c1_i32_24
  let v23 : Index := Scalar.indexCast v22
  let c0_25 : Index := 0#32
  ![v23.toNat, 0]
def k0_off48 (k0_t6 : Fin k0_t6_loop.trips) : Fin 3 → Nat :=
  let c0_26 : Index := 0#32
  let c0_i32_18 : BitVec 32 := 0#32
  let c0_i32_13 : BitVec 32 := 0#32
  let c1_i32_15 : BitVec 32 := 1#32
  let arg15 : BitVec 32 := Scf.iv c0_i32_13 c1_i32_15 k0_t6
  let c1_i32_17 : BitVec 32 := 1#32
  let v11 : BitVec 32 := Scalar.muli arg15 c1_i32_17
  let v12 : BitVec 32 := Scalar.addi c0_i32_18 v11
  let c128_i32 : BitVec 32 := 128#32
  let v27 : BitVec 32 := Scalar.muli v12 c128_i32
  let v28 : Index := Scalar.indexCast v27
  let c0_27 : Index := 0#32
  ![0, v28.toNat, 0]
def k0_off49 (k0_t6 : Fin k0_t6_loop.trips) : Fin 3 → Nat :=
  let c1 : Index := 1#32
  let c0_i32_18 : BitVec 32 := 0#32
  let c0_i32_13 : BitVec 32 := 0#32
  let c1_i32_15 : BitVec 32 := 1#32
  let arg15 : BitVec 32 := Scf.iv c0_i32_13 c1_i32_15 k0_t6
  let c1_i32_17 : BitVec 32 := 1#32
  let v11 : BitVec 32 := Scalar.muli arg15 c1_i32_17
  let v12 : BitVec 32 := Scalar.addi c0_i32_18 v11
  let c128_i32_28 : BitVec 32 := 128#32
  let v33 : BitVec 32 := Scalar.muli v12 c128_i32_28
  let v34 : Index := Scalar.indexCast v33
  let c0_29 : Index := 0#32
  ![1, v34.toNat, 0]
def k0_off50 (k0_t6 : Fin k0_t6_loop.trips) : Fin 3 → Nat :=
  let c2 : Index := 2#32
  let c0_i32_18 : BitVec 32 := 0#32
  let c0_i32_13 : BitVec 32 := 0#32
  let c1_i32_15 : BitVec 32 := 1#32
  let arg15 : BitVec 32 := Scf.iv c0_i32_13 c1_i32_15 k0_t6
  let c1_i32_17 : BitVec 32 := 1#32
  let v11 : BitVec 32 := Scalar.muli arg15 c1_i32_17
  let v12 : BitVec 32 := Scalar.addi c0_i32_18 v11
  let c128_i32_39 : BitVec 32 := 128#32
  let v52 : BitVec 32 := Scalar.muli v12 c128_i32_39
  let v53 : Index := Scalar.indexCast v52
  let c0_40 : Index := 0#32
  ![2, v53.toNat, 0]
def k0_off51 (k0_t6 : Fin k0_t6_loop.trips) : Fin 3 → Nat :=
  let c3 : Index := 3#32
  let c0_i32_18 : BitVec 32 := 0#32
  let c0_i32_13 : BitVec 32 := 0#32
  let c1_i32_15 : BitVec 32 := 1#32
  let arg15 : BitVec 32 := Scf.iv c0_i32_13 c1_i32_15 k0_t6
  let c1_i32_17 : BitVec 32 := 1#32
  let v11 : BitVec 32 := Scalar.muli arg15 c1_i32_17
  let v12 : BitVec 32 := Scalar.addi c0_i32_18 v11
  let c128_i32_41 : BitVec 32 := 128#32
  let v58 : BitVec 32 := Scalar.muli v12 c128_i32_41
  let v59 : Index := Scalar.indexCast v58
  let c0_42 : Index := 0#32
  ![3, v59.toNat, 0]
def k0_off52 (k0_t6 : Fin k0_t6_loop.trips) : Fin 3 → Nat :=
  let c4 : Index := 4#32
  let c0_i32_18 : BitVec 32 := 0#32
  let c0_i32_13 : BitVec 32 := 0#32
  let c1_i32_15 : BitVec 32 := 1#32
  let arg15 : BitVec 32 := Scf.iv c0_i32_13 c1_i32_15 k0_t6
  let c1_i32_17 : BitVec 32 := 1#32
  let v11 : BitVec 32 := Scalar.muli arg15 c1_i32_17
  let v12 : BitVec 32 := Scalar.addi c0_i32_18 v11
  let c128_i32_52 : BitVec 32 := 128#32
  let v77 : BitVec 32 := Scalar.muli v12 c128_i32_52
  let v78 : Index := Scalar.indexCast v77
  let c0_53 : Index := 0#32
  ![4, v78.toNat, 0]
def k0_off53 (k0_t6 : Fin k0_t6_loop.trips) : Fin 3 → Nat :=
  let c5 : Index := 5#32
  let c0_i32_18 : BitVec 32 := 0#32
  let c0_i32_13 : BitVec 32 := 0#32
  let c1_i32_15 : BitVec 32 := 1#32
  let arg15 : BitVec 32 := Scf.iv c0_i32_13 c1_i32_15 k0_t6
  let c1_i32_17 : BitVec 32 := 1#32
  let v11 : BitVec 32 := Scalar.muli arg15 c1_i32_17
  let v12 : BitVec 32 := Scalar.addi c0_i32_18 v11
  let c128_i32_54 : BitVec 32 := 128#32
  let v83 : BitVec 32 := Scalar.muli v12 c128_i32_54
  let v84 : Index := Scalar.indexCast v83
  let c0_55 : Index := 0#32
  ![5, v84.toNat, 0]
def k0_off54 (k0_t6 : Fin k0_t6_loop.trips) : Fin 3 → Nat :=
  let c6 : Index := 6#32
  let c0_i32_18 : BitVec 32 := 0#32
  let c0_i32_13 : BitVec 32 := 0#32
  let c1_i32_15 : BitVec 32 := 1#32
  let arg15 : BitVec 32 := Scf.iv c0_i32_13 c1_i32_15 k0_t6
  let c1_i32_17 : BitVec 32 := 1#32
  let v11 : BitVec 32 := Scalar.muli arg15 c1_i32_17
  let v12 : BitVec 32 := Scalar.addi c0_i32_18 v11
  let c128_i32_64 : BitVec 32 := 128#32
  let v102 : BitVec 32 := Scalar.muli v12 c128_i32_64
  let v103 : Index := Scalar.indexCast v102
  let c0_65 : Index := 0#32
  ![6, v103.toNat, 0]
def k0_off55 (k0_t6 : Fin k0_t6_loop.trips) : Fin 3 → Nat :=
  let c7 : Index := 7#32
  let c0_i32_18 : BitVec 32 := 0#32
  let c0_i32_13 : BitVec 32 := 0#32
  let c1_i32_15 : BitVec 32 := 1#32
  let arg15 : BitVec 32 := Scf.iv c0_i32_13 c1_i32_15 k0_t6
  let c1_i32_17 : BitVec 32 := 1#32
  let v11 : BitVec 32 := Scalar.muli arg15 c1_i32_17
  let v12 : BitVec 32 := Scalar.addi c0_i32_18 v11
  let c128_i32_66 : BitVec 32 := 128#32
  let v108 : BitVec 32 := Scalar.muli v12 c128_i32_66
  let v109 : Index := Scalar.indexCast v108
  let c0_67 : Index := 0#32
  ![7, v109.toNat, 0]
def k0_off56 (k0_t6 : Fin k0_t6_loop.trips) : Fin 3 → Nat :=
  let c8 : Index := 8#32
  let c0_i32_18 : BitVec 32 := 0#32
  let c0_i32_13 : BitVec 32 := 0#32
  let c1_i32_15 : BitVec 32 := 1#32
  let arg15 : BitVec 32 := Scf.iv c0_i32_13 c1_i32_15 k0_t6
  let c1_i32_17 : BitVec 32 := 1#32
  let v11 : BitVec 32 := Scalar.muli arg15 c1_i32_17
  let v12 : BitVec 32 := Scalar.addi c0_i32_18 v11
  let c128_i32_77 : BitVec 32 := 128#32
  let v127 : BitVec 32 := Scalar.muli v12 c128_i32_77
  let v128 : Index := Scalar.indexCast v127
  let c0_78 : Index := 0#32
  ![8, v128.toNat, 0]
def k0_off57 (k0_t6 : Fin k0_t6_loop.trips) : Fin 3 → Nat :=
  let c9 : Index := 9#32
  let c0_i32_18 : BitVec 32 := 0#32
  let c0_i32_13 : BitVec 32 := 0#32
  let c1_i32_15 : BitVec 32 := 1#32
  let arg15 : BitVec 32 := Scf.iv c0_i32_13 c1_i32_15 k0_t6
  let c1_i32_17 : BitVec 32 := 1#32
  let v11 : BitVec 32 := Scalar.muli arg15 c1_i32_17
  let v12 : BitVec 32 := Scalar.addi c0_i32_18 v11
  let c128_i32_79 : BitVec 32 := 128#32
  let v133 : BitVec 32 := Scalar.muli v12 c128_i32_79
  let v134 : Index := Scalar.indexCast v133
  let c0_80 : Index := 0#32
  ![9, v134.toNat, 0]
def k0_off58 (k0_t6 : Fin k0_t6_loop.trips) : Fin 3 → Nat :=
  let c10 : Index := 10#32
  let c0_i32_18 : BitVec 32 := 0#32
  let c0_i32_13 : BitVec 32 := 0#32
  let c1_i32_15 : BitVec 32 := 1#32
  let arg15 : BitVec 32 := Scf.iv c0_i32_13 c1_i32_15 k0_t6
  let c1_i32_17 : BitVec 32 := 1#32
  let v11 : BitVec 32 := Scalar.muli arg15 c1_i32_17
  let v12 : BitVec 32 := Scalar.addi c0_i32_18 v11
  let c128_i32_89 : BitVec 32 := 128#32
  let v152 : BitVec 32 := Scalar.muli v12 c128_i32_89
  let v153 : Index := Scalar.indexCast v152
  let c0_90 : Index := 0#32
  ![10, v153.toNat, 0]
def k0_off59 (k0_t6 : Fin k0_t6_loop.trips) : Fin 3 → Nat :=
  let c11 : Index := 11#32
  let c0_i32_18 : BitVec 32 := 0#32
  let c0_i32_13 : BitVec 32 := 0#32
  let c1_i32_15 : BitVec 32 := 1#32
  let arg15 : BitVec 32 := Scf.iv c0_i32_13 c1_i32_15 k0_t6
  let c1_i32_17 : BitVec 32 := 1#32
  let v11 : BitVec 32 := Scalar.muli arg15 c1_i32_17
  let v12 : BitVec 32 := Scalar.addi c0_i32_18 v11
  let c128_i32_91 : BitVec 32 := 128#32
  let v158 : BitVec 32 := Scalar.muli v12 c128_i32_91
  let v159 : Index := Scalar.indexCast v158
  let c0_92 : Index := 0#32
  ![11, v159.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S24576x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S24576x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x24x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x16x16x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S12x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S12x2048x512 : Shape := ⟨3, ![12, 2048, 512]⟩
abbrev S12x2048 : Shape := ⟨2, ![12, 2048]⟩
abbrev S512x2048 : Shape := ⟨2, ![512, 2048]⟩
abbrev S512 : Shape := ⟨1, ![512]⟩
abbrev S12x2048x1 : Shape := ⟨3, ![12, 2048, 1]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S2048x2048x1 : Shape := ⟨3, ![2048, 2048, 1]⟩
abbrev S512x2048x2048 : Shape := ⟨3, ![512, 2048, 2048]⟩
abbrev S512x12x2048 : Shape := ⟨3, ![512, 12, 2048]⟩
abbrev S1x1x512 : Shape := ⟨3, ![1, 1, 512]⟩
abbrev S12x4096x512 : Shape := ⟨3, ![12, 4096, 512]⟩
abbrev S12x2048x2048x512 : Shape := ⟨4, ![12, 2048, 2048, 512]⟩

abbrev nBuf : Space → Nat
  | .hbm => 67
  | .vmem => 6
  | .smem => 0
  | _ => 0

abbrev bufTy : (tb : Table) → Fin (tcTables nBuf tb) → BufTy
  | .hbm, ⟨0, _⟩ => ⟨S12x2048x512, .i8⟩
  | .hbm, ⟨1, _⟩ => ⟨S12x2048, .f32⟩
  | .hbm, ⟨2, _⟩ => ⟨S12x2048x512, .i8⟩
  | .hbm, ⟨3, _⟩ => ⟨S12x2048, .f32⟩
  | .hbm, ⟨4, _⟩ => ⟨S512x2048, .i8⟩
  | .hbm, ⟨5, _⟩ => ⟨S512, .f32⟩
  | .hbm, ⟨6, _⟩ => ⟨S12x2048x512, .bf16⟩
  | .hbm, ⟨7, _⟩ => ⟨S12x2048x512, .bf16⟩
  | .hbm, ⟨8, _⟩ => ⟨S512x2048, .bf16⟩
  | .hbm, ⟨9, _⟩ => ⟨S12x2048, .bf16⟩
  | .hbm, ⟨10, _⟩ => ⟨S12x2048x1, .bf16⟩
  | .hbm, ⟨11, _⟩ => ⟨S12x2048x512, .bf16⟩
  | .hbm, ⟨12, _⟩ => ⟨S12x2048x512, .bf16⟩
  | .hbm, ⟨13, _⟩ => ⟨S12x2048, .bf16⟩
  | .hbm, ⟨14, _⟩ => ⟨S12x2048x1, .bf16⟩
  | .hbm, ⟨15, _⟩ => ⟨S12x2048x512, .bf16⟩
  | .hbm, ⟨16, _⟩ => ⟨S12x2048x512, .bf16⟩
  | .hbm, ⟨17, _⟩ => ⟨S2048, .i32⟩
  | .hbm, ⟨18, _⟩ => ⟨S1x2048, .i32⟩
  | .hbm, ⟨19, _⟩ => ⟨S2048x1, .i32⟩
  | .hbm, ⟨20, _⟩ => ⟨S2048x2048, .i32⟩
  | .hbm, ⟨21, _⟩ => ⟨S2048x2048, .i32⟩
  | .hbm, ⟨22, _⟩ => ⟨S2048x2048, .i32⟩
  | .hbm, ⟨23, _⟩ => ⟨S_, .i32⟩
  | .hbm, ⟨24, _⟩ => ⟨S2048x2048, .i32⟩
  | .hbm, ⟨25, _⟩ => ⟨S2048x2048, .i1⟩
  | .hbm, ⟨26, _⟩ => ⟨S_, .i32⟩
  | .hbm, ⟨27, _⟩ => ⟨S2048x2048, .i32⟩
  | .hbm, ⟨28, _⟩ => ⟨S2048x2048, .i32⟩
  | .hbm, ⟨29, _⟩ => ⟨S_, .i32⟩
  | .hbm, ⟨30, _⟩ => ⟨S2048x2048, .i32⟩
  | .hbm, ⟨31, _⟩ => ⟨S2048x2048, .i1⟩
  | .hbm, ⟨32, _⟩ => ⟨S_, .i32⟩
  | .hbm, ⟨33, _⟩ => ⟨S2048x2048, .i32⟩
  | .hbm, ⟨34, _⟩ => ⟨S2048x2048, .i32⟩
  | .hbm, ⟨35, _⟩ => ⟨S2048x2048, .i32⟩
  | .hbm, ⟨36, _⟩ => ⟨S2048x2048x1, .i32⟩
  | .hbm, ⟨37, _⟩ => ⟨S512x2048x2048, .bf16⟩
  | .hbm, ⟨38, _⟩ => ⟨S_, .i32⟩
  | .hbm, ⟨39, _⟩ => ⟨S_, .bf16⟩
  | .hbm, ⟨40, _⟩ => ⟨S512x2048x2048, .i1⟩
  | .hbm, ⟨41, _⟩ => ⟨S512x2048x2048, .bf16⟩
  | .hbm, ⟨42, _⟩ => ⟨S512x2048x2048, .bf16⟩
  | .hbm, ⟨43, _⟩ => ⟨S512x12x2048, .f32⟩
  | .hbm, ⟨44, _⟩ => ⟨S12x2048x512, .f32⟩
  | .hbm, ⟨45, _⟩ => ⟨S1x1x512, .f32⟩
  | .hbm, ⟨46, _⟩ => ⟨S12x2048x512, .f32⟩
  | .hbm, ⟨47, _⟩ => ⟨S12x2048x512, .f32⟩
  | .hbm, ⟨48, _⟩ => ⟨S12x2048x512, .bf16⟩
  | .hbm, ⟨49, _⟩ => ⟨S_, .i32⟩
  | .hbm, ⟨50, _⟩ => ⟨S_, .bf16⟩
  | .hbm, ⟨51, _⟩ => ⟨S12x4096x512, .bf16⟩
  | .hbm, ⟨52, _⟩ => ⟨S2048x1, .i32⟩
  | .hbm, ⟨53, _⟩ => ⟨S1x2048, .i32⟩
  | .hbm, ⟨54, _⟩ => ⟨S2048x2048, .i32⟩
  | .hbm, ⟨55, _⟩ => ⟨S2048x2048, .i32⟩
  | .hbm, ⟨56, _⟩ => ⟨S2048x2048, .i32⟩
  | .hbm, ⟨57, _⟩ => ⟨S_, .i32⟩
  | .hbm, ⟨58, _⟩ => ⟨S2048x2048, .i32⟩
  | .hbm, ⟨59, _⟩ => ⟨S2048x2048, .i1⟩
  | .hbm, ⟨60, _⟩ => ⟨S_, .i32⟩
  | .hbm, ⟨61, _⟩ => ⟨S2048x2048, .i32⟩
  | .hbm, ⟨62, _⟩ => ⟨S2048x2048, .i32⟩
  | .hbm, ⟨63, _⟩ => ⟨S2048x2048, .i32⟩
  | .hbm, ⟨64, _⟩ => ⟨S2048x2048x1, .i32⟩
  | .hbm, ⟨65, _⟩ => ⟨S12x2048x2048x512, .bf16⟩
  | .hbm, ⟨66, _⟩ => ⟨S512x2048, .f32⟩
  | .local _ .vmem, ⟨0, _⟩ => ⟨S12x2048x512, .i8⟩
  | .local _ .vmem, ⟨1, _⟩ => ⟨S12x2048x512, .i8⟩
  | .local _ .vmem, ⟨2, _⟩ => ⟨S512x2048, .i8⟩
  | .local _ .vmem, ⟨3, _⟩ => ⟨S12x2048x512, .bf16⟩
  | .local _ .vmem, ⟨4, _⟩ => ⟨S12x2048x512, .bf16⟩
  | .local _ .vmem, ⟨5, _⟩ => ⟨S512x2048, .bf16⟩
  | _, _ => ⟨S12x2048x512, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_c_0 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_3 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_4 : Ref sig .tc := ⟨.hbm, 49, rfl⟩
abbrev main_call1_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_5 : Ref sig .tc := ⟨.hbm, 57, rfl⟩
abbrev main_v39 : Ref sig .tc := ⟨.hbm, 58, rfl⟩
abbrev main_v40 : Ref sig .tc := ⟨.hbm, 59, rfl⟩
abbrev main_c_6 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S12x2048x512 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x2048x512 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2048 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelLoops.lean ====
/-
  The counted loops of `Kernel` gone through once per trip, with invariants that say only which buffers the loop owns:
  every buffer it reads at its contents, every buffer it writes at some contents. Enough for the frame claim.
-/
module

public import proofs.«01_k».proof.Proof.Gen.Kernel.Loops
public import Idealize.ShloMosaic.Lib.Tactic

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A memref's buffer on core `c`, whole, at the contents `f`. -/
abbrev pt (c : Dev nD) {sp : Space} {S : Shape} {e : EltTy} (M : Memref sig .tc sp S e)
    (f : BufTy.Contents (Elt F) M.view.ty) : sProp 𝕄 :=
  M.view.loc (c : Thread nD τ) ↦[M.view.set]{fullShare} f
/-- The same at some contents. -/
abbrev some' (c : Dev nD) {sp : Space} {S : Shape} {e : EltTy} (M : Memref sig .tc sp S e) : sProp 𝕄 :=
  iprop(∃ f, pt (F := F) c M f)

variable (𝒱 : Variants) (c : Dev nD) (bd : Option 𝒱.V) (E : Set ℕ) (i : grid0.Coords)
  (arg1 : Memref sig .tc .smem S1x1x128 .f32) (harg1 : arg1.IsWhole)
  (arg2 : Memref sig .tc .vmem S24576x128 .i8) (harg2 : arg2.IsWhole)
  (arg3 : Memref sig .tc .vmem S24576x128 .i8) (harg3 : arg3.IsWhole)
  (arg4 : Memref sig .tc .vmem S128x24x128 .i32) (harg4 : arg4.IsWhole)
  (arg5 : Memref sig .tc .vmem S32x1024 .bf16) (harg5 : arg5.IsWhole)
  (arg6 : Memref sig .tc .vmem S4x16x16x128 .bf16) (harg6 : arg6.IsWhole)
  (arg7 : Memref sig .tc .vmem S12x2048x128 .bf16) (harg7 : arg7.IsWhole)
  (arg8 : Memref sig .tc .vmem S128x2048 .f32) (harg8 : arg8.IsWhole)
  (arg9 : Memref sig .tc .vmem S8704x128 .i32) (harg9 : arg9.IsWhole)
  (arg10 : Memref sig .tc .vmem S8704x128 .i32) (harg10 : arg10.IsWhole)
  (arg11 : Memref sig .tc .vmem S6192x128 .i32) (harg11 : arg11.IsWhole)
  (arg12 : Memref sig .tc .vmem S33792x128 .f32) (harg12 : arg12.IsWhole)
  (arg13 : Memref sig .tc .vmem S1056x128 .f32) (harg13 : arg13.IsWhole)
  (arg14 : Memref sig .tc .vmem S128x128 .i32) (harg14 : arg14.IsWhole)

set_option warn.classDefReducibility false

/-- The loop that stages `dy`: it reads `arg3` and writes `arg14` and `arg9`. -/
@[sl_loop] def loopInv_k0_t1 (X3 : BufTy.Contents (Elt F) arg3.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 where
  inv _ _ := iprop(pt c arg3 X3 ∗ some' c arg14 ∗ some' c arg9)
  step k acc := by
    unfold k0_t1_body
    iintro ⟨H3, ⟨%f14, H14⟩, ⟨%f9, H9⟩⟩
    sl_exec
    sl_step
    isplitl [H3]; · iexact H3
    isplitl [H14]; · iexists _; iexact H14
    iexists _; iexact H9

/-- The loop that gathers `x`: it reads `arg11` and writes `arg10`. -/
@[sl_loop] def loopInv_k0_t3 (v7 : IVec S8x128 1) (X11 : BufTy.Contents (Elt F) arg11.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 v7 where
  inv _ _ := iprop(pt c arg11 X11 ∗ some' c arg10)
  step k acc := by
    unfold k0_t3_body
    iintro ⟨H11, ⟨%f10, H10⟩⟩
    sl_exec
    sl_step
    isplitl [H11]; · iexact H11
    iexists _; iexact H10

/-- Where one `dac` access of channel `k0_t5` of its group lies. -/
theorem off29_eq : ∀ (k0_t4 : Fin k0_t4_loop.trips) (k0_t5 : Fin k0_t5_loop.trips) (r : Fin 16),
    k0_off29 k0_t4 k0_t5 (BitVec.ofNat 32 (8 * r.val)) = ![132 * k0_t5.val + 8 * r.val, 0] := by decide +kernel

instance (k0_t4 : Fin k0_t4_loop.trips) (k0_t5 : Fin k0_t5_loop.trips) : ClosedOff (k0_off29 k0_t4 k0_t5 (BitVec.ofNat 32 0)) := ⟨![132 * k0_t5.val + 8 * 0, 0], off29_eq k0_t4 k0_t5 ⟨0, by decide⟩⟩
instance (k0_t4 : Fin k0_t4_loop.trips) (k0_t5 : Fin k0_t5_loop.trips) : ClosedOff (k0_off29 k0_t4 k0_t5 (BitVec.ofNat 32 8)) := ⟨![132 * k0_t5.val + 8 * 1, 0], off29_eq k0_t4 k0_t5 ⟨1, by decide⟩⟩
instance (k0_t4 : Fin k0_t4_loop.trips) (k0_t5 : Fin k0_t5_loop.trips) : ClosedOff (k0_off29 k0_t4 k0_t5 (BitVec.ofNat 32 16)) := ⟨![132 * k0_t5.val + 8 * 2, 0], off29_eq k0_t4 k0_t5 ⟨2, by decide⟩⟩
instance (k0_t4 : Fin k0_t4_loop.trips) (k0_t5 : Fin k0_t5_loop.trips) : ClosedOff (k0_off29 k0_t4 k0_t5 (BitVec.ofNat 32 24)) := ⟨![132 * k0_t5.val + 8 * 3, 0], off29_eq k0_t4 k0_t5 ⟨3, by decide⟩⟩
instance (k0_t4 : Fin k0_t4_loop.trips) (k0_t5 : Fin k0_t5_loop.trips) : ClosedOff (k0_off29 k0_t4 k0_t5 (BitVec.ofNat 32 32)) := ⟨![132 * k0_t5.val + 8 * 4, 0], off29_eq k0_t4 k0_t5 ⟨4, by decide⟩⟩
instance (k0_t4 : Fin k0_t4_loop.trips) (k0_t5 : Fin k0_t5_loop.trips) : ClosedOff (k0_off29 k0_t4 k0_t5 (BitVec.ofNat 32 40)) := ⟨![132 * k0_t5.val + 8 * 5, 0], off29_eq k0_t4 k0_t5 ⟨5, by decide⟩⟩
instance (k0_t4 : Fin k0_t4_loop.trips) (k0_t5 : Fin k0_t5_loop.trips) : ClosedOff (k0_off29 k0_t4 k0_t5 (BitVec.ofNat 32 48)) := ⟨![132 * k0_t5.val + 8 * 6, 0], off29_eq k0_t4 k0_t5 ⟨6, by decide⟩⟩
instance (k0_t4 : Fin k0_t4_loop.trips) (k0_t5 : Fin k0_t5_loop.trips) : ClosedOff (k0_off29 k0_t4 k0_t5 (BitVec.ofNat 32 56)) := ⟨![132 * k0_t5.val + 8 * 7, 0], off29_eq k0_t4 k0_t5 ⟨7, by decide⟩⟩
instance (k0_t4 : Fin k0_t4_loop.trips) (k0_t5 : Fin k0_t5_loop.trips) : ClosedOff (k0_off29 k0_t4 k0_t5 (BitVec.ofNat 32 64)) := ⟨![132 * k0_t5.val + 8 * 8, 0], off29_eq k0_t4 k0_t5 ⟨8, by decide⟩⟩
instance (k0_t4 : Fin k0_t4_loop.trips) (k0_t5 : Fin k0_t5_loop.trips) : ClosedOff (k0_off29 k0_t4 k0_t5 (BitVec.ofNat 32 72)) := ⟨![132 * k0_t5.val + 8 * 9, 0], off29_eq k0_t4 k0_t5 ⟨9, by decide⟩⟩
instance (k0_t4 : Fin k0_t4_loop.trips) (k0_t5 : Fin k0_t5_loop.trips) : ClosedOff (k0_off29 k0_t4 k0_t5 (BitVec.ofNat 32 80)) := ⟨![132 * k0_t5.val + 8 * 10, 0], off29_eq k0_t4 k0_t5 ⟨10, by decide⟩⟩
instance (k0_t4 : Fin k0_t4_loop.trips) (k0_t5 : Fin k0_t5_loop.trips) : ClosedOff (k0_off29 k0_t4 k0_t5 (BitVec.ofNat 32 88)) := ⟨![132 * k0_t5.val + 8 * 11, 0], off29_eq k0_t4 k0_t5 ⟨11, by decide⟩⟩
instance (k0_t4 : Fin k0_t4_loop.trips) (k0_t5 : Fin k0_t5_loop.trips) : ClosedOff (k0_off29 k0_t4 k0_t5 (BitVec.ofNat 32 96)) := ⟨![132 * k0_t5.val + 8 * 12, 0], off29_eq k0_t4 k0_t5 ⟨12, by decide⟩⟩
instance (k0_t4 : Fin k0_t4_loop.trips) (k0_t5 : Fin k0_t5_loop.trips) : ClosedOff (k0_off29 k0_t4 k0_t5 (BitVec.ofNat 32 104)) := ⟨![132 * k0_t5.val + 8 * 13, 0], off29_eq k0_t4 k0_t5 ⟨13, by decide⟩⟩
instance (k0_t4 : Fin k0_t4_loop.trips) (k0_t5 : Fin k0_t5_loop.trips) : ClosedOff (k0_off29 k0_t4 k0_t5 (BitVec.ofNat 32 112)) := ⟨![132 * k0_t5.val + 8 * 14, 0], off29_eq k0_t4 k0_t5 ⟨14, by decide⟩⟩
instance (k0_t4 : Fin k0_t4_loop.trips) (k0_t5 : Fin k0_t5_loop.trips) : ClosedOff (k0_off29 k0_t4 k0_t5 (BitVec.ofNat 32 120)) := ⟨![132 * k0_t5.val + 8 * 15, 0], off29_eq k0_t4 k0_t5 ⟨15, by decide⟩⟩

/-- The loop over the eight channels of a group: it writes `arg12` and `arg13`. -/
@[sl_loop] def loopInv_k0_t5 (a b : BitVec 32) (k0_t4 : Fin k0_t4_loop.trips) (v12 : BitVec 32)
    (X1 : BufTy.Contents (Elt F) arg1.view.ty) (X4 : BufTy.Contents (Elt F) arg4.view.ty)
    (X5 : BufTy.Contents (Elt F) arg5.view.ty) (X6 : BufTy.Contents (Elt F) arg6.view.ty)
    (X9 : BufTy.Contents (Elt F) arg9.view.ty) (X10 : BufTy.Contents (Elt F) arg10.view.ty) :
    LoopInvTy_k0_t5 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 a b k0_t4 v12 where
  inv _ _ := iprop(pt c arg1 X1 ∗ pt c arg4 X4 ∗ pt c arg5 X5 ∗ pt c arg6 X6 ∗ pt c arg9 X9 ∗ pt c arg10 X10
    ∗ some' c arg12 ∗ some' c arg13)
  step k acc := by
    unfold k0_t5_body
    iintro ⟨H1, H4, H5, H6, H9, H10, ⟨%f12, H12⟩, ⟨%f13, H13⟩⟩
    sl_exec
    sl_step
    isplitl [H1]; · iexact H1
    isplitl [H4]; · iexact H4
    isplitl [H5]; · iexact H5
    isplitl [H6]; · iexact H6
    isplitl [H9]; · iexact H9
    isplitl [H10]; · iexact H10
    isplitl [H12]; · iexists _; iexact H12
    iexists _; iexact H13

/-- The loop over the sixteen groups of channels: per group the eight channels, then the group's rows of `dh`. -/
@[sl_loop] def loopInv_k0_t4
    (X1 : BufTy.Contents (Elt F) arg1.view.ty) (X4 : BufTy.Contents (Elt F) arg4.view.ty)
    (X5 : BufTy.Contents (Elt F) arg5.view.ty) (X6 : BufTy.Contents (Elt F) arg6.view.ty)
    (X9 : BufTy.Contents (Elt F) arg9.view.ty) (X10 : BufTy.Contents (Elt F) arg10.view.ty) :
    LoopInvTy_k0_t4 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 where
  inv _ _ := iprop(pt c arg1 X1 ∗ pt c arg4 X4 ∗ pt c arg5 X5 ∗ pt c arg6 X6 ∗ pt c arg9 X9 ∗ pt c arg10 X10
    ∗ some' c arg12 ∗ some' c arg13 ∗ some' c arg8)
  step k acc := by
    unfold k0_t4_body
    iintro ⟨H1, H4, H5, H6, H9, H10, ⟨%f12, H12⟩, ⟨%f13, H13⟩, ⟨%f8, H8⟩⟩
    sl_exec
    sl_step
    isplitl [H1]; · iexact H1
    isplitl [H4]; · iexact H4
    isplitl [H5]; · iexact H5
    isplitl [H6]; · iexact H6
    isplitl [H9]; · iexact H9
    isplitl [H10]; · iexact H10
    isplitl [H12]; · iexists _; iexact H12
    isplitl [H13]; · iexists _; iexact H13
    iexists _; iexact H8

end Cert.Kernel.Hand
end
-- ==== Proof.KernelFrame.lean ====
/-
  The frame of `Kernel`: the program terminates, nothing faults, its arguments end unchanged and every counter ends at zero.
  Nothing is said of what the kernel leaves in its windows: the argument arrays are no window's array (host operations
  lay them out first), so every window is forgotten and the body runs from buffers at any contents to buffers at any.
-/
module

public import proofs.«01_k».proof.Proof.KernelLoops
public import proofs.«01_k».proof.Proof.Gen.Kernel.Frame
public import Idealize.ShloMosaic.Lib.Pipeline.Frame

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The kernel's body, from its fourteen buffers at any contents to the same. -/
theorem kernelRun (c : Dev nD) (i : grid0.Coords) (arg1 : Memref sig .tc .smem S1x1x128 .f32) (harg1 : arg1.IsWhole)
    (arg2 : Memref sig .tc .vmem S24576x128 .i8) (harg2 : arg2.IsWhole)
    (arg3 : Memref sig .tc .vmem S24576x128 .i8) (harg3 : arg3.IsWhole)
    (arg4 : Memref sig .tc .vmem S128x24x128 .i32) (harg4 : arg4.IsWhole)
    (arg5 : Memref sig .tc .vmem S32x1024 .bf16) (harg5 : arg5.IsWhole)
    (arg6 : Memref sig .tc .vmem S4x16x16x128 .bf16) (harg6 : arg6.IsWhole)
    (arg7 : Memref sig .tc .vmem S12x2048x128 .bf16) (harg7 : arg7.IsWhole)
    (arg8 : Memref sig .tc .vmem S128x2048 .f32) (harg8 : arg8.IsWhole)
    (arg9 : Memref sig .tc .vmem S8704x128 .i32) (harg9 : arg9.IsWhole)
    (arg10 : Memref sig .tc .vmem S8704x128 .i32) (harg10 : arg10.IsWhole)
    (arg11 : Memref sig .tc .vmem S6192x128 .i32) (harg11 : arg11.IsWhole)
    (arg12 : Memref sig .tc .vmem S33792x128 .f32) (harg12 : arg12.IsWhole)
    (arg13 : Memref sig .tc .vmem S1056x128 .f32) (harg13 : arg13.IsWhole)
    (arg14 : Memref sig .tc .vmem S128x128 .i32) (harg14 : arg14.IsWhole)
    (K : PUnit → sProp 𝕄) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) Set.univ (cc0__body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__body_eq_skeleton]; unfold cc0__body_skel
  unfold owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  sl_exec
  sl_step
  iapply Hk
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl

  iexists _, _; isplitr; swap; · iexact H14
  ipureintro; rfl

/-- Every window is forgotten. -/
def forgets0 : Fin 8 → Bool := fun _ => true

/-- The proof data: the arrays as the region finds them, the contents the body leaves unnamed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- The invariant between two points: the six scratch buffers and the generator register, at anything. -/
theorem Phi_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc ∗ (∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d))
def bodyPost (c : Dev nD) (t : Fin cfg0.N) : sProp 𝕄 :=
  iprop((dats m 0 c).Φ t.succ ∗ (dats m 0 c).owesAt () t.succ ∗ (∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq]
  iintro ⟨⟨⟨S0, S1, S2, S3, S4, S5⟩, Hg⟩, HO, W0, W1, W2, W3, W4, W5, W6, W7⟩
  iapply (kernelRun c (grid0.coords t) (st0_0 t) _ (st0_1 t) _ (st0_2 t) _ (st0_3 t) _ (st0_4 t) _ (st0_5 t) _ (st0_6 t) _ (st0_7 t) _ (Memref.whole cc0_scratch0) _ (Memref.whole cc0_scratch1) _ (Memref.whole cc0_scratch2) _ (Memref.whole cc0_scratch3) _ (Memref.whole cc0_scratch4) _ (Memref.whole cc0_scratch5) _ _)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [S0]; · iexact S0
  isplitl [S1]; · iexact S1
  isplitl [S2]; · iexact S2
  isplitl [S3]; · iexact S3
  isplitl [S4]; · iexact S4
  isplitl [S5]; · iexact S5
  iintro ⟨W0, W1, W2, W3, W4, W5, W6, W7, S0, S1, S2, S3, S4, S5⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  iexact W7

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- Every weakly fair execution of @main terminates without a fault, with every unscoped buffer that is no window's array
    as the region found it and every counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim: the arguments end unchanged, and every counter ends at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c)⟩, h.2⟩) (run_main m ρ)

end Cert.Kernel.Hand
end
-- ==== Proof.KernelIdealLoops.lean ====
/-
  The counted loops of `KernelIdeal` gone through once per trip, with invariants that say only which buffers the loop owns:
  every buffer it reads at its contents, every buffer it writes at some contents. Enough for the frame claim.
-/
module

public import proofs.«01_k».proof.Proof.Gen.KernelIdeal.Loops
public import Idealize.ShloMosaic.Lib.Tactic

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A memref's buffer on core `c`, whole, at the contents `f`. -/
abbrev pt (c : Dev nD) {sp : Space} {S : Shape} {e : EltTy} (M : Memref sig .tc sp S e)
    (f : BufTy.Contents (Elt F) M.view.ty) : sProp 𝕄 :=
  M.view.loc (c : Thread nD τ) ↦[M.view.set]{fullShare} f
/-- The same at some contents. -/
abbrev some' (c : Dev nD) {sp : Space} {S : Shape} {e : EltTy} (M : Memref sig .tc sp S e) : sProp 𝕄 :=
  iprop(∃ f, pt (F := F) c M f)

variable (𝒱 : Variants) (c : Dev nD) (bd : Option 𝒱.V) (E : Set ℕ) (i : grid0.Coords)
  (arg1 : Memref sig .tc .smem S1x1x128 .f32) (harg1 : arg1.IsWhole)
  (arg2 : Memref sig .tc .vmem S24576x128 .i8) (harg2 : arg2.IsWhole)
  (arg3 : Memref sig .tc .vmem S24576x128 .i8) (harg3 : arg3.IsWhole)
  (arg4 : Memref sig .tc .vmem S128x24x128 .i32) (harg4 : arg4.IsWhole)
  (arg5 : Memref sig .tc .vmem S32x1024 .bf16) (harg5 : arg5.IsWhole)
  (arg6 : Memref sig .tc .vmem S4x16x16x128 .bf16) (harg6 : arg6.IsWhole)
  (arg7 : Memref sig .tc .vmem S12x2048x128 .bf16) (harg7 : arg7.IsWhole)
  (arg8 : Memref sig .tc .vmem S128x2048 .f32) (harg8 : arg8.IsWhole)
  (arg9 : Memref sig .tc .vmem S8704x128 .i32) (harg9 : arg9.IsWhole)
  (arg10 : Memref sig .tc .vmem S8704x128 .i32) (harg10 : arg10.IsWhole)
  (arg11 : Memref sig .tc .vmem S6192x128 .i32) (harg11 : arg11.IsWhole)
  (arg12 : Memref sig .tc .vmem S33792x128 .f32) (harg12 : arg12.IsWhole)
  (arg13 : Memref sig .tc .vmem S1056x128 .f32) (harg13 : arg13.IsWhole)
  (arg14 : Memref sig .tc .vmem S128x128 .i32) (harg14 : arg14.IsWhole)

set_option warn.classDefReducibility false

/-- The loop that stages `dy`: it reads `arg3` and writes `arg14` and `arg9`. -/
@[sl_loop] def loopInv_k0_t1 (X3 : BufTy.Contents (Elt F) arg3.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 where
  inv _ _ := iprop(pt c arg3 X3 ∗ some' c arg14 ∗ some' c arg9)
  step k acc := by
    unfold k0_t1_body
    iintro ⟨H3, ⟨%f14, H14⟩, ⟨%f9, H9⟩⟩
    sl_exec
    sl_step
    isplitl [H3]; · iexact H3
    isplitl [H14]; · iexists _; iexact H14
    iexists _; iexact H9

/-- The loop that stages `x`: it reads `arg2` and writes `arg11`. -/
@[sl_loop] def loopInv_k0_t2 (X2 : BufTy.Contents (Elt F) arg2.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 where
  inv _ _ := iprop(pt c arg2 X2 ∗ some' c arg11)
  step k acc := by
    unfold k0_t2_body
    iintro ⟨H2, ⟨%f11, H11⟩⟩
    sl_exec
    sl_step
    isplitl [H2]; · iexact H2
    iexists _; iexact H11

/-- The loop that gathers `x`: it reads `arg11` and writes `arg10`. -/
@[sl_loop] def loopInv_k0_t3 (v7 : IVec S8x128 1) (X11 : BufTy.Contents (Elt F) arg11.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 v7 where
  inv _ _ := iprop(pt c arg11 X11 ∗ some' c arg10)
  step k acc := by
    unfold k0_t3_body
    iintro ⟨H11, ⟨%f10, H10⟩⟩
    sl_exec
    sl_step
    isplitl [H11]; · iexact H11
    iexists _; iexact H10

/-- Where one `dac` access of channel `k0_t5` of its group lies. -/
theorem off29_eq : ∀ (k0_t4 : Fin k0_t4_loop.trips) (k0_t5 : Fin k0_t5_loop.trips) (r : Fin 16),
    k0_off29 k0_t4 k0_t5 (BitVec.ofNat 32 (8 * r.val)) = ![132 * k0_t5.val + 8 * r.val, 0] := by decide +kernel

instance (k0_t4 : Fin k0_t4_loop.trips) (k0_t5 : Fin k0_t5_loop.trips) : ClosedOff (k0_off29 k0_t4 k0_t5 (BitVec.ofNat 32 0)) := ⟨![132 * k0_t5.val + 8 * 0, 0], off29_eq k0_t4 k0_t5 ⟨0, by decide⟩⟩
instance (k0_t4 : Fin k0_t4_loop.trips) (k0_t5 : Fin k0_t5_loop.trips) : ClosedOff (k0_off29 k0_t4 k0_t5 (BitVec.ofNat 32 8)) := ⟨![132 * k0_t5.val + 8 * 1, 0], off29_eq k0_t4 k0_t5 ⟨1, by decide⟩⟩
instance (k0_t4 : Fin k0_t4_loop.trips) (k0_t5 : Fin k0_t5_loop.trips) : ClosedOff (k0_off29 k0_t4 k0_t5 (BitVec.ofNat 32 16)) := ⟨![132 * k0_t5.val + 8 * 2, 0], off29_eq k0_t4 k0_t5 ⟨2, by decide⟩⟩
instance (k0_t4 : Fin k0_t4_loop.trips) (k0_t5 : Fin k0_t5_loop.trips) : ClosedOff (k0_off29 k0_t4 k0_t5 (BitVec.ofNat 32 24)) := ⟨![132 * k0_t5.val + 8 * 3, 0], off29_eq k0_t4 k0_t5 ⟨3, by decide⟩⟩
instance (k0_t4 : Fin k0_t4_loop.trips) (k0_t5 : Fin k0_t5_loop.trips) : ClosedOff (k0_off29 k0_t4 k0_t5 (BitVec.ofNat 32 32)) := ⟨![132 * k0_t5.val + 8 * 4, 0], off29_eq k0_t4 k0_t5 ⟨4, by decide⟩⟩
instance (k0_t4 : Fin k0_t4_loop.trips) (k0_t5 : Fin k0_t5_loop.trips) : ClosedOff (k0_off29 k0_t4 k0_t5 (BitVec.ofNat 32 40)) := ⟨![132 * k0_t5.val + 8 * 5, 0], off29_eq k0_t4 k0_t5 ⟨5, by decide⟩⟩
instance (k0_t4 : Fin k0_t4_loop.trips) (k0_t5 : Fin k0_t5_loop.trips) : ClosedOff (k0_off29 k0_t4 k0_t5 (BitVec.ofNat 32 48)) := ⟨![132 * k0_t5.val + 8 * 6, 0], off29_eq k0_t4 k0_t5 ⟨6, by decide⟩⟩
instance (k0_t4 : Fin k0_t4_loop.trips) (k0_t5 : Fin k0_t5_loop.trips) : ClosedOff (k0_off29 k0_t4 k0_t5 (BitVec.ofNat 32 56)) := ⟨![132 * k0_t5.val + 8 * 7, 0], off29_eq k0_t4 k0_t5 ⟨7, by decide⟩⟩
instance (k0_t4 : Fin k0_t4_loop.trips) (k0_t5 : Fin k0_t5_loop.trips) : ClosedOff (k0_off29 k0_t4 k0_t5 (BitVec.ofNat 32 64)) := ⟨![132 * k0_t5.val + 8 * 8, 0], off29_eq k0_t4 k0_t5 ⟨8, by decide⟩⟩
instance (k0_t4 : Fin k0_t4_loop.trips) (k0_t5 : Fin k0_t5_loop.trips) : ClosedOff (k0_off29 k0_t4 k0_t5 (BitVec.ofNat 32 72)) := ⟨![132 * k0_t5.val + 8 * 9, 0], off29_eq k0_t4 k0_t5 ⟨9, by decide⟩⟩
instance (k0_t4 : Fin k0_t4_loop.trips) (k0_t5 : Fin k0_t5_loop.trips) : ClosedOff (k0_off29 k0_t4 k0_t5 (BitVec.ofNat 32 80)) := ⟨![132 * k0_t5.val + 8 * 10, 0], off29_eq k0_t4 k0_t5 ⟨10, by decide⟩⟩
instance (k0_t4 : Fin k0_t4_loop.trips) (k0_t5 : Fin k0_t5_loop.trips) : ClosedOff (k0_off29 k0_t4 k0_t5 (BitVec.ofNat 32 88)) := ⟨![132 * k0_t5.val + 8 * 11, 0], off29_eq k0_t4 k0_t5 ⟨11, by decide⟩⟩
instance (k0_t4 : Fin k0_t4_loop.trips) (k0_t5 : Fin k0_t5_loop.trips) : ClosedOff (k0_off29 k0_t4 k0_t5 (BitVec.ofNat 32 96)) := ⟨![132 * k0_t5.val + 8 * 12, 0], off29_eq k0_t4 k0_t5 ⟨12, by decide⟩⟩
instance (k0_t4 : Fin k0_t4_loop.trips) (k0_t5 : Fin k0_t5_loop.trips) : ClosedOff (k0_off29 k0_t4 k0_t5 (BitVec.ofNat 32 104)) := ⟨![132 * k0_t5.val + 8 * 13, 0], off29_eq k0_t4 k0_t5 ⟨13, by decide⟩⟩
instance (k0_t4 : Fin k0_t4_loop.trips) (k0_t5 : Fin k0_t5_loop.trips) : ClosedOff (k0_off29 k0_t4 k0_t5 (BitVec.ofNat 32 112)) := ⟨![132 * k0_t5.val + 8 * 14, 0], off29_eq k0_t4 k0_t5 ⟨14, by decide⟩⟩
instance (k0_t4 : Fin k0_t4_loop.trips) (k0_t5 : Fin k0_t5_loop.trips) : ClosedOff (k0_off29 k0_t4 k0_t5 (BitVec.ofNat 32 120)) := ⟨![132 * k0_t5.val + 8 * 15, 0], off29_eq k0_t4 k0_t5 ⟨15, by decide⟩⟩

/-- The loop over the eight channels of a group: it writes `arg12` and `arg13`. -/
@[sl_loop] def loopInv_k0_t5 (a b : BitVec 32) (k0_t4 : Fin k0_t4_loop.trips) (v12 : BitVec 32)
    (X1 : BufTy.Contents (Elt F) arg1.view.ty) (X4 : BufTy.Contents (Elt F) arg4.view.ty)
    (X5 : BufTy.Contents (Elt F) arg5.view.ty) (X6 : BufTy.Contents (Elt F) arg6.view.ty)
    (X9 : BufTy.Contents (Elt F) arg9.view.ty) (X10 : BufTy.Contents (Elt F) arg10.view.ty) :
    LoopInvTy_k0_t5 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 a b k0_t4 v12 where
  inv _ _ := iprop(pt c arg1 X1 ∗ pt c arg4 X4 ∗ pt c arg5 X5 ∗ pt c arg6 X6 ∗ pt c arg9 X9 ∗ pt c arg10 X10
    ∗ some' c arg12 ∗ some' c arg13)
  step k acc := by
    unfold k0_t5_body
    iintro ⟨H1, H4, H5, H6, H9, H10, ⟨%f12, H12⟩, ⟨%f13, H13⟩⟩
    sl_exec
    sl_step
    isplitl [H1]; · iexact H1
    isplitl [H4]; · iexact H4
    isplitl [H5]; · iexact H5
    isplitl [H6]; · iexact H6
    isplitl [H9]; · iexact H9
    isplitl [H10]; · iexact H10
    isplitl [H12]; · iexists _; iexact H12
    iexists _; iexact H13

/-- The loop over the sixteen groups of channels: per group the eight channels, then the group's rows of `dh`. -/
@[sl_loop] def loopInv_k0_t4
    (X1 : BufTy.Contents (Elt F) arg1.view.ty) (X4 : BufTy.Contents (Elt F) arg4.view.ty)
    (X5 : BufTy.Contents (Elt F) arg5.view.ty) (X6 : BufTy.Contents (Elt F) arg6.view.ty)
    (X9 : BufTy.Contents (Elt F) arg9.view.ty) (X10 : BufTy.Contents (Elt F) arg10.view.ty) :
    LoopInvTy_k0_t4 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 where
  inv _ _ := iprop(pt c arg1 X1 ∗ pt c arg4 X4 ∗ pt c arg5 X5 ∗ pt c arg6 X6 ∗ pt c arg9 X9 ∗ pt c arg10 X10
    ∗ some' c arg12 ∗ some' c arg13 ∗ some' c arg8)
  step k acc := by
    unfold k0_t4_body
    iintro ⟨H1, H4, H5, H6, H9, H10, ⟨%f12, H12⟩, ⟨%f13, H13⟩, ⟨%f8, H8⟩⟩
    sl_exec
    sl_step
    isplitl [H1]; · iexact H1
    isplitl [H4]; · iexact H4
    isplitl [H5]; · iexact H5
    isplitl [H6]; · iexact H6
    isplitl [H9]; · iexact H9
    isplitl [H10]; · iexact H10
    isplitl [H12]; · iexists _; iexact H12
    isplitl [H13]; · iexists _; iexact H13
    iexists _; iexact H8

/-- The loop that unstages `dx`: it reads `arg12` and writes `arg7`. -/
@[sl_loop] def loopInv_k0_t6 (X12 : BufTy.Contents (Elt F) arg12.view.ty) :
    LoopInvTy_k0_t6 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 where
  inv _ _ := iprop(pt c arg12 X12 ∗ some' c arg7)
  step k acc := by
    unfold k0_t6_body
    iintro ⟨H12, ⟨%f7, H7⟩⟩
    sl_exec
    sl_step
    isplitl [H12]; · iexact H12
    iexists _; iexact H7

end Cert.KernelIdeal.Hand
end
-- ==== Proof.KernelIdealFrame.lean ====
/-
  The frame of `KernelIdeal`: the program terminates, nothing faults, its arguments end unchanged and every counter ends at zero.
  Nothing is said of what the kernel leaves in its windows: the argument arrays are no window's array (host operations
  lay them out first), so every window is forgotten and the body runs from buffers at any contents to buffers at any.
-/
module

public import proofs.«01_k».proof.Proof.KernelIdealLoops
public import proofs.«01_k».proof.Proof.Gen.KernelIdeal.Frame
public import Idealize.ShloMosaic.Lib.Pipeline.Frame

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The kernel's body, from its fourteen buffers at any contents to the same. -/
theorem kernelRun (c : Dev nD) (i : grid0.Coords) (arg1 : Memref sig .tc .smem S1x1x128 .f32) (harg1 : arg1.IsWhole)
    (arg2 : Memref sig .tc .vmem S24576x128 .i8) (harg2 : arg2.IsWhole)
    (arg3 : Memref sig .tc .vmem S24576x128 .i8) (harg3 : arg3.IsWhole)
    (arg4 : Memref sig .tc .vmem S128x24x128 .i32) (harg4 : arg4.IsWhole)
    (arg5 : Memref sig .tc .vmem S32x1024 .bf16) (harg5 : arg5.IsWhole)
    (arg6 : Memref sig .tc .vmem S4x16x16x128 .bf16) (harg6 : arg6.IsWhole)
    (arg7 : Memref sig .tc .vmem S12x2048x128 .bf16) (harg7 : arg7.IsWhole)
    (arg8 : Memref sig .tc .vmem S128x2048 .f32) (harg8 : arg8.IsWhole)
    (arg9 : Memref sig .tc .vmem S8704x128 .i32) (harg9 : arg9.IsWhole)
    (arg10 : Memref sig .tc .vmem S8704x128 .i32) (harg10 : arg10.IsWhole)
    (arg11 : Memref sig .tc .vmem S6192x128 .i32) (harg11 : arg11.IsWhole)
    (arg12 : Memref sig .tc .vmem S33792x128 .f32) (harg12 : arg12.IsWhole)
    (arg13 : Memref sig .tc .vmem S1056x128 .f32) (harg13 : arg13.IsWhole)
    (arg14 : Memref sig .tc .vmem S128x128 .i32) (harg14 : arg14.IsWhole)
    (K : PUnit → sProp 𝕄) :
    iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) Set.univ (cc0__body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__body_eq_skeleton]; unfold cc0__body_skel
  unfold owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  sl_exec
  sl_step
  iapply Hk
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl

  iexists _, _; isplitr; swap; · iexact H14
  ipureintro; rfl

/-- Every window is forgotten. -/
def forgets0 : Fin 8 → Bool := fun _ => true

/-- The proof data: the arrays as the region finds them, the contents the body leaves unnamed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- The invariant between two points: the six scratch buffers and the generator register, at anything. -/
theorem Phi_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc ∗ (∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d))
def bodyPost (c : Dev nD) (t : Fin cfg0.N) : sProp 𝕄 :=
  iprop((dats m 0 c).Φ t.succ ∗ (dats m 0 c).owesAt () t.succ ∗ (∃ d, owns (c : Thread nD τ) (st0_0 t) fullShare d) ∗ (∃ d, owns (c : Thread nD τ) (st0_1 t) fullShare d) ∗ (∃ d, owns (c : Thread nD τ) (st0_2 t) fullShare d) ∗ (∃ d, owns (c : Thread nD τ) (st0_3 t) fullShare d) ∗ (∃ d, owns (c : Thread nD τ) (st0_4 t) fullShare d) ∗ (∃ d, owns (c : Thread nD τ) (st0_5 t) fullShare d) ∗ (∃ d, owns (c : Thread nD τ) (st0_6 t) fullShare d) ∗ (∃ d, owns (c : Thread nD τ) (st0_7 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, Phi_eq]
  iintro ⟨⟨⟨S0, S1, S2, S3, S4, S5⟩, Hg⟩, HO, W0, W1, W2, W3, W4, W5, W6, W7⟩
  iapply (kernelRun c (grid0.coords t) (st0_0 t) _ (st0_1 t) _ (st0_2 t) _ (st0_3 t) _ (st0_4 t) _ (st0_5 t) _ (st0_6 t) _ (st0_7 t) _ (Memref.whole cc0_scratch0) _ (Memref.whole cc0_scratch1) _ (Memref.whole cc0_scratch2) _ (Memref.whole cc0_scratch3) _ (Memref.whole cc0_scratch4) _ (Memref.whole cc0_scratch5) _ _)
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [W7]; · iexact W7
  isplitl [S0]; · iexact S0
  isplitl [S1]; · iexact S1
  isplitl [S2]; · iexact S2
  isplitl [S3]; · iexact S3
  isplitl [S4]; · iexact S4
  isplitl [S5]; · iexact S5
  iintro ⟨W0, W1, W2, W3, W4, W5, W6, W7, S0, S1, S2, S3, S4, S5⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  iexact W7

theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- Every weakly fair execution of @main terminates without a fault, with every unscoped buffer that is no window's array
    as the region found it and every counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim: the arguments end unchanged, and every counter ends at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ h => ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c)⟩, h.2⟩) (run_main m ρ)

end Cert.KernelIdeal.Hand
end
-- ==== Proof.RefTerms.lean ====
/-
  The reference at the ideal values, as terms: the three decoded arrays that its first step leaves, and its two results as
  the host operations' composition over them.
-/
module

public import proofs.«01_k».proof.Proof.Gen.ReferenceIdeal.Frame
public import Idealize.ShloMosaic.Lib.Claim
public import Idealize.ShloMosaic.Lib.KernelVsHost

@[expose] public section

set_option maxRecDepth 16384
set_option maxHeartbeats 400000

noncomputable section

namespace Cert.ReferenceIdeal.Val

open Cert.ReferenceIdeal Cert.ReferenceIdeal.Gen
open Idealize.ShloMosaic Idealize.ShloMosaic.TcCoe

/-! ## The results, over the decoded arrays -/

/-- An array of batch, time and channel, each time of each batch at its own scale. -/
def scaled (x : FVec Ideal S12x2048x512 .bf16) (s : FVec Ideal S12x2048 .f32) : FVec Ideal S12x2048x512 .bf16 :=
  mulf x (broadcastInDim S12x2048x512 ![0, 1, 2] bcast_S12x2048x1_S12x2048x512_0_1_2
    (broadcastInDim S12x2048x1 ![0, 1] bcast_S12x2048_S12x2048x1_0_1 (truncf .bf16 s bitsLt_bf16_f32)))

/-- The times along the columns of a square, and along its rows. -/
def across : IVec S2048x2048 32 :=
  broadcastInDim S2048x2048 ![0, 1] bcast_S1x2048_S2048x2048_0_1 (broadcastInDim S1x2048 ![1] bcast_S2048_S1x2048_1 (iotaInDim S2048 32 0))
def down : IVec S2048x2048 32 :=
  broadcastInDim S2048x2048 ![0, 1] bcast_S2048x1_S2048x2048_0_1 (broadcastInDim S2048x1 ![0] bcast_S2048_S2048x1_0 (iotaInDim S2048 32 0))

/-- One word everywhere on the square. -/
def every (n : BitVec 32) : IVec S2048x2048 32 := broadcastInDim S2048x2048 ![] bcast_S_S2048x2048 (constantI S_ 32 n)

/-- The lag of each column behind each row. -/
def lag : IVec S2048x2048 32 := subi across down

/-- An index counted from the end where it is negative, of an axis of `n`, as start indices. -/
def starts (n : BitVec 32) (x : IVec S2048x2048 32) : IVec S2048x2048x1 32 :=
  broadcastInDim S2048x2048x1 ![0, 1] bcast_S2048x2048_S2048x2048x1_0_1 (select (cmpi .slt x (every 0#32)) (addi x (every n)) x)

/-- The real zero, as the integer zero read. -/
def zeroS : FVec Ideal S_ .bf16 := sitofp .bf16 (constantI S_ 32 0#32)

/-- The filter at each lag that is not negative. -/
def toeplitz (h : FVec Ideal S512x2048 .bf16) : FVec Ideal S512x2048x2048 .bf16 :=
  select (broadcastInDim S512x2048x2048 ![1, 2] bcast_S2048x2048_S512x2048x2048_1_2 (cmpi .sge lag (every 0#32)))
    (Host.gather gather_S512x2048_S2048x2048x1_S512x2048x2048_0_1_n_n_1_2_5121 h (starts 2048#32 (maxsi lag (every 0#32))))
    (broadcastInDim S512x2048x2048 ![] bcast_S_S512x2048x2048 zeroS)

/-- The input's gradient. -/
def dxRef (z : FVec Ideal S12x2048x512 .bf16) (h : FVec Ideal S512x2048 .bf16) (hs : FVec Ideal S512 .f32) : FVec Ideal S12x2048x512 .bf16 :=
  truncf .bf16 (mulf (transpose S12x2048x512 [1, 2, 0]
    (Host.dotGeneral dot_S12x2048x512_S512x2048x2048_S512x12x2048_1_2_0_1_2_0 none z (toeplitz h)) transposes_S512x12x2048_S12x2048x512_1_2_0)
    (broadcastInDim S12x2048x512 ![0, 1, 2] bcast_S1x1x512_S12x2048x512_0_1_2 (broadcastInDim S1x1x512 ![2] bcast_S512_S1x1x512_2 hs))) bitsLt_bf16_f32

/-- The output's gradient at each lag ahead of each time, zero past the end. -/
def ahead (z : FVec Ideal S12x2048x512 .bf16) : FVec Ideal S12x2048x2048x512 .bf16 :=
  Host.gather gather_S12x4096x512_S2048x2048x1_S12x2048x2048x512_03_1_n_n_1_2_121512
    (pad S12x4096x512 ![0, 0, 0] ![0, 2048, 0] ![0, 0, 0] z zeroS pads_S12x2048x512_S12x4096x512_000_020480_000 h_S_)
    (starts 4096#32 (addi down across))

/-- The filter's gradient. -/
def dhRef (x z : FVec Ideal S12x2048x512 .bf16) : FVec Ideal S512x2048 .f32 :=
  Host.dotGeneral dot_S12x2048x512_S12x2048x2048x512_S512x2048_01_01_n_2_2_3 none x (ahead z)

/-! ## The host lines after the decoding step -/

section Tail
variable (σ : Valuation τ sig (Elt Ideal))

theorem tail_dx : StableHlo.after (hostOps1 ++ (hostOps1_1 ++ (hostOps1_2 ++ (hostOps1_3 ++ hostOps1_4)))) σ (Proc.devRef .tc main_v32)
    = dxRef (scaled (σ (Proc.devRef .tc main_v0_1)) (σ (Proc.devRef .tc main_arg3))) (σ (Proc.devRef .tc main_v0_2)) (σ (Proc.devRef .tc main_arg5)) := by
  simp only [hostOps1, hostOps1_1, hostOps1_2, hostOps1_3, hostOps1_4, List.cons_append, List.nil_append]
  entry_read
  rfl

theorem tail_dh : StableHlo.after (hostOps1 ++ (hostOps1_1 ++ (hostOps1_2 ++ (hostOps1_3 ++ hostOps1_4)))) σ (Proc.devRef .tc main_v46)
    = dhRef (scaled (σ (Proc.devRef .tc main_v0_0)) (σ (Proc.devRef .tc main_arg1))) (scaled (σ (Proc.devRef .tc main_v0_1)) (σ (Proc.devRef .tc main_arg3))) := by
  simp only [hostOps1, hostOps1_1, hostOps1_2, hostOps1_3, hostOps1_4, List.cons_append, List.nil_append]
  entry_read
  rfl

end Tail

/-! ## The decoded arrays -/

variable (m : (ℓ : Loc nD τ sig) → Buf (Elt Ideal) ℓ)

theorem zero3 : (![0, 0, 0] : Fin 3 → Nat) = fun _ => 0 := by
  funext a
  match a with
  | ⟨0, _⟩ => rfl
  | ⟨1, _⟩ => rfl
  | ⟨2, _⟩ => rfl
theorem zero2 : (![0, 0] : Fin 2 → Nat) = fun _ => 0 := by
  funext a
  match a with
  | ⟨0, _⟩ => rfl
  | ⟨1, _⟩ => rfl

theorem read0 (c : Dev nD) (t : Fin cfg0.N) : iblk m c 0 t = m ((c : Thread nD τ).loc main_arg0) := by
  refine Eq.trans ?_ (V_main_arg0 m c)
  funext i
  show V m c main_arg0 _ = V m c main_arg0 _
  congr 1
  funext a
  apply Fin.ext
  show 0 * _ + 1 * (i a).val = (i a).val
  omega
theorem read1 (c : Dev nD) (t : Fin cfg0.N) : iblk m c 1 t = m ((c : Thread nD τ).loc main_arg2) := by
  refine Eq.trans ?_ (V_main_arg2 m c)
  funext i
  show V m c main_arg2 _ = V m c main_arg2 _
  congr 1
  funext a
  apply Fin.ext
  show 0 * _ + 1 * (i a).val = (i a).val
  omega
theorem read2 (c : Dev nD) (t : Fin cfg0.N) : iblk m c 2 t = m ((c : Thread nD τ).loc main_arg4) := by
  refine Eq.trans ?_ (V_main_arg4 m c)
  funext i
  show V m c main_arg4 _ = V m c main_arg4 _
  congr 1
  funext a
  apply Fin.ext
  show 0 * _ + 1 * (i a).val = (i a).val
  omega

/-- Each output window's one block is the whole array. -/
theorem block3 (t : Fin cfg0.N) (G : S12x2048x512.Idx → EReal) : ((cfg0.win 3).blk t).view.read (Elt Ideal) G = G := by
  funext i
  show G _ = G i
  congr 1
  funext a
  apply Fin.ext
  show 0 * _ + 1 * (i a).val = (i a).val
  omega
theorem block4 (t : Fin cfg0.N) (G : S12x2048x512.Idx → EReal) : ((cfg0.win 4).blk t).view.read (Elt Ideal) G = G := by
  funext i
  show G _ = G i
  congr 1
  funext a
  apply Fin.ext
  show 0 * _ + 1 * (i a).val = (i a).val
  omega
theorem block5 (t : Fin cfg0.N) (G : S512x2048.Idx → EReal) : ((cfg0.win 5).blk t).view.read (Elt Ideal) G = G := by
  funext i
  show G _ = G i
  congr 1
  funext a
  apply Fin.ext
  show 0 * _ + 1 * (i a).val = (i a).val
  omega

theorem final3 (c : Dev nD) : (dats m 0 c).arrAt 3 cfg0.N = k0_pay1 (F := Ideal) (m ((c : Thread nD τ).loc main_arg0)) :=
  (dats m 0 c).arrAt_eq_of_cover 3 _ (fun t hf => by
    show (cfg0.win 3).cut (grid0.coords t) ((dats m 0 c).after 3 t) = _
    rw [after0_3, read0]
    unfold out0_3
    rw [View.canon_unit_zero zero3, View.ld_unit_zero zero3]
    exact (block3 t _).symm) fun i => by
    have h0 : (i 0 : Nat) < 12 := (i 0).isLt
    have h1 : (i 1 : Nat) < 2048 := (i 1).isLt
    have h2 : (i 2 : Nat) < 512 := (i 2).isLt
    refine ⟨t0_0, by rfl, ?_⟩
    show i ∈ ((View.whole main_v0_0).slice (win0_3.rect t0_0)).set
    rw [View.set_slice_whole, Rect.mem_set_unit]
    intro a
    match a with
    | ⟨0, _⟩ => show 0 * 12 ≤ (i 0 : Nat) ∧ (i 0 : Nat) < 0 * 12 + 12
                omega
    | ⟨1, _⟩ => show 0 * 2048 ≤ (i 1 : Nat) ∧ (i 1 : Nat) < 0 * 2048 + 2048
                omega
    | ⟨2, _⟩ => show 0 * 512 ≤ (i 2 : Nat) ∧ (i 2 : Nat) < 0 * 512 + 512
                omega

theorem final4 (c : Dev nD) : (dats m 0 c).arrAt 4 cfg0.N = k0_pay2 (F := Ideal) (m ((c : Thread nD τ).loc main_arg2)) :=
  (dats m 0 c).arrAt_eq_of_cover 4 _ (fun t hf => by
    show (cfg0.win 4).cut (grid0.coords t) ((dats m 0 c).after 4 t) = _
    rw [after0_4, read1]
    unfold out0_4
    rw [View.canon_unit_zero zero3, View.ld_unit_zero zero3]
    exact (block4 t _).symm) fun i => by
    have h0 : (i 0 : Nat) < 12 := (i 0).isLt
    have h1 : (i 1 : Nat) < 2048 := (i 1).isLt
    have h2 : (i 2 : Nat) < 512 := (i 2).isLt
    refine ⟨t0_0, by rfl, ?_⟩
    show i ∈ ((View.whole main_v0_1).slice (win0_4.rect t0_0)).set
    rw [View.set_slice_whole, Rect.mem_set_unit]
    intro a
    match a with
    | ⟨0, _⟩ => show 0 * 12 ≤ (i 0 : Nat) ∧ (i 0 : Nat) < 0 * 12 + 12
                omega
    | ⟨1, _⟩ => show 0 * 2048 ≤ (i 1 : Nat) ∧ (i 1 : Nat) < 0 * 2048 + 2048
                omega
    | ⟨2, _⟩ => show 0 * 512 ≤ (i 2 : Nat) ∧ (i 2 : Nat) < 0 * 512 + 512
                omega

theorem final5 (c : Dev nD) : (dats m 0 c).arrAt 5 cfg0.N = k0_pay3 (F := Ideal) (m ((c : Thread nD τ).loc main_arg4)) :=
  (dats m 0 c).arrAt_eq_of_cover 5 _ (fun t hf => by
    show (cfg0.win 5).cut (grid0.coords t) ((dats m 0 c).after 5 t) = _
    rw [after0_5, read2]
    unfold out0_5
    rw [View.canon_unit_zero zero2, View.ld_unit_zero zero2]
    exact (block5 t _).symm) fun i => by
    have h0 : (i 0 : Nat) < 512 := (i 0).isLt
    have h1 : (i 1 : Nat) < 2048 := (i 1).isLt
    refine ⟨t0_0, by rfl, ?_⟩
    show i ∈ ((View.whole main_v0_2).slice (win0_5.rect t0_0)).set
    rw [View.set_slice_whole, Rect.mem_set_unit]
    intro a
    match a with
    | ⟨0, _⟩ => show 0 * 512 ≤ (i 0 : Nat) ∧ (i 0 : Nat) < 0 * 512 + 512
                omega
    | ⟨1, _⟩ => show 0 * 2048 ≤ (i 1 : Nat) ∧ (i 1 : Nat) < 0 * 2048 + 2048
                omega

/-! ## The run -/

/-- The three decoded arrays. -/
def xDec (x : S12x2048x512.Idx → BitVec 8) : FVec Ideal S12x2048x512 .bf16 := k0_pay1 x
def dyDec (x : S12x2048x512.Idx → BitVec 8) : FVec Ideal S12x2048x512 .bf16 := k0_pay2 x
def hDec (x : S512x2048.Idx → BitVec 8) : FVec Ideal S512x2048 .bf16 := k0_pay3 x

theorem W_v32 (c : Dev nD) : Pipeline.afterTail₀ cfgs (dats m) 0 (V0 m) [hostOps1, hostOps1_1, hostOps1_2, hostOps1_3, hostOps1_4] c main_v32
    = dxRef (scaled (dyDec (m ((c : Thread nD τ).loc main_arg2))) (m ((c : Thread nD τ).loc main_arg3)))
        (hDec (m ((c : Thread nD τ).loc main_arg4))) (m ((c : Thread nD τ).loc main_arg5)) := by
  unfold Pipeline.afterTail₀
  refine (tail_dx _).trans ?_
  have e1 := (Pipeline.withArrays_arr spec0 launch0.win.arr_inj c (V0 m c) (fun w => (dats m 0 c).arrAt w cfg0.N) 4).trans (final4 m c)
  have e2 := (Pipeline.withArrays_arr spec0 launch0.win.arr_inj c (V0 m c) (fun w => (dats m 0 c).arrAt w cfg0.N) 5).trans (final5 m c)
  have e3 := (Pipeline.withArrays_of_ne spec0 c (V0 m c) (fun w => (dats m 0 c).arrAt w cfg0.N) main_arg3 (by exact (by decide : ∀ w, Pipeline.arrRef spec0 w ≠ main_arg3))).trans (V_main_arg3 m c)
  have e4 := (Pipeline.withArrays_of_ne spec0 c (V0 m c) (fun w => (dats m 0 c).arrAt w cfg0.N) main_arg5 (by exact (by decide : ∀ w, Pipeline.arrRef spec0 w ≠ main_arg5))).trans (V_main_arg5 m c)
  exact congr (congr (congrArg dxRef (congr (congrArg scaled e1) e3)) e2) e4

theorem W_v46 (c : Dev nD) : Pipeline.afterTail₀ cfgs (dats m) 0 (V0 m) [hostOps1, hostOps1_1, hostOps1_2, hostOps1_3, hostOps1_4] c main_v46
    = dhRef (scaled (xDec (m ((c : Thread nD τ).loc main_arg0))) (m ((c : Thread nD τ).loc main_arg1)))
        (scaled (dyDec (m ((c : Thread nD τ).loc main_arg2))) (m ((c : Thread nD τ).loc main_arg3))) := by
  unfold Pipeline.afterTail₀
  refine (tail_dh _).trans ?_
  have e0 := (Pipeline.withArrays_arr spec0 launch0.win.arr_inj c (V0 m c) (fun w => (dats m 0 c).arrAt w cfg0.N) 3).trans (final3 m c)
  have e1 := (Pipeline.withArrays_arr spec0 launch0.win.arr_inj c (V0 m c) (fun w => (dats m 0 c).arrAt w cfg0.N) 4).trans (final4 m c)
  have e2 := (Pipeline.withArrays_of_ne spec0 c (V0 m c) (fun w => (dats m 0 c).arrAt w cfg0.N) main_arg1 (by exact (by decide : ∀ w, Pipeline.arrRef spec0 w ≠ main_arg1))).trans (V_main_arg1 m c)
  have e3 := (Pipeline.withArrays_of_ne spec0 c (V0 m c) (fun w => (dats m 0 c).arrAt w cfg0.N) main_arg3 (by exact (by decide : ∀ w, Pipeline.arrRef spec0 w ≠ main_arg3))).trans (V_main_arg3 m c)
  exact congr (congrArg dhRef (congr (congrArg scaled e0) e2)) (congr (congrArg scaled e1) e3)

variable (ρ : Dev nD → PrngReg)

/-- The run, read: the results as terms of the arguments, the arguments unchanged. -/
theorem run : θ_run defs (onTc (τ := τ) (main (F := Ideal))) ⟨m, fun _ => 0, ρ⟩ (fun r => ∀ c : Dev nD,
      r.2.mem ((c.tc : Thread nD τ).loc main_v32)
        = dxRef (scaled (dyDec (m ((c : Thread nD τ).loc main_arg2))) (m ((c : Thread nD τ).loc main_arg3)))
            (hDec (m ((c : Thread nD τ).loc main_arg4))) (m ((c : Thread nD τ).loc main_arg5))
      ∧ r.2.mem ((c.tc : Thread nD τ).loc main_v46)
        = dhRef (scaled (xDec (m ((c : Thread nD τ).loc main_arg0))) (m ((c : Thread nD τ).loc main_arg1)))
            (scaled (dyDec (m ((c : Thread nD τ).loc main_arg2))) (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h.1 c).2 main_v32 (Pipeline.mem_restRefs_of main_v32 (by decide) (by decide))).trans (W_v32 m c),
      ((h.1 c).2 main_v46 (Pipeline.mem_restRefs_of main_v46 (by decide) (by decide))).trans (W_v46 m c), h.2 c⟩)
    (θ_run_and (run_main m ρ) (unchanged m ρ))

end Cert.ReferenceIdeal.Val
end
-- ==== Proof.RefElem.lean ====
/-
  The reference's host operations, element by element: the scales, the lags as machine integers, the two gathers, the two
  contractions.
-/
module

public import proofs.«01_k».proof.Proof.RefTerms
public import Idealize.ShloMosaic.Lib.MatmulPlain
public import Idealize.ShloMosaic.Lib.KernelVsHost
public import Idealize.ShloMosaic.PureOps.Ideal.Laws

@[expose] public section

set_option maxRecDepth 16384
set_option maxHeartbeats 400000

noncomputable section

namespace Cert.ReferenceIdeal.Val

open Cert.ReferenceIdeal Cert.ReferenceIdeal.Gen
open Idealize.ShloMosaic Idealize.ShloMosaic.TcCoe Idealize.ShloMosaic.ValueIdx

theorem scaled_apply (x : FVec Ideal S12x2048x512 .bf16) (s : FVec Ideal S12x2048 .f32) (b : Fin 12) (t : Fin 2048) (c : Fin 512) :
    scaled x s (ix3 b t c) = (x (ix3 b t c) * s (ix2 b t) : EReal) := by
  have e : broadcastInDim S12x2048x512 ![0, 1, 2] bcast_S12x2048x1_S12x2048x512_0_1_2
      (broadcastInDim S12x2048x1 ![0, 1] bcast_S12x2048_S12x2048x1_0_1 (truncf (F := Ideal) .bf16 s bitsLt_bf16_f32)) (ix3 b t c) = s (ix2 b t) := by
    rw [broadcastInDim_apply _ _ _ (ix3 b t c) (ix3 b t (0 : Fin 1)) (fun a => by
      match a with
      | ⟨0, _⟩ => rfl
      | ⟨1, _⟩ => rfl
      | ⟨2, _⟩ => rfl),
    broadcastInDim_apply _ _ _ (ix3 b t (0 : Fin 1)) (ix2 b t) (fun a => by
      match a with
      | ⟨0, _⟩ => rfl
      | ⟨1, _⟩ => rfl)]
    rfl
  exact congrArg (fun y : EReal => (x (ix3 b t c) * y : EReal)) e

/-! ## The lags -/

theorem across_apply (r k : Fin 2048) : across (ix2 r k) = BitVec.ofNat 32 k.val := by
  unfold across
  rw [broadcastInDim_apply _ _ _ (ix2 r k) (ix2 (0 : Fin 1) k) (fun a => by
      match a with
      | ⟨0, _⟩ => rfl
      | ⟨1, _⟩ => rfl),
    broadcastInDim_apply _ _ _ (ix2 (0 : Fin 1) k) (ix1 k) (fun a => by
      match a with
      | ⟨0, _⟩ => rfl)]
  rfl

theorem down_apply (r k : Fin 2048) : down (ix2 r k) = BitVec.ofNat 32 r.val := by
  unfold down
  rw [broadcastInDim_apply _ _ _ (ix2 r k) (ix2 r (0 : Fin 1)) (fun a => by
      match a with
      | ⟨0, _⟩ => rfl
      | ⟨1, _⟩ => rfl),
    broadcastInDim_apply _ _ _ (ix2 r (0 : Fin 1)) (ix1 r) (fun a => by
      match a with
      | ⟨0, _⟩ => rfl)]
  rfl

theorem every_apply (n : BitVec 32) (j : S2048x2048.Idx) : every n j = n := rfl

theorem lag_toInt (r k : Fin 2048) : (lag (ix2 r k)).toInt = (k.val : Int) - r.val := by
  show (across (ix2 r k) - down (ix2 r k)).toInt = _
  rw [across_apply, down_apply, BitVec.toInt_eq_toNat_cond, BitVec.toNat_sub, BitVec.toNat_ofNat, BitVec.toNat_ofNat]
  have := k.isLt
  have := r.isLt
  split <;> omega

/-- Whether a lag is not negative, as a bit. -/
theorem lag_sge (r k : Fin 2048) : cmpi .sge lag (every 0#32) (ix2 r k) = if r.val ≤ k.val then 1#1 else 0#1 := by
  show IntOp.cmpi .sge (lag (ix2 r k)) 0#32 = _
  unfold IntOp.cmpi
  simp only [BitVec.sle]
  rw [lag_toInt]
  by_cases h : r.val ≤ k.val
  · rw [if_pos h, decide_eq_true (show (0#32).toInt ≤ (k.val : Int) - r.val by simp; omega)]
    rfl
  · rw [if_neg h, decide_eq_false (show ¬ (0#32).toInt ≤ (k.val : Int) - r.val by simp; omega)]
    rfl

theorem lag_max (r k : Fin 2048) : maxsi lag (every 0#32) (ix2 r k) = BitVec.ofNat 32 (k.val - r.val) := by
  show IntOp.maxsi (lag (ix2 r k)) 0#32 = _
  have hk := k.isLt
  have hr := r.isLt
  have e : (0#32).slt (lag (ix2 r k)) = decide (r.val < k.val) := by
    simp only [BitVec.slt]
    rw [lag_toInt]
    refine decide_eq_decide.mpr ?_
    show (0 : Int) < _ ↔ _
    omega
  unfold IntOp.maxsi
  rw [e]
  by_cases h : r.val < k.val
  · rw [decide_eq_true h, if_pos rfl]
    apply BitVec.eq_of_toInt_eq
    rw [lag_toInt, BitVec.toInt_eq_toNat_of_lt (by simp only [BitVec.toNat_ofNat]; omega), BitVec.toNat_ofNat]
    omega
  · rw [decide_eq_false h, if_neg Bool.false_ne_true, show k.val - r.val = 0 by omega]

/-- An index that is not negative is itself. -/
theorem starts_apply (n : BitVec 32) (x : IVec S2048x2048 32) (r k : Fin 2048) (v : ℕ) (hv : v < 2 ^ 31)
    (hx : x (ix2 r k) = BitVec.ofNat 32 v) : starts n x (ix3 r k (0 : Fin 1)) = BitVec.ofNat 32 v := by
  unfold starts
  rw [broadcastInDim_apply _ _ _ (ix3 r k (0 : Fin 1)) (ix2 r k) (fun a => by
      match a with
      | ⟨0, _⟩ => rfl
      | ⟨1, _⟩ => rfl)]
  show Scalar.select (IntOp.cmpi .slt (x (ix2 r k)) 0#32) (x (ix2 r k) + n) (x (ix2 r k)) = _
  rw [hx]
  have e : IntOp.cmpi .slt (BitVec.ofNat 32 v) 0#32 = 0#1 := by
    unfold IntOp.cmpi
    simp only [BitVec.slt]
    rw [BitVec.toInt_eq_toNat_of_lt (by simp only [BitVec.toNat_ofNat]; omega), decide_eq_false (by simp; omega)]
    rfl
  rw [e]
  rfl

/-! ## The gathers -/

theorem gather_filter (h : FVec Ideal S512x2048 .bf16) (idx : IVec S2048x2048x1 32) (c : Fin 512) (r k : Fin 2048) :
    Host.gather gather_S512x2048_S2048x2048x1_S512x2048x2048_0_1_n_n_1_2_5121 h idx (ix3 c r k)
      = h (ix2 c ⟨min (idx (ix3 r k (0 : Fin 1))).toInt.toNat 2047, by omega⟩) := by
  unfold Host.gather
  congr 1
  funext a
  refine Fin.ext ?_
  match a with
  | ⟨0, _⟩ => exact (Nat.zero_add _).trans rfl
  | ⟨1, _⟩ =>
    show GatherDims.start _ _ idx _ + GatherDims.batchCoord _ _ _ + GatherDims.offCoord _ _ _ = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (⟨1, by decide⟩ : Fin S512x2048.rank) ∈ gather_S512x2048_S2048x2048x1_S512x2048x2048_0_1_n_n_1_2_5121.startIndexMap from List.mem_singleton.mpr rfl)]
    show min (idx _).toInt.toNat 2047 = min (idx _).toInt.toNat 2047
    congr 4
    funext b
    refine Fin.ext ?_
    match b with
    | ⟨0, _⟩ => rfl
    | ⟨1, _⟩ => rfl
    | ⟨2, _⟩ => rfl

theorem gather_ahead (z : FVec Ideal S12x4096x512 .bf16) (idx : IVec S2048x2048x1 32) (b : Fin 12) (r k : Fin 2048) (c : Fin 512) :
    Host.gather gather_S12x4096x512_S2048x2048x1_S12x2048x2048x512_03_1_n_n_1_2_121512 z idx (ix4 b r k c)
      = z (ix3 b ⟨min (idx (ix3 r k (0 : Fin 1))).toInt.toNat 4095, by omega⟩ c) := by
  unfold Host.gather
  congr 1
  funext a
  refine Fin.ext ?_
  match a with
  | ⟨0, _⟩ => exact (Nat.zero_add _).trans rfl
  | ⟨2, _⟩ => exact (Nat.zero_add _).trans rfl
  | ⟨1, _⟩ =>
    show GatherDims.start _ _ idx _ + GatherDims.batchCoord _ _ _ + GatherDims.offCoord _ _ _ = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (⟨1, by decide⟩ : Fin S12x4096x512.rank) ∈ gather_S12x4096x512_S2048x2048x1_S12x2048x2048x512_03_1_n_n_1_2_121512.startIndexMap from List.mem_singleton.mpr rfl)]
    show min (idx _).toInt.toNat 4095 = min (idx _).toInt.toNat 4095
    congr 4
    funext b
    refine Fin.ext ?_
    match b with
    | ⟨0, _⟩ => rfl
    | ⟨1, _⟩ => rfl
    | ⟨2, _⟩ => rfl

/-! ## The contractions -/

theorem dot_dx (z : FVec Ideal S12x2048x512 .bf16) (T : FVec Ideal S512x2048x2048 .bf16) (c : Fin 512) (b : Fin 12) (t : Fin 2048) :
    (Host.dotGeneral dot_S12x2048x512_S512x2048x2048_S512x12x2048_1_2_0_1_2_0 none z T (ix3 c b t) : EReal)
      = ∑ u : Fin 2048, (z (ix3 b u c) * T (ix3 c t u) : EReal) := by
  simp only [Host.dotGeneral]
  rw [Ideal.dotGeneral_apply,
    ← Equiv.sum_comp (contrEquiv1 dot_S12x2048x512_S512x2048x2048_S512x12x2048_1_2_0_1_2_0 2048 rfl rfl).symm]
  refine Finset.sum_congr rfl fun u _ => ?_
  have c1 := contrEquiv1_symm_val dot_S12x2048x512_S512x2048x2048_S512x12x2048_1_2_0_1_2_0 2048 rfl rfl u
  have el : DotDims.lhsIdx dot_S12x2048x512_S512x2048x2048_S512x12x2048_1_2_0_1_2_0 (ix3 c b t)
      ((contrEquiv1 dot_S12x2048x512_S512x2048x2048_S512x12x2048_1_2_0_1_2_0 2048 rfl rfl).symm u) = ix3 b u c := by
    funext a; apply Fin.ext
    match a with
    | ⟨0, _⟩ => rfl
    | ⟨1, _⟩ => exact c1
    | ⟨2, _⟩ => rfl
  have er : DotDims.rhsIdx dot_S12x2048x512_S512x2048x2048_S512x12x2048_1_2_0_1_2_0 (ix3 c b t)
      ((contrEquiv1 dot_S12x2048x512_S512x2048x2048_S512x12x2048_1_2_0_1_2_0 2048 rfl rfl).symm u) = ix3 c t u := by
    funext a; apply Fin.ext
    match a with
    | ⟨0, _⟩ => rfl
    | ⟨1, _⟩ => rfl
    | ⟨2, _⟩ => exact c1
  rw [el, er]

theorem dot_dh (x : FVec Ideal S12x2048x512 .bf16) (A : FVec Ideal S12x2048x2048x512 .bf16) (c : Fin 512) (k : Fin 2048) :
    (Host.dotGeneral dot_S12x2048x512_S12x2048x2048x512_S512x2048_01_01_n_2_2_3 none x A (ix2 c k) : EReal)
      = ∑ b : Fin 12, ∑ t : Fin 2048, (x (ix3 b t c) * A (ix4 b t k c) : EReal) := by
  simp only [Host.dotGeneral]
  rw [Ideal.dotGeneral_apply,
    ← Equiv.sum_comp (contrEquiv2 dot_S12x2048x512_S12x2048x2048x512_S512x2048_01_01_n_2_2_3 12 2048 rfl rfl rfl).symm,
    Fintype.sum_prod_type]
  refine Finset.sum_congr rfl fun b _ => Finset.sum_congr rfl fun t _ => ?_
  have c0 := contrEquiv2_symm_val0 dot_S12x2048x512_S12x2048x2048x512_S512x2048_01_01_n_2_2_3 12 2048 rfl rfl rfl (b, t)
  have c1 := contrEquiv2_symm_val1 dot_S12x2048x512_S12x2048x2048x512_S512x2048_01_01_n_2_2_3 12 2048 rfl rfl rfl (b, t)
  have el : DotDims.lhsIdx dot_S12x2048x512_S12x2048x2048x512_S512x2048_01_01_n_2_2_3 (ix2 c k)
      ((contrEquiv2 dot_S12x2048x512_S12x2048x2048x512_S512x2048_01_01_n_2_2_3 12 2048 rfl rfl rfl).symm (b, t)) = ix3 b t c := by
    funext a; apply Fin.ext
    match a with
    | ⟨0, _⟩ => exact c0
    | ⟨1, _⟩ => exact c1
    | ⟨2, _⟩ => rfl
  have er : DotDims.rhsIdx dot_S12x2048x512_S12x2048x2048x512_S512x2048_01_01_n_2_2_3 (ix2 c k)
      ((contrEquiv2 dot_S12x2048x512_S12x2048x2048x512_S512x2048_01_01_n_2_2_3 12 2048 rfl rfl rfl).symm (b, t)) = ix4 b t k c := by
    funext a; apply Fin.ext
    match a with
    | ⟨0, _⟩ => exact c0
    | ⟨1, _⟩ => exact c1
    | ⟨2, _⟩ => rfl
    | ⟨3, _⟩ => rfl
  rw [el, er]

end Cert.ReferenceIdeal.Val
end
-- ==== Proof.Tiles.lean ====
/-
  The tiles one channel of the kernel computes, written once per kind of tile rather than once per tile. A channel reads
  eight blocks of four-codes-per-word rows of `dy` (`A`), the same blocks four rows later (`N`), the scales of `dy`
  (`D`), the seventeen filter windows (`H`), eight blocks of `x` (`X`) with their scales (`Sx`), and the filter's scale.
-/
module

public import proofs.«01_k».proof.Proof.Gen.KernelIdeal.Loops

@[expose] public section

noncomputable section

namespace Cert.KernelIdeal.Hand

open Cert.KernelIdeal Cert.KernelIdeal.Gen
open Idealize.ShloMosaic Idealize.ShloMosaic.TcCoe

variable {F : FTy → Type} [FloatOps F]

/-- The lane of an element of an 8-by-128 tile, and its sublane. -/
abbrev lane8 : IVec S8x128 32 := iota .tc S8x128 32 [1] iota_S8x128_d1_w32
abbrev sub8 : IVec S8x128 32 := iota .tc S8x128 32 [0] iota_S8x128_d0_w32

/-- Words of four `dy` codes as numbers. -/
def dyNum (w : Vec F S8x128 .i32) : FVec F S32x128 .bf16 :=
  extf .bf16 (bitcastToFloat .fp8e5m2 (bitcast S32x128 8 w bitcasts_S8x128_w32_S32x128_w8)) bitsLt_fp8e5m2_bf16

/-- A block of `dy` words moved `n` lanes to the left, the freed lanes taken from the next block. -/
def moved (n r : BitVec 32) (a b : Vec F S8x128 .i32) : Vec F S8x128 .i32 :=
  dynamicRotate 1 r none (select (cmpi .slt lane8 (broadcast S8x128 n)) b a) rotates_S8x128_d1

/-- The block `i` of `dy` words moved `32 v` lanes. -/
def dyWords (A N : Fin 8 → Vec F S8x128 .i32) : ℕ → Fin 8 → Vec F S8x128 .i32
  | 0, i => A i
  | v + 1, i => moved (BitVec.ofNat 32 (32 * (v + 1))) (BitVec.ofNat 32 (128 - 32 * (v + 1))) (A i) (N i)

/-- The sixteen rows of the tile of `dy` at step `q`, moved `32 v` lanes and scaled; the tile past the end is zero. -/
def zTile (A N : Fin 8 → Vec F S8x128 .i32) (D : Fin 4 → Fin 16 → Vec F S1x1x16x128 .bf16) (v q : ℕ) : FVec F S16x128 .bf16 :=
  match Nat.ble 16 q with
  | true => broadcast S16x128 (Scalar.ofBits .bf16 0x0000#16)
  | false => mulf
      (match q % 2 with
        | 0 => extractStridedSlice S16x128 ![0, 0] (dyNum (dyWords A N v (Fin.ofNat 8 (q / 2)))) slices_S32x128_o0_0_S16x128
        | _ + 1 => extractStridedSlice S16x128 ![16, 0] (dyNum (dyWords A N v (Fin.ofNat 8 (q / 2)))) slices_S32x128_o16_0_S16x128)
      (shapeCast S16x128 (D (Fin.ofNat 4 v) (Fin.ofNat 16 q)) shapeCasts_S1x1x16x128_S16x128)

/-- A filter window's row repeated over the eight sublanes. -/
def hRow (h : Vec F S1x1x128 .i32) : IVec S8x128 32 :=
  broadcastTo S8x128 (shapeCast S1x128 (shapeCast S1x128 h shapeCasts_S1x1x128_S1x128) shapeCasts_S1x128_S1x128) broadcasts_S1x128_S8x128

/-- Thirty-two rows of a Toeplitz tile: the window `a`, continued by `b`, moved by four lanes per sublane and `r` more. -/
def tzPart (n r : BitVec 32) (a b : Vec F S1x1x128 .i32) : FVec F S32x128 .fp8e4m3 :=
  bitcastToFloat .fp8e4m3 (bitcast S32x128 8
    (dynamicRotate 1 r (some (4, 0))
      (select (cmpi .slt (addi lane8 (muli (broadcast S8x128 4#32) sub8)) (broadcast S8x128 n)) (hRow (F := F) a) (hRow (F := F) b))
      rotates_S8x128_d1s4a0) bitcasts_S8x128_w32_S32x128_w8)

/-- The Toeplitz tile number `e`: zero for `e = 0`, else made of the windows `e - 1` and `e`. -/
def tzTile (H : ℕ → Vec F S1x1x128 .i32) : ℕ → FVec F S128x128 .fp8e4m3
  | 0 => broadcast S128x128 (Scalar.ofBits .fp8e4m3 0x00#8)
  | e + 1 => concatenate S128x128 0
      [⟨S32x128, tzPart 128#32 0#32 (H e) (H (e + 1))⟩, ⟨S32x128, tzPart 96#32 32#32 (H e) (H (e + 1))⟩,
        ⟨S32x128, tzPart 64#32 64#32 (H e) (H (e + 1))⟩, ⟨S32x128, tzPart 32#32 96#32 (H e) (H (e + 1))⟩]
      concatenates_S32x128_S32x128_S32x128_S32x128_S128x128_d0

/-- Two consecutive unmoved tiles of `dy` side by side; zero past the end. -/
def dyPair (A N : Fin 8 → Vec F S8x128 .i32) (D : Fin 4 → Fin 16 → Vec F S1x1x16x128 .bf16) (i : ℕ) : FVec F S16x256 .bf16 :=
  match Nat.ble 8 i with
  | true => broadcast S16x256 (Scalar.ofBits .bf16 0x0000#16)
  | false => concatenate S16x256 1 [⟨S16x128, zTile A N D 0 (2 * i)⟩, ⟨S16x128, zTile A N D 0 (2 * i + 1)⟩]
      concatenates_S16x128_S16x128_S16x256_d1

/-- The `dy` operand of the product number `d`: the pairs `d … d + 7`. -/
def dyStack (A N : Fin 8 → Vec F S8x128 .i32) (D : Fin 4 → Fin 16 → Vec F S1x1x16x128 .bf16) (d : ℕ) : FVec F S128x256 .bf16 :=
  concatenate S128x256 0
    [⟨S16x256, dyPair A N D d⟩, ⟨S16x256, dyPair A N D (d + 1)⟩, ⟨S16x256, dyPair A N D (d + 2)⟩, ⟨S16x256, dyPair A N D (d + 3)⟩,
      ⟨S16x256, dyPair A N D (d + 4)⟩, ⟨S16x256, dyPair A N D (d + 5)⟩, ⟨S16x256, dyPair A N D (d + 6)⟩, ⟨S16x256, dyPair A N D (d + 7)⟩]
    concatenates_S16x256_S16x256_S16x256_S16x256_S16x256_S16x256_S16x256_S16x256_S128x256_d0

/-- The Toeplitz operand of the product number `d`. -/
def tzQuad (H : ℕ → Vec F S1x1x128 .i32) (d : ℕ) : FVec F S256x256 .fp8e4m3 :=
  concatenate S256x256 0
    [⟨S128x256, concatenate S128x256 1 [⟨S128x128, tzTile H (2 * d + 1)⟩, ⟨S128x128, tzTile H (2 * d)⟩] concatenates_S128x128_S128x128_S128x256_d1⟩,
      ⟨S128x256, concatenate S128x256 1 [⟨S128x128, tzTile H (2 * d + 2)⟩, ⟨S128x128, tzTile H (2 * d + 1)⟩] concatenates_S128x128_S128x128_S128x256_d1⟩]
    concatenates_S128x256_S128x256_S256x256_d0

/-- The sum of the first `d` products of `dy` with the Toeplitz tiles. -/
def dxAcc (A N : Fin 8 → Vec F S8x128 .i32) (D : Fin 4 → Fin 16 → Vec F S1x1x16x128 .bf16) (H : ℕ → Vec F S1x1x128 .i32) :
    ℕ → FVec F S128x256 .f32
  | 0 => broadcast S128x256 (Scalar.ofBits .f32 0x00000000#32)
  | d + 1 => addf (dxAcc A N D H d)
      (matmul dot_S128x256_S256x256_S128x256_1_0_0_1_n_n none (dyStack A N D d) (tzQuad H d) (constant S128x256 .f32 0x00000000#32))

/-- The channel's `dx`. -/
def dxTile (A N : Fin 8 → Vec F S8x128 .i32) (D : Fin 4 → Fin 16 → Vec F S1x1x16x128 .bf16) (H : ℕ → Vec F S1x1x128 .i32)
    (hs : Elt F .f32) : FVec F S128x256 .bf16 :=
  truncf .bf16 (mulf (dxAcc A N D H 8) (broadcast S128x256 hs)) bitsLt_bf16_f32

/-- A block of `x`, scaled. -/
def xTile (X : Fin 8 → Vec F S8x128 .i32) (Sx : Fin 8 → Vec F S32x128 .bf16) (g : Fin 8) : FVec F S32x128 .bf16 :=
  mulf (extf .bf16 (bitcastToFloat .fp8e4m3 (bitcast S32x128 8 (X g) bitcasts_S8x128_w32_S32x128_w8)) bitsLt_fp8e4m3_bf16)
    (shapeCast S32x128 (Sx g) shapeCasts_S32x128_S32x128)

/-- The block of `x` number `j - 8`, zero before the first. -/
def xPad (X : Fin 8 → Vec F S8x128 .i32) (Sx : Fin 8 → Vec F S32x128 .bf16) (j : ℕ) : FVec F S32x128 .bf16 :=
  match Nat.ble 8 j with
  | false => broadcast S32x128 (Scalar.ofBits .bf16 0x0000#16)
  | true => xTile X Sx (Fin.ofNat 8 (j - 8))

/-- Two consecutive blocks of `x` side by side. -/
def xPair (X : Fin 8 → Vec F S8x128 .i32) (Sx : Fin 8 → Vec F S32x128 .bf16) (j : ℕ) : FVec F S32x256 .bf16 :=
  concatenate S32x256 1 [⟨S32x128, xPad X Sx j⟩, ⟨S32x128, xPad X Sx (j + 1)⟩] concatenates_S32x128_S32x128_S32x256_d1

/-- The `x` operand of the product number `t`. -/
def xStack (X : Fin 8 → Vec F S8x128 .i32) (Sx : Fin 8 → Vec F S32x128 .bf16) (t : ℕ) : FVec F S256x256 .bf16 :=
  concatenate S256x256 0
    [⟨S32x256, xPair X Sx (2 * t + 8)⟩, ⟨S32x256, xPair X Sx (2 * t + 7)⟩, ⟨S32x256, xPair X Sx (2 * t + 6)⟩, ⟨S32x256, xPair X Sx (2 * t + 5)⟩,
      ⟨S32x256, xPair X Sx (2 * t + 4)⟩, ⟨S32x256, xPair X Sx (2 * t + 3)⟩, ⟨S32x256, xPair X Sx (2 * t + 2)⟩, ⟨S32x256, xPair X Sx (2 * t + 1)⟩]
    concatenates_S32x256_S32x256_S32x256_S32x256_S32x256_S32x256_S32x256_S32x256_S256x256_d0

/-- One column of moved tiles of `dy`, starting at step `q`. -/
def zCol (A N : Fin 8 → Vec F S8x128 .i32) (D : Fin 4 → Fin 16 → Vec F S1x1x16x128 .bf16) (q : ℕ) : FVec F S256x128 .bf16 :=
  concatenate S256x128 0
    [⟨S16x128, zTile A N D 0 q⟩, ⟨S16x128, zTile A N D 0 (q + 1)⟩, ⟨S16x128, zTile A N D 1 q⟩, ⟨S16x128, zTile A N D 1 (q + 1)⟩,
      ⟨S16x128, zTile A N D 2 q⟩, ⟨S16x128, zTile A N D 2 (q + 1)⟩, ⟨S16x128, zTile A N D 3 q⟩, ⟨S16x128, zTile A N D 3 (q + 1)⟩,
      ⟨S16x128, zTile A N D 0 (q + 2)⟩, ⟨S16x128, zTile A N D 0 (q + 3)⟩, ⟨S16x128, zTile A N D 1 (q + 2)⟩, ⟨S16x128, zTile A N D 1 (q + 3)⟩,
      ⟨S16x128, zTile A N D 2 (q + 2)⟩, ⟨S16x128, zTile A N D 2 (q + 3)⟩, ⟨S16x128, zTile A N D 3 (q + 2)⟩, ⟨S16x128, zTile A N D 3 (q + 3)⟩]
    concatenates_S16x128_S16x128_S16x128_S16x128_S16x128_S16x128_S16x128_S16x128_S16x128_S16x128_S16x128_S16x128_S16x128_S16x128_S16x128_S16x128_S256x128_d0

/-- The `dy` operand of the product number `t`. -/
def zStack (A N : Fin 8 → Vec F S8x128 .i32) (D : Fin 4 → Fin 16 → Vec F S1x1x16x128 .bf16) (t : ℕ) : FVec F S256x256 .bf16 :=
  concatenate S256x256 1 [⟨S256x128, zCol A N D (4 * t)⟩, ⟨S256x128, zCol A N D (4 * t + 1)⟩] concatenates_S256x128_S256x128_S256x256_d1

/-- The sum of the first `t` products of `x` with the moved tiles of `dy`. -/
def dhAcc (A N : Fin 8 → Vec F S8x128 .i32) (D : Fin 4 → Fin 16 → Vec F S1x1x16x128 .bf16) (X : Fin 8 → Vec F S8x128 .i32)
    (Sx : Fin 8 → Vec F S32x128 .bf16) : ℕ → FVec F S256x256 .f32
  | 0 => broadcast S256x256 (Scalar.ofBits .f32 0x00000000#32)
  | t + 1 => addf (dhAcc A N D X Sx t)
      (matmul dot_S256x256_S256x256_S256x256_1_0_0_1_n_n none (xStack X Sx t) (zStack A N D t) (constant S256x256 .f32 0x00000000#32))

/-- The offsets of an eight-row tile inside the 256-by-256 sum are in range. -/
theorem gSlices (n g : ℕ) : S256x256.Slices ![32 * (n / 2 % 8) + 8 * (g % 4), 128 * (n % 2)] S8x128 := by
  refine ⟨rfl, fun a => ?_⟩
  fin_cases a
  · show 32 * (n / 2 % 8) + 8 * (g % 4) + 8 ≤ 256; omega
  · show 128 * (n % 2) + 128 ≤ 256; omega

/-- The eight rows number `g` of the tile number `n` of the sum `G`; zero past the end. -/
def gTile (G : FVec F S256x256 .f32) (n g : ℕ) : FVec F S8x128 .f32 :=
  match Nat.ble 16 n with
  | true => broadcast S8x128 (Scalar.ofBits .f32 0x00000000#32)
  | false => extractStridedSlice S8x128 ![32 * (n / 2 % 8) + 8 * (g % 4), 128 * (n % 2)] G (gSlices n g)

/-- The lane each element of a skewed tile comes from, before and after wrapping negative ones. -/
def skewLane (g : ℕ) : IVec S8x128 32 :=
  andi (addi (addi lane8 sub8) (broadcast S8x128 (BitVec.ofNat 32 (8 * g)))) (broadcast S8x128 127#32)
def skewIdx (g : ℕ) : IVec S8x128 32 :=
  shapeCast S8x128 (shapeCast S8x128x1
    (select (cmpi .slt (skewLane g) (broadcast S8x128 0#32)) (addi (skewLane g) (broadcast S8x128 128#32)) (skewLane g))
    shapeCasts_S8x128_S8x128x1) shapeCasts_S8x128x1_S8x128

/-- The eight rows number `g` of the tiles `n` and `n + 1`, each row moved left by its number. -/
def skewPart (G : FVec F S256x256 .f32) (n g : ℕ) : FVec F S8x128 .f32 :=
  dynamicGather 1 (select (cmpi .sge lane8 (addi sub8 (broadcast S8x128 (BitVec.ofNat 32 (8 * g))))) (gTile G n g) (gTile G (n + 1) g)) (skewIdx g)

/-- The sum of the four skewed parts of the tile number `n`. -/
def skewTile (G : FVec F S256x256 .f32) (n : ℕ) : FVec F S8x128 .f32 :=
  shapeCast S8x128 (addf (addf (addf (addf (broadcast S8x128 (Scalar.ofBits .f32 0x00000000#32)) (skewPart G n 0)) (skewPart G n 1))
    (skewPart G n 2)) (skewPart G n 3)) shapeCasts_S8x128_S8x128

/-- The offsets of a sixteen-row tile inside the channel's `dx` are in range. -/
theorem oSlices (r : ℕ) : S128x256.Slices ![16 * (r / 2 % 8), 128 * (r % 2)] S16x128 := by
  refine ⟨rfl, fun a => ?_⟩
  fin_cases a
  · show 16 * (r / 2 % 8) + 16 ≤ 128; omega
  · show 128 * (r % 2) + 128 ≤ 256; omega

/-- The sixteen-row tile number `r` of the channel's `dx`. -/
def oTile (O : FVec F S128x256 .bf16) (r : ℕ) : FVec F S16x128 .f32 :=
  shapeCast S16x128 (extf .f32 (extractStridedSlice S16x128 ![16 * (r / 2 % 8), 128 * (r % 2)] O (oSlices r)) bitsLt_bf16_f32)
    shapeCasts_S16x128_S16x128

end Cert.KernelIdeal.Hand
end
-- ==== Proof.Concat.lean ====
/-
  A concatenation of tiles of one shape, along the rows or along the columns, read at a place: the tile the quotient
  names, at the remainder.
-/
module

import Idealize.ShloMosaic.Lib.Pointwise.SelectCore
public import Idealize.ShloMosaic.Lib.ValueIdxCore

@[expose] public section

namespace Idealize.ShloMosaic.ValueIdx

open Idealize.ShloMosaic

variable {α : Type}

private theorem concatAt_rows {T h w : ℕ} (r : Fin h) (c : Fin w) (x : (⟨2, ![h, w]⟩ : Shape).Idx → α) (m : Fin T) :
    ∀ (xs : List ((⟨2, ![h, w]⟩ : Shape).Idx → α)) (k n : ℕ) (hs) (hn), n = h * k + r.val → xs[k]? = some x →
      concatenateAt ⟨2, ![T, w]⟩ 0 (ix2 m c) (xs.map fun x => (⟨⟨2, ![h, w]⟩, x⟩ : (s : Shape) × (s.Idx → α))) hs n hn = x (ix2 r c)
  | [], k, n, hs, hn, _, hx => by simp at hx
  | [y], k, n, hs, hn, hk, hx => by
    have hk0 : k = 0 := by
      rcases k with _ | k
      · rfl
      · simp at hx
    subst hk0
    obtain rfl : y = x := by simpa using hx
    simp only [List.map_cons, List.map_nil, concatenateAt_singleton, Shape.Idx.norm_def]
    congr 1
    funext b
    match b with
    | ⟨0, _⟩ => exact Fin.ext (by show n = r.val; omega)
    | ⟨1, _⟩ => rfl
  | y :: z :: xs, k, n, hs, hn, hk, hx => by
    have hr := r.isLt
    simp only [List.map_cons, concatenateAt_cons, Shape.Idx.norm_def]
    rcases k with _ | k
    · obtain rfl : y = x := by simpa using hx
      refine (dif_pos (show n < h by omega)).trans ?_
      congr 1
      funext b
      match b with
      | ⟨0, _⟩ => exact Fin.ext (by show n = r.val; omega)
      | ⟨1, _⟩ => rfl
    · have hm : h * (k + 1) = h * k + h := Nat.mul_succ h k
      refine (dif_neg (show ¬ n < h by omega)).trans ?_
      exact concatAt_rows r c x m (z :: xs) k (n - h) _ _ (by omega) (by simpa using hx)

/-- Tiles one below the other. -/
theorem concat_rows {T h w : ℕ} (xs : List ((⟨2, ![h, w]⟩ : Shape).Idx → α))
    (H : Shape.Concatenates ((xs.map fun x => (⟨⟨2, ![h, w]⟩, x⟩ : (s : Shape) × (s.Idx → α))).map (·.1)) ⟨2, ![T, w]⟩ 0)
    (m : Fin T) (c : Fin w) (k : ℕ) (r : Fin h) (hk : m.val = h * k + r.val) (x : (⟨2, ![h, w]⟩ : Shape).Idx → α) (hx : xs[k]? = some x) :
    concatenate ⟨2, ![T, w]⟩ 0 (xs.map fun x => (⟨⟨2, ![h, w]⟩, x⟩ : (s : Shape) × (s.Idx → α))) H (ix2 m c) = x (ix2 r c) := by
  rw [concatenate_apply]
  exact concatAt_rows r c x m xs k _ _ _ hk hx

private theorem concatAt_cols {T h w : ℕ} (r : Fin h) (c : Fin w) (x : (⟨2, ![h, w]⟩ : Shape).Idx → α) (m : Fin T) :
    ∀ (xs : List ((⟨2, ![h, w]⟩ : Shape).Idx → α)) (k n : ℕ) (hs) (hn), n = w * k + c.val → xs[k]? = some x →
      concatenateAt ⟨2, ![h, T]⟩ 1 (ix2 r m) (xs.map fun x => (⟨⟨2, ![h, w]⟩, x⟩ : (s : Shape) × (s.Idx → α))) hs n hn = x (ix2 r c)
  | [], k, n, hs, hn, _, hx => by simp at hx
  | [y], k, n, hs, hn, hk, hx => by
    have hk0 : k = 0 := by
      rcases k with _ | k
      · rfl
      · simp at hx
    subst hk0
    obtain rfl : y = x := by simpa using hx
    simp only [List.map_cons, List.map_nil, concatenateAt_singleton, Shape.Idx.norm_def]
    congr 1
    funext b
    match b with
    | ⟨0, _⟩ => rfl
    | ⟨1, _⟩ => exact Fin.ext (by show n = c.val; omega)
  | y :: z :: xs, k, n, hs, hn, hk, hx => by
    have hr := c.isLt
    simp only [List.map_cons, concatenateAt_cons, Shape.Idx.norm_def]
    rcases k with _ | k
    · obtain rfl : y = x := by simpa using hx
      refine (dif_pos (show n < w by omega)).trans ?_
      congr 1
      funext b
      match b with
      | ⟨0, _⟩ => rfl
      | ⟨1, _⟩ => exact Fin.ext (by show n = c.val; omega)
    · have hm : w * (k + 1) = w * k + w := Nat.mul_succ w k
      refine (dif_neg (show ¬ n < w by omega)).trans ?_
      exact concatAt_cols r c x m (z :: xs) k (n - w) _ _ (by omega) (by simpa using hx)

/-- Tiles side by side. -/
theorem concat_cols {T h w : ℕ} (xs : List ((⟨2, ![h, w]⟩ : Shape).Idx → α))
    (H : Shape.Concatenates ((xs.map fun x => (⟨⟨2, ![h, w]⟩, x⟩ : (s : Shape) × (s.Idx → α))).map (·.1)) ⟨2, ![h, T]⟩ 1)
    (r : Fin h) (m : Fin T) (k : ℕ) (c : Fin w) (hk : m.val = w * k + c.val) (x : (⟨2, ![h, w]⟩ : Shape).Idx → α) (hx : xs[k]? = some x) :
    concatenate ⟨2, ![h, T]⟩ 1 (xs.map fun x => (⟨⟨2, ![h, w]⟩, x⟩ : (s : Shape) × (s.Idx → α))) H (ix2 r m) = x (ix2 r c) := by
  rw [concatenate_apply]
  exact concatAt_cols r c x m xs k _ _ _ hk hx

end Idealize.ShloMosaic.ValueIdx
-- ==== Proof.TileBytes.lean ====
/-
  Tiles of words read at an element, over the extended reals: a byte of a word, a block of words moved some lanes, and the
  scaled tiles of `dy` and `x` in terms of the codes and scales they stand for.
-/
module

public import proofs.«01_k».proof.Proof.Tiles
public import proofs.«01_k».proof.Proof.Concat
public import Idealize.ShloMosaic.Lib.BitcastFour
public import Idealize.ShloMosaic.Lib.BitcastPair
public import Idealize.ShloMosaic.Lib.ValueLayout
public import Idealize.ShloMosaic.Lib.IdealHost
public import Idealize.ShloMosaic.Lib.Pipeline.Value
public import Idealize.ShloMosaic.PureOps.Ideal.Laws

@[expose] public section

set_option maxHeartbeats 400000

noncomputable section

namespace Cert.KernelIdeal.Val

open Cert.KernelIdeal Cert.KernelIdeal.Gen Cert.KernelIdeal.Hand
open Idealize.ShloMosaic Idealize.ShloMosaic.TcCoe Idealize.ShloMosaic.ValueIdx

/-- Byte `j` of a word. -/
def byteAt (w : BitVec 32) (j : ℕ) : BitVec 8 := w.extractLsb' (8 * j) 8

theorem byteAt_of_bits (w : BitVec 32) (j : ℕ) (hj : j < 4) (x : BitVec 8)
    (h : ∀ n, n < 32 → n / 8 = j → w.getLsbD n = x.getLsbD (n % 8)) : byteAt w j = x := by
  apply BitVec.eq_of_getLsbD_eq
  intro i hi
  unfold byteAt
  rw [BitVec.getLsbD_extractLsb', h (8 * j + i) (by omega) (by omega), show (8 * j + i) % 8 = i by omega]
  simp [hi]

/-- The number an eight-bit code stands for. -/
def dec5 (b : BitVec 8) : EReal := (FloatOps.ofBits (F := Ideal) .fp8e5m2 b : Ideal .fp8e5m2)
def dec4 (b : BitVec 8) : EReal := (FloatOps.ofBits (F := Ideal) .fp8e4m3 b : Ideal .fp8e4m3)

theorem bitcast_32_8_ix2 {R r n : ℕ} (x : (⟨2, ![r, n]⟩ : Shape).Idx → BitVec 32)
    (h : (⟨2, ![r, n]⟩ : Shape).Bitcasts 32 ⟨2, ![R, n]⟩ 8) (p : Fin R) (l : Fin n) (a : Fin r) (j : ℕ) (hj : j < 4)
    (hp : p.val = 4 * a.val + j) :
    (bitcast ⟨2, ![R, n]⟩ 8 x h (ix2 p l)) = byteAt (x (ix2 a l)) j := by
  symm
  refine byteAt_of_bits _ j hj _ fun q hq hqj => ?_
  rw [bitcast_getLsbD x h _ (q % 8) (by omega) (by decide)]
  have hrow : (⟨2, ![R, n]⟩ : Shape).row (ix2 p l) = p.val := rfl
  have e : ((⟨2, ![R, n]⟩ : Shape).row (ix2 p l) * 8 + q % 8) % 32 = q := by rw [hrow]; omega
  have e' : ((⟨2, ![R, n]⟩ : Shape).row (ix2 p l) * 8 + q % 8) / 32 = a.val := by rw [hrow]; omega
  rw [e]
  congr 2
  funext c
  match c with
  | ⟨0, _⟩ => exact Fin.ext (e'.symm.trans (h.srcIdx_row _ _ _ ⟨0, Nat.zero_lt_two⟩ rfl).symm)
  | ⟨1, _⟩ => exact Fin.ext (by rw [h.srcIdx_other _ _ _ ⟨1, Nat.one_lt_two⟩ (by show ¬ 1 + 2 = 2; omega)]; rfl)

theorem dyNum_apply (w : Vec Ideal S8x128 .i32) (p : Fin 32) (l : Fin 128) (a : Fin 8) (j : ℕ) (hj : j < 4) (hp : p.val = 4 * a.val + j) :
    dyNum w (ix2 p l) = dec5 (byteAt (w (ix2 a l)) j) := by
  show dec5 (bitcast S32x128 8 w bitcasts_S8x128_w32_S32x128_w8 (ix2 p l)) = _
  rw [bitcast_32_8_ix2 w bitcasts_S8x128_w32_S32x128_w8 p l a j hj hp]

theorem lane8_apply (s : Fin 8) (l : Fin 128) : lane8 (ix2 s l) = BitVec.ofNat 32 (0 * 128 + l.val) := rfl
theorem sub8_apply (s : Fin 8) (l : Fin 128) : sub8 (ix2 s l) = BitVec.ofNat 32 (0 * 8 + s.val) := rfl

theorem slt_ofNat (a b : ℕ) (ha : a < 2 ^ 31) (hb : b < 2 ^ 31) :
    IntOp.cmpi .slt (BitVec.ofNat 32 a) (BitVec.ofNat 32 b) = if a < b then 1#1 else 0#1 := by
  unfold IntOp.cmpi
  simp only [BitVec.slt]
  rw [BitVec.toInt_eq_toNat_of_lt (by simp only [BitVec.toNat_ofNat]; omega), BitVec.toInt_eq_toNat_of_lt (by simp only [BitVec.toNat_ofNat]; omega)]
  simp only [BitVec.toNat_ofNat]
  rw [Nat.mod_eq_of_lt (by omega), Nat.mod_eq_of_lt (by omega)]
  by_cases h : a < b
  · simp [h]
  · simp [h]

theorem moved_apply (v : ℕ) (hv : 1 ≤ v) (hv4 : v < 4) (a b : Vec Ideal S8x128 .i32) (s : Fin 8) (l m : Fin 128)
    (hm : m.val = (l.val + 32 * v) % 128) :
    moved (BitVec.ofNat 32 (32 * v)) (BitVec.ofNat 32 (128 - 32 * v)) a b (ix2 s l) = if l.val + 32 * v < 128 then a (ix2 s m) else b (ix2 s m) := by
  have hl := l.isLt
  have hmm := m.isLt
  have step : moved (BitVec.ofNat 32 (32 * v)) (BitVec.ofNat 32 (128 - 32 * v)) a b (ix2 s l)
      = select (cmpi .slt lane8 (broadcast S8x128 (BitVec.ofNat 32 (32 * v)))) b a (ix2 s m) := by
    unfold moved dynamicRotate
    refine congrArg (select (cmpi .slt lane8 (broadcast S8x128 (BitVec.ofNat 32 (32 * v)))) b a) (funext fun c => ?_)
    match c with
    | ⟨0, _⟩ => rfl
    | ⟨1, _⟩ => exact Fin.ext (by
        show (l.val + 128 - ((BitVec.ofNat 32 (128 - 32 * v)).toNat + 0) % 128) % 128 = m.val
        rw [BitVec.toNat_ofNat]; omega)
  rw [step]
  show Scalar.select (IntOp.cmpi .slt (BitVec.ofNat 32 (0 * 128 + m.val)) (BitVec.ofNat 32 (32 * v))) (b (ix2 s m)) (a (ix2 s m)) = _
  rw [slt_ofNat _ _ (by omega) (by omega)]
  by_cases h : l.val + 32 * v < 128
  · rw [if_neg (by omega), if_pos h]; exact if_neg (by decide)
  · rw [if_pos (by omega), if_neg h]; exact if_pos rfl

section Dy
variable (A N : Fin 8 → Vec Ideal S8x128 .i32) (D : Fin 4 → Fin 16 → Vec Ideal S1x1x16x128 .bf16)
variable (dyc : ℕ → ℕ → BitVec 8) (dsc : ℕ → ℕ → EReal)

/-- The scaled `dy` of batch `b` at time `t`, zero outside. -/
def Zv (b t : ℕ) : EReal := if b < 12 ∧ t < 2048 then dec5 (dyc b t) * dsc b t else 0

theorem Zv_late (b t : ℕ) (h : 2048 ≤ t) : Zv dyc dsc b t = 0 := if_neg (by omega)

theorem dyWords_apply
    (hA : ∀ (r s : Fin 8) (l : Fin 128) (j : ℕ), j < 4 → s.val % 4 < 3 →
      byteAt (A r (ix2 s l)) j = dyc (4 * (s.val % 4) + j) (128 * (2 * r.val + s.val / 4) + l.val))
    (hN : ∀ (r s : Fin 8) (l : Fin 128) (j : ℕ), j < 4 → s.val % 4 < 3 → 2 * r.val + s.val / 4 + 1 < 16 →
      byteAt (N r (ix2 s l)) j = dyc (4 * (s.val % 4) + j) (128 * (2 * r.val + s.val / 4 + 1) + l.val))
    (v : ℕ) (hv : v < 4) (r s : Fin 8) (l : Fin 128) (j : ℕ) (hj : j < 4) (hs : s.val % 4 < 3)
    (ht : 128 * (2 * r.val + s.val / 4) + 32 * v + l.val < 2048) :
    byteAt (dyWords A N v r (ix2 s l)) j = dyc (4 * (s.val % 4) + j) (128 * (2 * r.val + s.val / 4) + 32 * v + l.val) := by
  have hl := l.isLt
  rcases v with _ | v
  · rw [show dyWords A N 0 r = A r from rfl, hA r s l j hj hs]; congr 1
  · rw [show dyWords A N (v + 1) r = moved (BitVec.ofNat 32 (32 * (v + 1))) (BitVec.ofNat 32 (128 - 32 * (v + 1))) (A r) (N r) from rfl,
      moved_apply (v + 1) (by omega) hv (A r) (N r) s l ⟨(l.val + 32 * (v + 1)) % 128, Nat.mod_lt _ (by omega)⟩ rfl]
    by_cases h : l.val + 32 * (v + 1) < 128
    · rw [if_pos h, hA r s _ j hj hs]; congr 1; show _ + (l.val + 32 * (v + 1)) % 128 = _; omega
    · rw [if_neg h, hN r s _ j hj hs (by omega)]; congr 1; show _ + (l.val + 32 * (v + 1)) % 128 = _; omega

theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 0 0 i j) := by
  refine shapeCast_apply x h _ _ ?_
  rw [Shape.rowMajor_val_four, Shape.rowMajor_val_two]
  show ((0 * 1 + 0) * a + i.val) * b + j.val = i.val * b + j.val
  simp

theorem half_apply (w : Vec Ideal S8x128 .i32) (e : ℕ) (he : e < 2) (b : Fin 16) (l : Fin 128) (a : Fin 8) (ha : a.val = 4 * e + b.val / 4) :
    (match e with
        | 0 => extractStridedSlice S16x128 ![0, 0] (dyNum w) slices_S32x128_o0_0_S16x128
        | _ + 1 => extractStridedSlice S16x128 ![16, 0] (dyNum w) slices_S32x128_o16_0_S16x128) (ix2 b l)
      = dec5 (byteAt (w (ix2 a l)) (b.val % 4)) := by
  have hb := b.isLt
  obtain rfl | rfl : e = 0 ∨ e = 1 := by omega
  · show extractStridedSlice S16x128 ![0, 0] (dyNum w) slices_S32x128_o0_0_S16x128 (ix2 b l) = _
    rw [extractStridedSlice_apply _ _ _ (ix2 b l) (ix2 (⟨b.val, by omega⟩ : Fin 32) l) (by
      intro a; fin_cases a
      · show b.val = 0 + b.val; omega
      · show l.val = 0 + l.val; omega)]
    exact dyNum_apply _ _ _ _ _ (by omega) (by show b.val = 4 * a.val + b.val % 4; omega)
  · show extractStridedSlice S16x128 ![16, 0] (dyNum w) slices_S32x128_o16_0_S16x128 (ix2 b l) = _
    rw [extractStridedSlice_apply _ _ _ (ix2 b l) (ix2 (⟨16 + b.val, by omega⟩ : Fin 32) l) (by
      intro a; fin_cases a
      · show 16 + b.val = 16 + b.val; omega
      · show l.val = 0 + l.val; omega)]
    exact dyNum_apply _ _ _ _ _ (by omega) (by show 16 + b.val = 4 * a.val + b.val % 4; omega)

theorem zTile_apply
    (hA : ∀ (r s : Fin 8) (l : Fin 128) (j : ℕ), j < 4 → s.val % 4 < 3 →
      byteAt (A r (ix2 s l)) j = dyc (4 * (s.val % 4) + j) (128 * (2 * r.val + s.val / 4) + l.val))
    (hN : ∀ (r s : Fin 8) (l : Fin 128) (j : ℕ), j < 4 → s.val % 4 < 3 → 2 * r.val + s.val / 4 + 1 < 16 →
      byteAt (N r (ix2 s l)) j = dyc (4 * (s.val % 4) + j) (128 * (2 * r.val + s.val / 4 + 1) + l.val))
    (hD : ∀ (v : Fin 4) (q b : Fin 16) (l : Fin 128),
      D v q (ix4 0 0 b l) = if b.val < 12 ∧ 128 * q.val + 32 * v.val + l.val < 2048 then dsc b.val (128 * q.val + 32 * v.val + l.val) else 0)
    (v : ℕ) (hv : v < 4) (q : ℕ) (b : Fin 16) (l : Fin 128) :
    zTile A N D v q (ix2 b l) = Zv dyc dsc b.val (128 * q + 32 * v + l.val) := by
  have hl := l.isLt
  have hb := b.isLt
  by_cases hq : 16 ≤ q
  · unfold zTile
    rw [show Nat.ble 16 q = true from Nat.ble_eq_true_of_le hq, Zv_late _ _ _ _ (by omega)]
    exact Ideal.ofBits_zero_bf16
  have hq' : q < 16 := by omega
  have hval : zTile A N D v q (ix2 b l)
      = dec5 (byteAt (dyWords A N v (Fin.ofNat 8 (q / 2)) (ix2 (⟨4 * (q % 2) + b.val / 4, by omega⟩ : Fin 8) l)) (b.val % 4))
        * D (Fin.ofNat 4 v) (Fin.ofNat 16 q) (ix4 0 0 b l) := by
    unfold zTile
    rw [show Nat.ble 16 q = false from by rw [← Bool.not_eq_true, Nat.ble_eq]; omega]
    show _ * shapeCast S16x128 (D (Fin.ofNat 4 v) (Fin.ofNat 16 q)) shapeCasts_S1x1x16x128_S16x128 (ix2 b l) = _
    rw [shapeCast_11ab_ab_apply]
    congr 1
    exact half_apply _ (q % 2) (Nat.mod_lt _ (by omega)) b l _ rfl
  have e4 : (Fin.ofNat 4 v).val = v := Nat.mod_eq_of_lt hv
  have e16 : (Fin.ofNat 16 q).val = q := Nat.mod_eq_of_lt hq'
  have e8 : (Fin.ofNat 8 (q / 2)).val = q / 2 := Nat.mod_eq_of_lt (by omega)
  rw [hval, hD, e4, e16]
  unfold Zv
  by_cases h : b.val < 12 ∧ 128 * q + 32 * v + l.val < 2048
  · rw [if_pos h, if_pos h, dyWords_apply A N dyc hA hN v hv (Fin.ofNat 8 (q / 2)) (⟨4 * (q % 2) + b.val / 4, by omega⟩ : Fin 8) l (b.val % 4) (by omega)
      (by show (4 * (q % 2) + b.val / 4) % 4 < 3; omega)
      (by show 128 * (2 * (Fin.ofNat 8 (q / 2)).val + (4 * (q % 2) + b.val / 4) / 4) + 32 * v + l.val < 2048; rw [e8]; omega)]
    congr 3
    · show 4 * ((4 * (q % 2) + b.val / 4) % 4) + b.val % 4 = b.val; omega
    · show 128 * (2 * (Fin.ofNat 8 (q / 2)).val + (4 * (q % 2) + b.val / 4) / 4) + 32 * v + l.val = _; rw [e8]; omega
  · rw [if_neg h, if_neg h, mul_zero]

end Dy

end Cert.KernelIdeal.Val
end
-- ==== Proof.Sums.lean ====
/-
  Re-indexing finite sums over ranges of naturals: nested ranges as one, and a sum moved past terms that are zero.
-/
module

public import Mathlib.Algebra.BigOperators.Intervals
public import Mathlib.Algebra.BigOperators.Fin

@[expose] public section

namespace Cert.Sums

open Finset

variable {M : Type} [AddCommMonoid M]

/-- A sum over rows and columns is the sum over the numbered cells. -/
theorem sum_range_mul (a b : ℕ) (f : ℕ → M) : ∑ i ∈ range a, ∑ j ∈ range b, f (b * i + j) = ∑ k ∈ range (b * a), f k := by
  induction a with
  | zero => simp
  | succ a ih => rw [sum_range_succ, ih, Nat.mul_succ, sum_range_add]

/-- The same read the other way, with the cell's row and column. -/
theorem sum_range_split (a b : ℕ) (N : ℕ) (hN : N = b * a) (f : ℕ → M) :
    ∑ k ∈ range N, f k = ∑ i ∈ range a, ∑ j ∈ range b, f (b * i + j) := by
  rw [hN, sum_range_mul]

/-- A sum started at `k` instead of at `0`, when nothing lies below `k` and nothing at or past `N`. -/
theorem sum_shift (N k : ℕ) (g : ℕ → M) (hlo : ∀ u, u < k → g u = 0) (hhi : ∀ u, N ≤ u → g u = 0) :
    ∑ w ∈ range N, g (k + w) = ∑ u ∈ range N, g u := by
  have h1 := sum_range_add g k N
  have h2 := sum_range_add g N k
  have z1 : ∑ x ∈ range k, g x = 0 := sum_eq_zero fun x hx => hlo x (mem_range.1 hx)
  have z2 : ∑ x ∈ range k, g (N + x) = 0 := sum_eq_zero fun x _ => hhi _ (Nat.le_add_right _ _)
  rw [z1, zero_add] at h1
  rw [z2, add_zero, Nat.add_comm] at h2
  exact h1.symm.trans h2

/-- A sum whose terms come `a` places late, when the last `a` terms are zero. -/
theorem sum_delay (N a : ℕ) (g : ℕ → M) (h : ∀ u, N ≤ u + a → g u = 0) :
    ∑ u ∈ range N, (if a ≤ u then g (u - a) else 0) = ∑ u ∈ range N, g u := by
  rw [← sum_shift N a (fun u => if a ≤ u then g (u - a) else 0)]
  · exact sum_congr rfl fun w _ => by
      show (if a ≤ a + w then g (a + w - a) else 0) = g w
      rw [if_pos (Nat.le_add_right _ _), Nat.add_sub_cancel_left]
  · intro u hu; exact if_neg (by omega)
  · intro u hu
    show (if a ≤ u then g (u - a) else 0) = 0
    split
    · exact h _ (by omega)
    · rfl

end Cert.Sums
-- ==== Proof.TileDx.lean ====
/-
  One channel's `dx` tile over the extended reals: the eight products with Toeplitz tiles add up to one sum over time.
-/
module

public import proofs.«01_k».proof.Proof.TileBytes
public import proofs.«01_k».proof.Proof.Sums
public import Idealize.ShloMosaic.Lib.MatmulPlain
import Idealize.ShloMosaic.Lib.ValueLayout

@[expose] public section

set_option maxHeartbeats 400000

noncomputable section

namespace Cert.KernelIdeal.Val

open Cert.KernelIdeal Cert.KernelIdeal.Gen Cert.KernelIdeal.Hand
open Idealize.ShloMosaic Idealize.ShloMosaic.TcCoe Idealize.ShloMosaic.ValueIdx
open Cert.Sums Finset

/-! ## The Toeplitz tiles -/

/-- The filter code that multiplies the value at time `u` in the result at time `t`. -/
def hzv (hc : ℕ → BitVec 8) (u t : ℕ) : BitVec 8 := if t ≤ u ∧ u - t < 2048 then hc (u - t) else 0#8

theorem dec4_zero : dec4 0#8 = 0 := by
  unfold dec4
  show Ideal.ofBits .fp8e4m3 0x00#8 = 0
  simp [Ideal.ofBits, Ideal.e4m3fn]

theorem hzv_congr (hc : ℕ → BitVec 8) (u t u' t' : ℕ) (h : u + t' = u' + t) : hzv hc u t = hzv hc u' t' := by
  unfold hzv
  rw [show u - t = u' - t' by omega]
  by_cases h1 : t ≤ u
  · simp [h1, show t' ≤ u' by omega]
  · simp [h1, show ¬ t' ≤ u' by omega]

section Tz
variable (H : ℕ → Vec Ideal S1x1x128 .i32) (hc : ℕ → BitVec 8)

theorem hRow_apply (h : Vec Ideal S1x1x128 .i32) (s : Fin 8) (l : Fin 128) : hRow (F := Ideal) h (ix2 s l) = h (ix3 0 0 l) := by
  unfold hRow
  rw [shapeCast_self, broadcastTo_1b_ab_apply]
  refine shapeCast_apply h _ (ix2 (0 : Fin 1) l) (ix3 0 0 l) ?_
  rw [Shape.rowMajor_val_three, Shape.rowMajor_val_two]
  show (0 * 1 + 0) * 128 + l.val = 0 * 128 + l.val
  rfl

theorem tzPart_apply (hH : ∀ e, e < 17 → ∀ (l : Fin 128) (j : ℕ), j < 4 → byteAt (H e (ix3 0 0 l)) j = hzv hc (128 * e + j) l.val)
    (e : ℕ) (he : e + 1 < 17) (k : ℕ) (hk : k < 4) (p : Fin 32) (l : Fin 128) :
    tzPart (F := Ideal) (BitVec.ofNat 32 (128 - 32 * k)) (BitVec.ofNat 32 (32 * k)) (H e) (H (e + 1)) (ix2 p l)
      = dec4 (hzv hc (128 * e + 32 * k + p.val) l.val) := by
  have hp := p.isLt
  have hl := l.isLt
  let s : Fin 8 := ⟨p.val / 4, by omega⟩
  let m : Fin 128 := ⟨(l.val + 128 - (32 * k + 4 * s.val)) % 128, Nat.mod_lt _ (by omega)⟩
  have hs : s.val = p.val / 4 := rfl
  have hm : m.val = (l.val + 128 - (32 * k + 4 * s.val)) % 128 := rfl
  unfold tzPart
  show dec4 (bitcast S32x128 8 _ bitcasts_S8x128_w32_S32x128_w8 (ix2 p l)) = _
  rw [bitcast_32_8_ix2 _ bitcasts_S8x128_w32_S32x128_w8 p l s (p.val % 4) (by omega) (by rw [hs]; omega)]
  have step : dynamicRotate 1 (BitVec.ofNat 32 (32 * k)) (some (4, 0))
        (select (cmpi .slt (addi lane8 (muli (broadcast S8x128 4#32) sub8)) (broadcast S8x128 (BitVec.ofNat 32 (128 - 32 * k)))) (hRow (F := Ideal) (H e)) (hRow (F := Ideal) (H (e + 1))))
        rotates_S8x128_d1s4a0 (ix2 s l)
      = select (cmpi .slt (addi lane8 (muli (broadcast S8x128 4#32) sub8)) (broadcast S8x128 (BitVec.ofNat 32 (128 - 32 * k)))) (hRow (F := Ideal) (H e)) (hRow (F := Ideal) (H (e + 1))) (ix2 s m) := by
    unfold dynamicRotate
    refine congrArg (select (cmpi .slt (addi lane8 (muli (broadcast S8x128 4#32) sub8)) (broadcast S8x128 (BitVec.ofNat 32 (128 - 32 * k)))) (hRow (F := Ideal) (H e)) (hRow (F := Ideal) (H (e + 1)))) (funext fun c => ?_)
    match c with
    | ⟨0, _⟩ => rfl
    | ⟨1, _⟩ => exact Fin.ext (by
        show (l.val + 128 - ((BitVec.ofNat 32 (32 * k)).toNat + 4 * s.val) % 128) % 128 = m.val
        rw [BitVec.toNat_ofNat, hm]; omega)
  rw [step]
  have hcmp : cmpi .slt (addi lane8 (muli (broadcast S8x128 4#32) sub8)) (broadcast S8x128 (BitVec.ofNat 32 (128 - 32 * k))) (ix2 s m)
      = if m.val + 4 * s.val < 128 - 32 * k then 1#1 else 0#1 := by
    rw [← slt_ofNat _ _ (by omega) (by omega)]
    show IntOp.cmpi .slt (BitVec.ofNat 32 (0 * 128 + m.val) + 4#32 * BitVec.ofNat 32 (0 * 8 + s.val)) _ = _
    congr 1
    apply BitVec.eq_of_toNat_eq
    simp only [BitVec.toNat_add, BitVec.toNat_mul, BitVec.toNat_ofNat]
    omega
  show dec4 (byteAt (Scalar.select (cmpi .slt (addi lane8 (muli (broadcast S8x128 4#32) sub8)) (broadcast S8x128 (BitVec.ofNat 32 (128 - 32 * k))) (ix2 s m))
    (hRow (F := Ideal) (H e) (ix2 s m)) (hRow (F := Ideal) (H (e + 1)) (ix2 s m))) (p.val % 4)) = _
  rw [hcmp, hRow_apply, hRow_apply]
  by_cases h : m.val + 4 * s.val < 128 - 32 * k
  · rw [if_pos h, show ∀ (a b : BitVec 32), Scalar.select 1#1 a b = a from fun a b => if_pos rfl, hH e (by omega) m _ (by omega)]
    congr 1
    exact hzv_congr _ _ _ _ _ (by omega)
  · rw [if_neg h, show ∀ (a b : BitVec 32), Scalar.select 0#1 a b = b from fun a b => if_neg (by decide), hH (e + 1) (by omega) m _ (by omega)]
    congr 1
    exact hzv_congr _ _ _ _ _ (by omega)

theorem concat4_32 {α : Type} (x0 x1 x2 x3 : S32x128.Idx → α) (u t : Fin 128) (k : ℕ) (p : Fin 32) (x : S32x128.Idx → α)
    (hk : u.val = 32 * k + p.val) (hx : [x0, x1, x2, x3][k]? = some x) :
    concatenate S128x128 0 [⟨S32x128, x0⟩, ⟨S32x128, x1⟩, ⟨S32x128, x2⟩, ⟨S32x128, x3⟩]
      concatenates_S32x128_S32x128_S32x128_S32x128_S128x128_d0 (ix2 u t) = x (ix2 p t) :=
  concat_rows (T := 128) (h := 32) (w := 128) [x0, x1, x2, x3] concatenates_S32x128_S32x128_S32x128_S32x128_S128x128_d0 u t k p hk x hx

/-- A Toeplitz tile: entry `(u, t)` is the filter at `128 (e - 1) + u - t`. -/
theorem tzTile_apply (hH : ∀ e, e < 17 → ∀ (l : Fin 128) (j : ℕ), j < 4 → byteAt (H e (ix3 0 0 l)) j = hzv hc (128 * e + j) l.val)
    (e : ℕ) (he : e < 17) (u t : Fin 128) (a : ℕ) (ha : a = 128 * e + u.val) : tzTile H e (ix2 u t) = dec4 (hzv hc a (128 + t.val)) := by
  have hu := u.isLt
  rcases e with _ | e
  · rw [show hzv hc a (128 + t.val) = 0#8 from if_neg (by omega), dec4_zero]
    exact dec4_zero
  · have hk : u.val / 32 < 4 := by omega
    have hx : [tzPart (F := Ideal) 128#32 0#32 (H e) (H (e + 1)), tzPart 96#32 32#32 (H e) (H (e + 1)), tzPart 64#32 64#32 (H e) (H (e + 1)),
        tzPart 32#32 96#32 (H e) (H (e + 1))][u.val / 32]?
        = some (tzPart (F := Ideal) (BitVec.ofNat 32 (128 - 32 * (u.val / 32))) (BitVec.ofNat 32 (32 * (u.val / 32))) (H e) (H (e + 1))) := by
      generalize u.val / 32 = k at hk
      interval_cases k <;> rfl
    show concatenate S128x128 0
      [⟨S32x128, tzPart (F := Ideal) 128#32 0#32 (H e) (H (e + 1))⟩, ⟨S32x128, tzPart 96#32 32#32 (H e) (H (e + 1))⟩,
        ⟨S32x128, tzPart 64#32 64#32 (H e) (H (e + 1))⟩, ⟨S32x128, tzPart 32#32 96#32 (H e) (H (e + 1))⟩]
      concatenates_S32x128_S32x128_S32x128_S32x128_S128x128_d0 (ix2 u t) = _
    rw [concat4_32 _ _ _ _ u t (u.val / 32) ⟨u.val % 32, by omega⟩ _ (by show u.val = 32 * (u.val / 32) + u.val % 32; omega) hx,
      tzPart_apply H hc hH e he (u.val / 32) hk]
    congr 1
    exact hzv_congr _ _ _ _ _ (by show 128 * e + 32 * (u.val / 32) + u.val % 32 + _ = _; omega)

theorem concat2_128c {α : Type} (x0 x1 : S128x128.Idx → α) (u : Fin 128) (t : Fin 256) (k : ℕ) (p : Fin 128) (x : S128x128.Idx → α)
    (hk : t.val = 128 * k + p.val) (hx : [x0, x1][k]? = some x) :
    concatenate S128x256 1 [⟨S128x128, x0⟩, ⟨S128x128, x1⟩] concatenates_S128x128_S128x128_S128x256_d1 (ix2 u t) = x (ix2 u p) :=
  concat_cols (T := 256) (h := 128) (w := 128) [x0, x1] concatenates_S128x128_S128x128_S128x256_d1 u t k p hk x hx

theorem concat2_128r {α : Type} (x0 x1 : S128x256.Idx → α) (u : Fin 256) (t : Fin 256) (k : ℕ) (p : Fin 128) (x : S128x256.Idx → α)
    (hk : u.val = 128 * k + p.val) (hx : [x0, x1][k]? = some x) :
    concatenate S256x256 0 [⟨S128x256, x0⟩, ⟨S128x256, x1⟩] concatenates_S128x256_S128x256_S256x256_d0 (ix2 u t) = x (ix2 p t) :=
  concat_rows (T := 256) (h := 128) (w := 256) [x0, x1] concatenates_S128x256_S128x256_S256x256_d0 u t k p hk x hx

theorem tzPairCols_apply (hH : ∀ e, e < 17 → ∀ (l : Fin 128) (j : ℕ), j < 4 → byteAt (H e (ix3 0 0 l)) j = hzv hc (128 * e + j) l.val)
    (e : ℕ) (he : e + 1 < 17) (u : Fin 128) (t : Fin 256) :
    concatenate S128x256 1 [⟨S128x128, tzTile H (e + 1)⟩, ⟨S128x128, tzTile H e⟩] concatenates_S128x128_S128x128_S128x256_d1 (ix2 u t)
      = dec4 (hzv hc (128 * e + u.val) t.val) := by
  have ht := t.isLt
  by_cases h : t.val < 128
  · rw [concat2_128c _ _ u t 0 ⟨t.val, h⟩ _ (by show t.val = 128 * 0 + t.val; omega) rfl, tzTile_apply H hc hH (e + 1) he u ⟨t.val, h⟩ _ rfl]
    congr 1
    exact hzv_congr _ _ _ _ _ (by show _ = _ + (128 + t.val); omega)
  · rw [concat2_128c _ _ u t 1 ⟨t.val - 128, by omega⟩ _ (by show t.val = 128 * 1 + (t.val - 128); omega) rfl, tzTile_apply H hc hH e (by omega) u _ _ rfl]
    congr 1
    exact hzv_congr _ _ _ _ _ (by show _ = _ + (128 + (t.val - 128)); omega)

/-- The Toeplitz operand of product `d`: the filter at `256 d + u - t`. -/
theorem tzQuad_apply (hH : ∀ e, e < 17 → ∀ (l : Fin 128) (j : ℕ), j < 4 → byteAt (H e (ix3 0 0 l)) j = hzv hc (128 * e + j) l.val)
    (d : ℕ) (hd : d < 8) (u t : Fin 256) : tzQuad H d (ix2 u t) = dec4 (hzv hc (256 * d + u.val) t.val) := by
  have hu := u.isLt
  unfold tzQuad
  by_cases h : u.val < 128
  · rw [concat2_128r _ _ u t 0 ⟨u.val, h⟩ _ (by show u.val = 128 * 0 + u.val; omega) rfl, tzPairCols_apply H hc hH (2 * d) (by omega)]
    congr 1
    exact hzv_congr _ _ _ _ _ (by show 128 * (2 * d) + u.val + _ = _; omega)
  · rw [concat2_128r _ _ u t 1 ⟨u.val - 128, by omega⟩ _ (by show u.val = 128 * 1 + (u.val - 128); omega) rfl, tzPairCols_apply H hc hH (2 * d + 1) (by omega)]
    congr 1
    exact hzv_congr _ _ _ _ _ (by show 128 * (2 * d + 1) + (u.val - 128) + _ = _; omega)

end Tz

/-! ## The `dy` operand, and the sum -/

section Dx
variable (A N : Fin 8 → Vec Ideal S8x128 .i32) (D : Fin 4 → Fin 16 → Vec Ideal S1x1x16x128 .bf16) (H : ℕ → Vec Ideal S1x1x128 .i32)
variable (dyc : ℕ → ℕ → BitVec 8) (dsc : ℕ → ℕ → EReal) (hc : ℕ → BitVec 8)

theorem concat2_16c {α : Type} (x0 x1 : S16x128.Idx → α) (u : Fin 16) (t : Fin 256) (k : ℕ) (p : Fin 128) (x : S16x128.Idx → α)
    (hk : t.val = 128 * k + p.val) (hx : [x0, x1][k]? = some x) :
    concatenate S16x256 1 [⟨S16x128, x0⟩, ⟨S16x128, x1⟩] concatenates_S16x128_S16x128_S16x256_d1 (ix2 u t) = x (ix2 u p) :=
  concat_cols (T := 256) (h := 16) (w := 128) [x0, x1] concatenates_S16x128_S16x128_S16x256_d1 u t k p hk x hx

theorem dyPair_apply (hZ : ∀ (v : ℕ), v < 4 → ∀ (q : ℕ) (b : Fin 16) (l : Fin 128), zTile A N D v q (ix2 b l) = Zv dyc dsc b.val (128 * q + 32 * v + l.val))
    (i : ℕ) (b : Fin 16) (m : Fin 256) : dyPair A N D i (ix2 b m) = Zv dyc dsc b.val (256 * i + m.val) := by
  have hm := m.isLt
  unfold dyPair
  by_cases hi : 8 ≤ i
  · rw [show Nat.ble 8 i = true from Nat.ble_eq_true_of_le hi, Zv_late _ _ _ _ (by omega)]
    exact Ideal.ofBits_zero_bf16
  · rw [show Nat.ble 8 i = false from by rw [← Bool.not_eq_true, Nat.ble_eq]; omega]
    by_cases h : m.val < 128
    · refine (concat2_16c _ _ b m 0 ⟨m.val, h⟩ _ (by show m.val = 128 * 0 + m.val; omega) rfl).trans ?_
      rw [hZ 0 (by omega)]
      congr 1
      show 128 * (2 * i) + 32 * 0 + m.val = _; omega
    · refine (concat2_16c _ _ b m 1 ⟨m.val - 128, by omega⟩ _ (by show m.val = 128 * 1 + (m.val - 128); omega) rfl).trans ?_
      rw [hZ 0 (by omega)]
      congr 1
      show 128 * (2 * i + 1) + 32 * 0 + (m.val - 128) = _; omega

theorem concat8_16 {α : Type} (x0 x1 x2 x3 x4 x5 x6 x7 : S16x256.Idx → α) (u : Fin 128) (t : Fin 256) (k : ℕ) (p : Fin 16) (x : S16x256.Idx → α)
    (hk : u.val = 16 * k + p.val) (hx : [x0, x1, x2, x3, x4, x5, x6, x7][k]? = some x) :
    concatenate S128x256 0 [⟨S16x256, x0⟩, ⟨S16x256, x1⟩, ⟨S16x256, x2⟩, ⟨S16x256, x3⟩, ⟨S16x256, x4⟩, ⟨S16x256, x5⟩, ⟨S16x256, x6⟩, ⟨S16x256, x7⟩]
      concatenates_S16x256_S16x256_S16x256_S16x256_S16x256_S16x256_S16x256_S16x256_S128x256_d0 (ix2 u t) = x (ix2 p t) :=
  concat_rows (T := 128) (h := 16) (w := 256) [x0, x1, x2, x3, x4, x5, x6, x7]
    concatenates_S16x256_S16x256_S16x256_S16x256_S16x256_S16x256_S16x256_S16x256_S128x256_d0 u t k p hk x hx

theorem dyStack_apply (hZ : ∀ (v : ℕ), v < 4 → ∀ (q : ℕ) (b : Fin 16) (l : Fin 128), zTile A N D v q (ix2 b l) = Zv dyc dsc b.val (128 * q + 32 * v + l.val))
    (d : ℕ) (u : Fin 128) (m : Fin 256) (i : ℕ) (b : Fin 16) (hu : u.val = 16 * i + b.val) :
    dyStack A N D d (ix2 u m) = Zv dyc dsc b.val (256 * (d + i) + m.val) := by
  have hu' := u.isLt
  have hi : i < 8 := by omega
  unfold dyStack
  rw [concat8_16 _ _ _ _ _ _ _ _ u m i b (dyPair A N D (d + i)) hu (by interval_cases i <;> rfl)]
  exact dyPair_apply A N D dyc dsc hZ _ _ _

theorem dxAcc_apply (hZ : ∀ (v : ℕ), v < 4 → ∀ (q : ℕ) (b : Fin 16) (l : Fin 128), zTile A N D v q (ix2 b l) = Zv dyc dsc b.val (128 * q + 32 * v + l.val))
    (hH : ∀ e, e < 17 → ∀ (l : Fin 128) (j : ℕ), j < 4 → byteAt (H e (ix3 0 0 l)) j = hzv hc (128 * e + j) l.val)
    (n : ℕ) (hn : n ≤ 8) (u : Fin 128) (t : Fin 256) (i : ℕ) (b : Fin 16) (hu : u.val = 16 * i + b.val) :
    dxAcc A N D H n (ix2 u t)
      = ∑ d ∈ range n, ∑ w ∈ range 256, Zv dyc dsc b.val (256 * i + (256 * d + w)) * dec4 (hzv hc (256 * d + w) t.val) := by
  induction n with
  | zero => exact Ideal.ofBits_zero_f32
  | succ d ih =>
    rw [sum_range_succ, ← ih (by omega)]
    show dxAcc A N D H d (ix2 u t) + _ = _
    congr 1
    refine (Ideal.matmul_plain_apply (M := 128) (K := 256) (N := 256) none (dyStack A N D d) (tzQuad H d) _ u t).trans ?_
    rw [show (constant (F := Ideal) S128x256 .f32 0x00000000#32 (ix2 u t) : EReal) = 0 from Ideal.ofBits_zero_f32, zero_add, Finset.sum_range]
    refine Finset.sum_congr rfl fun w _ => ?_
    rw [dyStack_apply A N D dyc dsc hZ d u w i b hu, tzQuad_apply H hc hH d (by omega) w t]
    congr 2
    omega

/-- The channel's `dx` at time `128 r + l`: the sum over all times of `dy` with the filter, scaled. -/
theorem oTile_dxTile_apply (hZ : ∀ (v : ℕ), v < 4 → ∀ (q : ℕ) (b : Fin 16) (l : Fin 128), zTile A N D v q (ix2 b l) = Zv dyc dsc b.val (128 * q + 32 * v + l.val))
    (hH : ∀ e, e < 17 → ∀ (l : Fin 128) (j : ℕ), j < 4 → byteAt (H e (ix3 0 0 l)) j = hzv hc (128 * e + j) l.val)
    (hs : EReal) (r : ℕ) (hr : r < 16) (b : Fin 16) (l : Fin 128) :
    oTile (F := Ideal) (dxTile A N D H hs) r (ix2 b l)
      = (∑ U ∈ range 2048, Zv dyc dsc b.val U * dec4 (hzv hc U (128 * r + l.val))) * hs := by
  have hb := b.isLt
  have hl := l.isLt
  unfold oTile
  rw [shapeCast_self]
  show extractStridedSlice S16x128 ![16 * (r / 2 % 8), 128 * (r % 2)] (dxTile A N D H hs) (oSlices r) (ix2 b l) = _
  rw [extractStridedSlice_apply _ _ (oSlices r) (ix2 b l) (ix2 (⟨16 * (r / 2 % 8) + b.val, by omega⟩ : Fin 128) (⟨128 * (r % 2) + l.val, by omega⟩ : Fin 256))
    (fun c => by match c with
      | ⟨0, _⟩ => rfl
      | ⟨1, _⟩ => rfl)]
  show dxAcc A N D H 8 _ * hs = _
  rw [dxAcc_apply A N D H dyc dsc hc hZ hH 8 (le_refl 8) _ _ (r / 2) b (by show 16 * (r / 2 % 8) + b.val = _; omega)]
  congr 1
  rw [← sum_shift 2048 (256 * (r / 2)) (fun U => Zv dyc dsc b.val U * dec4 (hzv hc U (128 * r + l.val)))
    (fun U hU => by rw [show hzv hc U (128 * r + l.val) = 0#8 from if_neg (by omega), dec4_zero, mul_zero])
    (fun U hU => by rw [Zv_late _ _ _ _ hU, zero_mul])]
  rw [← sum_range_mul 8 256 (fun w => Zv dyc dsc b.val (256 * (r / 2) + w) * dec4 (hzv hc (256 * (r / 2) + w) (128 * r + l.val)))]
  refine Finset.sum_congr rfl fun d _ => Finset.sum_congr rfl fun w _ => ?_
  congr 2
  refine hzv_congr _ _ _ _ _ ?_
  show 256 * d + w + (128 * r + l.val) = _ + (128 * (r % 2) + l.val)
  omega

end Dx

end Cert.KernelIdeal.Val
end
-- ==== Proof.Channel.lean ====
/-
  One channel of the kernel, with values: what the trip of the channel loop leaves in the two scratch buffers it writes,
  in terms of the tiles of `Tiles.lean`.
-/
module

public import proofs.«01_k».proof.Proof.Tiles
public import Idealize.ShloMosaic.Lib.Tactic
public import Idealize.ShloMosaic.Lib.ValueIdxCoords
public import Idealize.ShloMosaic.Lib.WritesUnit

@[expose] public section

set_option maxRecDepth 16384
set_option maxHeartbeats 4000000

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A memref's buffer on core `c`, whole, at the contents `f`. -/
abbrev pt (c : Dev nD) {sp : Space} {S : Shape} {e : EltTy} (M : Memref sig .tc sp S e)
    (f : BufTy.Contents (Elt F) M.view.ty) : sProp 𝕄 :=
  M.view.loc (c : Thread nD τ) ↦[M.view.set]{fullShare} f

variable (𝒱 : Variants) (c : Dev nD) (bd : Option 𝒱.V) (E : Set ℕ) (i : grid0.Coords)
  (arg1 : Memref sig .tc .smem S1x1x128 .f32) (harg1 : arg1.IsWhole)
  (arg2 : Memref sig .tc .vmem S24576x128 .i8) (harg2 : arg2.IsWhole)
  (arg3 : Memref sig .tc .vmem S24576x128 .i8) (harg3 : arg3.IsWhole)
  (arg4 : Memref sig .tc .vmem S128x24x128 .i32) (harg4 : arg4.IsWhole)
  (arg5 : Memref sig .tc .vmem S32x1024 .bf16) (harg5 : arg5.IsWhole)
  (arg6 : Memref sig .tc .vmem S4x16x16x128 .bf16) (harg6 : arg6.IsWhole)
  (arg7 : Memref sig .tc .vmem S12x2048x128 .bf16) (harg7 : arg7.IsWhole)
  (arg8 : Memref sig .tc .vmem S128x2048 .f32) (harg8 : arg8.IsWhole)
  (arg9 : Memref sig .tc .vmem S8704x128 .i32) (harg9 : arg9.IsWhole)
  (arg10 : Memref sig .tc .vmem S8704x128 .i32) (harg10 : arg10.IsWhole)
  (arg11 : Memref sig .tc .vmem S6192x128 .i32) (harg11 : arg11.IsWhole)
  (arg12 : Memref sig .tc .vmem S33792x128 .f32) (harg12 : arg12.IsWhole)
  (arg13 : Memref sig .tc .vmem S1056x128 .f32) (harg13 : arg13.IsWhole)
  (arg14 : Memref sig .tc .vmem S128x128 .i32) (harg14 : arg14.IsWhole)

/-! ## What one channel loads -/

section Loads

variable (k0_t4 : Fin k0_t4_loop.trips) (k0_t5 : Fin k0_t5_loop.trips)

/-- The eight blocks of eight rows a channel reads of a buffer of words. -/
def ldA (M : Memref sig .tc .vmem S8704x128 .i32) (X : BufTy.Contents (Elt F) M.view.ty) (i : Fin 8) : Vec F S8x128 .i32 :=
  M.view.readAt (Elt F) (Rect.unit (s := S8704x128) (k0_off8 k0_t4 k0_t5 (BitVec.ofNat 32 (8 * i.val))) S8x128.size (k0_off8_inb k0_t4 k0_t5 i)).toLoadRect X
/-- The same blocks, four rows later. -/
def ldN (M : Memref sig .tc .vmem S8704x128 .i32) (X : BufTy.Contents (Elt F) M.view.ty) (i : Fin 8) : Vec F S8x128 .i32 :=
  M.view.readAt (Elt F) (Rect.unit (s := S8704x128) (k0_off9 k0_t4 k0_t5 (BitVec.ofNat 32 (8 * i.val))) S8x128.size (k0_off9_inb k0_t4 k0_t5 i)).toLoadRect X

theorem dInb (v : Fin 4) (q : Fin 16) : ∀ a, (![v.val, q.val, 0, 0] : Fin 4 → ℕ) a + S1x1x16x128.size a ≤ S4x16x16x128.size a := by
  intro a; fin_cases a
  · show v.val + 1 ≤ 4; omega
  · show q.val + 1 ≤ 16; omega
  · show 0 + 16 ≤ 16; omega
  · show 0 + 128 ≤ 128; omega

/-- The scales of `dy`. -/
def ldD (X6 : BufTy.Contents (Elt F) arg6.view.ty) (v : Fin 4) (q : Fin 16) : Vec F S1x1x16x128 .bf16 :=
  arg6.view.readAt (Elt F) (Rect.unit (s := S4x16x16x128) ![v.val, q.val, 0, 0] S1x1x16x128.size (dInb v q)).toLoadRect X6

theorem sInb (g : Fin 8) : ∀ a, (![0, 128 * g.val] : Fin 2 → ℕ) a + S32x128.size a ≤ S32x1024.size a := by
  intro a; fin_cases a
  · show 0 + 32 ≤ 32; omega
  · show 128 * g.val + 128 ≤ 1024; omega

/-- The scales of `x`. -/
def ldS (X5 : BufTy.Contents (Elt F) arg5.view.ty) (g : Fin 8) : Vec F S32x128 .bf16 :=
  arg5.view.readAt (Elt F) (Rect.unit (s := S32x1024) ![0, 128 * g.val] S32x128.size (sInb g)).toLoadRect X5

/-- The channel's seventeen filter windows. -/
def ldH (X4 : BufTy.Contents (Elt F) arg4.view.ty) : ℕ → Vec F S1x1x128 .i32
  | 0 => arg4.view.readAt (Elt F) (Rect.unit (s := S128x24x128) (k0_off10 k0_t4 k0_t5) S1x1x128.size (k0_off10_inb k0_t4 k0_t5)).toLoadRect X4
  | 1 => arg4.view.readAt (Elt F) (Rect.unit (s := S128x24x128) (k0_off11 k0_t4 k0_t5) S1x1x128.size (k0_off11_inb k0_t4 k0_t5)).toLoadRect X4
  | 2 => arg4.view.readAt (Elt F) (Rect.unit (s := S128x24x128) (k0_off12 k0_t4 k0_t5) S1x1x128.size (k0_off12_inb k0_t4 k0_t5)).toLoadRect X4
  | 3 => arg4.view.readAt (Elt F) (Rect.unit (s := S128x24x128) (k0_off13 k0_t4 k0_t5) S1x1x128.size (k0_off13_inb k0_t4 k0_t5)).toLoadRect X4
  | 4 => arg4.view.readAt (Elt F) (Rect.unit (s := S128x24x128) (k0_off14 k0_t4 k0_t5) S1x1x128.size (k0_off14_inb k0_t4 k0_t5)).toLoadRect X4
  | 5 => arg4.view.readAt (Elt F) (Rect.unit (s := S128x24x128) (k0_off15 k0_t4 k0_t5) S1x1x128.size (k0_off15_inb k0_t4 k0_t5)).toLoadRect X4
  | 6 => arg4.view.readAt (Elt F) (Rect.unit (s := S128x24x128) (k0_off16 k0_t4 k0_t5) S1x1x128.size (k0_off16_inb k0_t4 k0_t5)).toLoadRect X4
  | 7 => arg4.view.readAt (Elt F) (Rect.unit (s := S128x24x128) (k0_off17 k0_t4 k0_t5) S1x1x128.size (k0_off17_inb k0_t4 k0_t5)).toLoadRect X4
  | 8 => arg4.view.readAt (Elt F) (Rect.unit (s := S128x24x128) (k0_off18 k0_t4 k0_t5) S1x1x128.size (k0_off18_inb k0_t4 k0_t5)).toLoadRect X4
  | 9 => arg4.view.readAt (Elt F) (Rect.unit (s := S128x24x128) (k0_off19 k0_t4 k0_t5) S1x1x128.size (k0_off19_inb k0_t4 k0_t5)).toLoadRect X4
  | 10 => arg4.view.readAt (Elt F) (Rect.unit (s := S128x24x128) (k0_off20 k0_t4 k0_t5) S1x1x128.size (k0_off20_inb k0_t4 k0_t5)).toLoadRect X4
  | 11 => arg4.view.readAt (Elt F) (Rect.unit (s := S128x24x128) (k0_off21 k0_t4 k0_t5) S1x1x128.size (k0_off21_inb k0_t4 k0_t5)).toLoadRect X4
  | 12 => arg4.view.readAt (Elt F) (Rect.unit (s := S128x24x128) (k0_off22 k0_t4 k0_t5) S1x1x128.size (k0_off22_inb k0_t4 k0_t5)).toLoadRect X4
  | 13 => arg4.view.readAt (Elt F) (Rect.unit (s := S128x24x128) (k0_off23 k0_t4 k0_t5) S1x1x128.size (k0_off23_inb k0_t4 k0_t5)).toLoadRect X4
  | 14 => arg4.view.readAt (Elt F) (Rect.unit (s := S128x24x128) (k0_off24 k0_t4 k0_t5) S1x1x128.size (k0_off24_inb k0_t4 k0_t5)).toLoadRect X4
  | 15 => arg4.view.readAt (Elt F) (Rect.unit (s := S128x24x128) (k0_off25 k0_t4 k0_t5) S1x1x128.size (k0_off25_inb k0_t4 k0_t5)).toLoadRect X4
  | _ => arg4.view.readAt (Elt F) (Rect.unit (s := S128x24x128) (k0_off26 k0_t4 k0_t5) S1x1x128.size (k0_off26_inb k0_t4 k0_t5)).toLoadRect X4

/-- The filter's scale for the channel. -/
def ldC (X1 : BufTy.Contents (Elt F) arg1.view.ty) : Elt F .f32 :=
  arg1.view.readAt (Elt F) (Rect.unit (s := S1x1x128) (k0_off27 k0_t4 k0_t5) S1x1x1.size (k0_off27_inb k0_t4 k0_t5)).toLoadRect X1
    (Shape.Idx.first (show 0 < S1x1x1.numel by decide))

end Loads

/-- Where one `dac` access of channel `k0_t5` of its group lies. -/
theorem off29_eq : ∀ (k0_t4 : Fin k0_t4_loop.trips) (k0_t5 : Fin k0_t5_loop.trips) (r : Fin 16),
    k0_off29 k0_t4 k0_t5 (BitVec.ofNat 32 (8 * r.val)) = ![132 * k0_t5.val + 8 * r.val, 0] := by decide +kernel

instance (k0_t4 : Fin k0_t4_loop.trips) (k0_t5 : Fin k0_t5_loop.trips) : ClosedOff (k0_off29 k0_t4 k0_t5 (BitVec.ofNat 32 0)) := ⟨![132 * k0_t5.val + 8 * 0, 0], off29_eq k0_t4 k0_t5 ⟨0, by decide⟩⟩
instance (k0_t4 : Fin k0_t4_loop.trips) (k0_t5 : Fin k0_t5_loop.trips) : ClosedOff (k0_off29 k0_t4 k0_t5 (BitVec.ofNat 32 8)) := ⟨![132 * k0_t5.val + 8 * 1, 0], off29_eq k0_t4 k0_t5 ⟨1, by decide⟩⟩
instance (k0_t4 : Fin k0_t4_loop.trips) (k0_t5 : Fin k0_t5_loop.trips) : ClosedOff (k0_off29 k0_t4 k0_t5 (BitVec.ofNat 32 16)) := ⟨![132 * k0_t5.val + 8 * 2, 0], off29_eq k0_t4 k0_t5 ⟨2, by decide⟩⟩
instance (k0_t4 : Fin k0_t4_loop.trips) (k0_t5 : Fin k0_t5_loop.trips) : ClosedOff (k0_off29 k0_t4 k0_t5 (BitVec.ofNat 32 24)) := ⟨![132 * k0_t5.val + 8 * 3, 0], off29_eq k0_t4 k0_t5 ⟨3, by decide⟩⟩
instance (k0_t4 : Fin k0_t4_loop.trips) (k0_t5 : Fin k0_t5_loop.trips) : ClosedOff (k0_off29 k0_t4 k0_t5 (BitVec.ofNat 32 32)) := ⟨![132 * k0_t5.val + 8 * 4, 0], off29_eq k0_t4 k0_t5 ⟨4, by decide⟩⟩
instance (k0_t4 : Fin k0_t4_loop.trips) (k0_t5 : Fin k0_t5_loop.trips) : ClosedOff (k0_off29 k0_t4 k0_t5 (BitVec.ofNat 32 40)) := ⟨![132 * k0_t5.val + 8 * 5, 0], off29_eq k0_t4 k0_t5 ⟨5, by decide⟩⟩
instance (k0_t4 : Fin k0_t4_loop.trips) (k0_t5 : Fin k0_t5_loop.trips) : ClosedOff (k0_off29 k0_t4 k0_t5 (BitVec.ofNat 32 48)) := ⟨![132 * k0_t5.val + 8 * 6, 0], off29_eq k0_t4 k0_t5 ⟨6, by decide⟩⟩
instance (k0_t4 : Fin k0_t4_loop.trips) (k0_t5 : Fin k0_t5_loop.trips) : ClosedOff (k0_off29 k0_t4 k0_t5 (BitVec.ofNat 32 56)) := ⟨![132 * k0_t5.val + 8 * 7, 0], off29_eq k0_t4 k0_t5 ⟨7, by decide⟩⟩
instance (k0_t4 : Fin k0_t4_loop.trips) (k0_t5 : Fin k0_t5_loop.trips) : ClosedOff (k0_off29 k0_t4 k0_t5 (BitVec.ofNat 32 64)) := ⟨![132 * k0_t5.val + 8 * 8, 0], off29_eq k0_t4 k0_t5 ⟨8, by decide⟩⟩
instance (k0_t4 : Fin k0_t4_loop.trips) (k0_t5 : Fin k0_t5_loop.trips) : ClosedOff (k0_off29 k0_t4 k0_t5 (BitVec.ofNat 32 72)) := ⟨![132 * k0_t5.val + 8 * 9, 0], off29_eq k0_t4 k0_t5 ⟨9, by decide⟩⟩
instance (k0_t4 : Fin k0_t4_loop.trips) (k0_t5 : Fin k0_t5_loop.trips) : ClosedOff (k0_off29 k0_t4 k0_t5 (BitVec.ofNat 32 80)) := ⟨![132 * k0_t5.val + 8 * 10, 0], off29_eq k0_t4 k0_t5 ⟨10, by decide⟩⟩
instance (k0_t4 : Fin k0_t4_loop.trips) (k0_t5 : Fin k0_t5_loop.trips) : ClosedOff (k0_off29 k0_t4 k0_t5 (BitVec.ofNat 32 88)) := ⟨![132 * k0_t5.val + 8 * 11, 0], off29_eq k0_t4 k0_t5 ⟨11, by decide⟩⟩
instance (k0_t4 : Fin k0_t4_loop.trips) (k0_t5 : Fin k0_t5_loop.trips) : ClosedOff (k0_off29 k0_t4 k0_t5 (BitVec.ofNat 32 96)) := ⟨![132 * k0_t5.val + 8 * 12, 0], off29_eq k0_t4 k0_t5 ⟨12, by decide⟩⟩
instance (k0_t4 : Fin k0_t4_loop.trips) (k0_t5 : Fin k0_t5_loop.trips) : ClosedOff (k0_off29 k0_t4 k0_t5 (BitVec.ofNat 32 104)) := ⟨![132 * k0_t5.val + 8 * 13, 0], off29_eq k0_t4 k0_t5 ⟨13, by decide⟩⟩
instance (k0_t4 : Fin k0_t4_loop.trips) (k0_t5 : Fin k0_t5_loop.trips) : ClosedOff (k0_off29 k0_t4 k0_t5 (BitVec.ofNat 32 112)) := ⟨![132 * k0_t5.val + 8 * 14, 0], off29_eq k0_t4 k0_t5 ⟨14, by decide⟩⟩
instance (k0_t4 : Fin k0_t4_loop.trips) (k0_t5 : Fin k0_t5_loop.trips) : ClosedOff (k0_off29 k0_t4 k0_t5 (BitVec.ofNat 32 120)) := ⟨![132 * k0_t5.val + 8 * 15, 0], off29_eq k0_t4 k0_t5 ⟨15, by decide⟩⟩

/-- The stores of a channel's `dx` rows. -/
def oPieces (k0_t4 : Fin k0_t4_loop.trips) (k0_t5 : Fin k0_t5_loop.trips) (O : FVec F S128x256 .bf16) :
    List (View.Piece (Elt F) S33792x128 .f32) :=
  View.tilePieces (NT := 16) S16x128.size (fun r => k0_off28 k0_t4 k0_t5 (BitVec.ofNat 32 (8 * r.val))) (fun r => k0_off28_inb k0_t4 k0_t5 r)
    (fun r => oTile O r.val) 16 le_rfl

/-- The stores of a channel's `dh` rows. -/
def hPieces (k0_t4 : Fin k0_t4_loop.trips) (k0_t5 : Fin k0_t5_loop.trips) (G : FVec F S256x256 .f32) :
    List (View.Piece (Elt F) S1056x128 .f32) :=
  View.tilePieces (NT := 16) S8x128.size (fun r => k0_off29 k0_t4 k0_t5 (BitVec.ofNat 32 (8 * r.val))) (fun r => k0_off29_inb k0_t4 k0_t5 r)
    (fun r => skewTile G r.val) 16 le_rfl

theorem t4_lt (k0_t4 : Fin k0_t4_loop.trips) : k0_t4.val < 16 := lt_of_lt_of_eq k0_t4.isLt (by decide)
theorem t5_lt (k0_t5 : Fin k0_t5_loop.trips) : k0_t5.val < 8 := lt_of_lt_of_eq k0_t5.isLt (by decide)

/-- The rows of `dx` of the first `n` channels are in place. -/
def DoneX (n : ℕ) (f : BufTy.Contents (Elt F) arg12.view.ty) (X1 : BufTy.Contents (Elt F) arg1.view.ty) (X4 : BufTy.Contents (Elt F) arg4.view.ty)
    (X6 : BufTy.Contents (Elt F) arg6.view.ty) (X9 : BufTy.Contents (Elt F) arg9.view.ty) : Prop :=
  ∀ (t4 : Fin k0_t4_loop.trips) (t5 : Fin k0_t5_loop.trips), 8 * t4.val + t5.val < n → ∀ (r : Fin 16) (b : Fin 16) (l : Fin 128)
    (p : Fin 33792), p.val = 2112 * t4.val + 264 * t5.val + 16 * r.val + b.val →
    arg12.view.read (Elt F) f (ix2 p l)
      = oTile (dxTile (ldA t4 t5 arg9 X9) (ldN t4 t5 arg9 X9) (ldD arg6 X6) (ldH arg4 t4 t5 X4) (ldC arg1 t4 t5 X1)) r.val (ix2 b l)

/-- The unsummed rows of `dh` of the first `n` channels of the group are in place. -/
def DoneG (k0_t4 : Fin k0_t4_loop.trips) (n : ℕ) (f : BufTy.Contents (Elt F) arg13.view.ty) (X5 : BufTy.Contents (Elt F) arg5.view.ty)
    (X6 : BufTy.Contents (Elt F) arg6.view.ty) (X9 : BufTy.Contents (Elt F) arg9.view.ty)
    (X10 : BufTy.Contents (Elt F) arg10.view.ty) : Prop :=
  ∀ (t5 : Fin k0_t5_loop.trips), t5.val < n → ∀ (r : Fin 16) (s : Fin 8) (l : Fin 128)
    (p : Fin 1056), p.val = 132 * t5.val + 8 * r.val + s.val →
    arg13.view.read (Elt F) f (ix2 p l)
      = skewTile (dhAcc (ldA k0_t4 t5 arg9 X9) (ldN k0_t4 t5 arg9 X9) (ldD arg6 X6) (ldA k0_t4 t5 arg10 X10) (ldS arg5 X5) 4) r.val (ix2 s l)

theorem read_oPieces (t4 : Fin k0_t4_loop.trips) (t5 : Fin k0_t5_loop.trips) (f : BufTy.Contents (Elt F) arg12.view.ty)
    (O : FVec F S128x256 .bf16) (r b : Fin 16) (l : Fin 128) (p : Fin 33792)
    (hp : p.val = 2112 * t4.val + 264 * t5.val + 16 * r.val + b.val) :
    arg12.view.read (Elt F) (arg12.view.writes (Elt F) f (oPieces t4 t5 O)) (ix2 p l) = oTile O r.val (ix2 b l) := by
  have hb := b.isLt
  unfold oPieces
  rw [View.read_tilePieces (NT := 16) arg12.view f S16x128.size _ _ (fun r : Fin 16 => oTile O r.val) 16 le_rfl (ix2 p l) r r.isLt (ix2 b l) ?_ 0 ?_]
  · intro a; rw [k0_off28_eq]; fin_cases a
    · exact hp
    · exact (Nat.zero_add _).symm
  · intro r' hr'; rw [k0_off28_eq]
    have hne : r'.val ≠ r.val := fun h => hr' (Fin.ext h)
    show p.val < 2112 * t4.val + 264 * t5.val + 16 * r'.val ∨ 2112 * t4.val + 264 * t5.val + 16 * r'.val + 16 ≤ p.val
    omega

theorem read_oPieces_miss (t4 : Fin k0_t4_loop.trips) (t5 : Fin k0_t5_loop.trips) (f : BufTy.Contents (Elt F) arg12.view.ty)
    (O : FVec F S128x256 .bf16) (l : Fin 128) (p : Fin 33792) (hp : p.val < 2112 * t4.val + 264 * t5.val) :
    arg12.view.read (Elt F) (arg12.view.writes (Elt F) f (oPieces t4 t5 O)) (ix2 p l) = arg12.view.read (Elt F) f (ix2 p l) := by
  unfold oPieces
  rw [View.read_tilePieces_miss (NT := 16) arg12.view f S16x128.size _ _ (fun r : Fin 16 => oTile O r.val) 16 le_rfl (ix2 p l) 0 ?_]
  intro r' _; rw [k0_off28_eq]
  show p.val < 2112 * t4.val + 264 * t5.val + 16 * r'.val ∨ 2112 * t4.val + 264 * t5.val + 16 * r'.val + 16 ≤ p.val
  omega

theorem read_hPieces (t4 : Fin k0_t4_loop.trips) (t5 : Fin k0_t5_loop.trips) (f : BufTy.Contents (Elt F) arg13.view.ty)
    (G : FVec F S256x256 .f32) (r : Fin 16) (s : Fin 8) (l : Fin 128) (p : Fin 1056)
    (hp : p.val = 132 * t5.val + 8 * r.val + s.val) :
    arg13.view.read (Elt F) (arg13.view.writes (Elt F) f (hPieces t4 t5 G)) (ix2 p l) = skewTile G r.val (ix2 s l) := by
  have hb := s.isLt
  unfold hPieces
  rw [View.read_tilePieces (NT := 16) arg13.view f S8x128.size _ _ (fun r : Fin 16 => skewTile G r.val) 16 le_rfl (ix2 p l) r r.isLt (ix2 s l) ?_ 0 ?_]
  · intro a; rw [off29_eq]; fin_cases a
    · exact hp
    · exact (Nat.zero_add _).symm
  · intro r' hr'; rw [off29_eq]
    have hne : r'.val ≠ r.val := fun h => hr' (Fin.ext h)
    show p.val < 132 * t5.val + 8 * r'.val ∨ 132 * t5.val + 8 * r'.val + 8 ≤ p.val
    omega

theorem read_hPieces_miss (t4 : Fin k0_t4_loop.trips) (t5 : Fin k0_t5_loop.trips) (f : BufTy.Contents (Elt F) arg13.view.ty)
    (G : FVec F S256x256 .f32) (l : Fin 128) (p : Fin 1056) (hp : p.val < 132 * t5.val) :
    arg13.view.read (Elt F) (arg13.view.writes (Elt F) f (hPieces t4 t5 G)) (ix2 p l) = arg13.view.read (Elt F) f (ix2 p l) := by
  unfold hPieces
  rw [View.read_tilePieces_miss (NT := 16) arg13.view f S8x128.size _ _ (fun r : Fin 16 => skewTile G r.val) 16 le_rfl (ix2 p l) 0 ?_]
  intro r' _; rw [off29_eq]
  show p.val < 132 * t5.val + 8 * r'.val ∨ 132 * t5.val + 8 * r'.val + 8 ≤ p.val
  omega

theorem DoneX.step (k0_t4 : Fin k0_t4_loop.trips) (k0_t5 : Fin k0_t5_loop.trips) (f : BufTy.Contents (Elt F) arg12.view.ty)
    (X1 : BufTy.Contents (Elt F) arg1.view.ty) (X4 : BufTy.Contents (Elt F) arg4.view.ty)
    (X6 : BufTy.Contents (Elt F) arg6.view.ty) (X9 : BufTy.Contents (Elt F) arg9.view.ty)
    (h : DoneX arg1 arg4 arg6 arg9 arg12 (8 * k0_t4.val + k0_t5.val) f X1 X4 X6 X9) :
    DoneX arg1 arg4 arg6 arg9 arg12 (8 * k0_t4.val + k0_t5.val + 1) (arg12.view.writes (Elt F) f (oPieces k0_t4 k0_t5 (dxTile (ldA k0_t4 k0_t5 arg9 X9)
      (ldN k0_t4 k0_t5 arg9 X9) (ldD arg6 X6) (ldH arg4 k0_t4 k0_t5 X4) (ldC arg1 k0_t4 k0_t5 X1)))) X1 X4 X6 X9 := by
  intro t4 t5 hlt r b l p hp
  have h5 := t5_lt t5; have h5' := t5_lt k0_t5
  have hb := b.isLt; have hr := r.isLt
  by_cases he : t4 = k0_t4 ∧ t5 = k0_t5
  · obtain ⟨rfl, rfl⟩ := he
    rw [read_oPieces arg12 t4 t5 f _ r b l p hp]
  · have hne : 8 * t4.val + t5.val < 8 * k0_t4.val + k0_t5.val := by
      rcases Nat.lt_or_ge (8 * t4.val + t5.val) (8 * k0_t4.val + k0_t5.val) with h' | h'
      · exact h'
      · exact absurd ⟨Fin.ext (by omega), Fin.ext (by omega)⟩ he
    rw [read_oPieces_miss arg12 k0_t4 k0_t5 f _ l p (by omega), h t4 t5 hne r b l p hp]

theorem DoneG.step (k0_t4 : Fin k0_t4_loop.trips) (k0_t5 : Fin k0_t5_loop.trips) (f : BufTy.Contents (Elt F) arg13.view.ty)
    (X5 : BufTy.Contents (Elt F) arg5.view.ty)
    (X6 : BufTy.Contents (Elt F) arg6.view.ty) (X9 : BufTy.Contents (Elt F) arg9.view.ty)
    (X10 : BufTy.Contents (Elt F) arg10.view.ty)
    (h : DoneG arg5 arg6 arg9 arg10 arg13 k0_t4 k0_t5.val f X5 X6 X9 X10) :
    DoneG arg5 arg6 arg9 arg10 arg13 k0_t4 (k0_t5.val + 1) (arg13.view.writes (Elt F) f (hPieces k0_t4 k0_t5 (dhAcc (ldA k0_t4 k0_t5 arg9 X9)
      (ldN k0_t4 k0_t5 arg9 X9) (ldD arg6 X6) (ldA k0_t4 k0_t5 arg10 X10) (ldS arg5 X5) 4))) X5 X6 X9 X10 := by
  intro t5 hlt r s l p hp
  have hs := s.isLt; have hr := r.isLt
  by_cases he : t5 = k0_t5
  · obtain rfl := he
    rw [read_hPieces arg13 k0_t4 t5 f _ r s l p hp]
  · have hne : t5.val < k0_t5.val := by
      have : t5.val ≠ k0_t5.val := fun h => he (Fin.ext h)
      omega
    rw [read_hPieces_miss arg13 k0_t4 k0_t5 f _ l p (by omega), h t5 hne r s l p hp]

set_option warn.classDefReducibility false

/-- The loop over the eight channels of a group: it writes `arg12` and `arg13`. -/
@[sl_loop] def loopInv_k0_t5 (a b : BitVec 32) (k0_t4 : Fin k0_t4_loop.trips) (v12 : BitVec 32)
    (X1 : BufTy.Contents (Elt F) arg1.view.ty) (X4 : BufTy.Contents (Elt F) arg4.view.ty)
    (X5 : BufTy.Contents (Elt F) arg5.view.ty) (X6 : BufTy.Contents (Elt F) arg6.view.ty)
    (X9 : BufTy.Contents (Elt F) arg9.view.ty) (X10 : BufTy.Contents (Elt F) arg10.view.ty) :
    LoopInvTy_k0_t5 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 a b k0_t4 v12 where
  inv k _ := iprop(pt c arg1 X1 ∗ pt c arg4 X4 ∗ pt c arg5 X5 ∗ pt c arg6 X6 ∗ pt c arg9 X9 ∗ pt c arg10 X10
    ∗ (∃ f, pt c arg12 f ∗ ⌜DoneX arg1 arg4 arg6 arg9 arg12 (8 * k0_t4.val + k) f X1 X4 X6 X9⌝)
    ∗ (∃ f, pt c arg13 f ∗ ⌜DoneG arg5 arg6 arg9 arg10 arg13 k0_t4 k f X5 X6 X9 X10⌝))
  step k acc := by
    unfold k0_t5_body
    iintro ⟨H1, H4, H5, H6, H9, H10, ⟨%f12, H12, %h12⟩, ⟨%f13, H13, %h13⟩⟩
    sl_exec
    sl_step
    isplitl [H1]; · iexact H1
    isplitl [H4]; · iexact H4
    isplitl [H5]; · iexact H5
    isplitl [H6]; · iexact H6
    isplitl [H9]; · iexact H9
    isplitl [H10]; · iexact H10
    isplitl [H12]
    · iexists (arg12.view.writes (Elt F) f12 (oPieces k0_t4 k (dxTile (ldA k0_t4 k arg9 X9) (ldN k0_t4 k arg9 X9) (ldD arg6 X6) (ldH arg4 k0_t4 k X4) (ldC arg1 k0_t4 k X1))))
      isplitl [H12]
      · iexact H12
      · ipureintro; exact DoneX.step arg1 arg4 arg6 arg9 arg12 k0_t4 k f12 X1 X4 X6 X9 h12
    iexists (arg13.view.writes (Elt F) f13 (hPieces k0_t4 k (dhAcc (ldA k0_t4 k arg9 X9) (ldN k0_t4 k arg9 X9) (ldD arg6 X6) (ldA k0_t4 k arg10 X10) (ldS arg5 X5) 4)))
    isplitl [H13]
    · iexact H13
    · ipureintro; exact DoneG.step arg5 arg6 arg9 arg10 arg13 k0_t4 k f13 X5 X6 X9 X10 h13

end Cert.KernelIdeal.Val
end
-- ==== Proof.Group.lean ====
/-
  A group of eight channels of the kernel, with values: after the channel loop the group's rows of `dh` are summed and stored.
-/
module

public import proofs.«01_k».proof.Proof.Channel

@[expose] public section

set_option maxRecDepth 16384
set_option maxHeartbeats 4000000

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (E : Set ℕ) (i : grid0.Coords)
  (arg1 : Memref sig .tc .smem S1x1x128 .f32) (harg1 : arg1.IsWhole)
  (arg2 : Memref sig .tc .vmem S24576x128 .i8) (harg2 : arg2.IsWhole)
  (arg3 : Memref sig .tc .vmem S24576x128 .i8) (harg3 : arg3.IsWhole)
  (arg4 : Memref sig .tc .vmem S128x24x128 .i32) (harg4 : arg4.IsWhole)
  (arg5 : Memref sig .tc .vmem S32x1024 .bf16) (harg5 : arg5.IsWhole)
  (arg6 : Memref sig .tc .vmem S4x16x16x128 .bf16) (harg6 : arg6.IsWhole)
  (arg7 : Memref sig .tc .vmem S12x2048x128 .bf16) (harg7 : arg7.IsWhole)
  (arg8 : Memref sig .tc .vmem S128x2048 .f32) (harg8 : arg8.IsWhole)
  (arg9 : Memref sig .tc .vmem S8704x128 .i32) (harg9 : arg9.IsWhole)
  (arg10 : Memref sig .tc .vmem S8704x128 .i32) (harg10 : arg10.IsWhole)
  (arg11 : Memref sig .tc .vmem S6192x128 .i32) (harg11 : arg11.IsWhole)
  (arg12 : Memref sig .tc .vmem S33792x128 .f32) (harg12 : arg12.IsWhole)
  (arg13 : Memref sig .tc .vmem S1056x128 .f32) (harg13 : arg13.IsWhole)
  (arg14 : Memref sig .tc .vmem S128x128 .i32) (harg14 : arg14.IsWhole)

/-- The sum of eight tiles, from the first on. -/
def sum8 (R : ℕ → Vec F S8x128 .f32) : FVec F S8x128 .f32 :=
  addf (addf (addf (addf (addf (addf (addf (R 0) (R 1)) (R 2)) (R 3)) (R 4)) (R 5)) (R 6)) (R 7)

theorem gInb (n : ℕ) : ∀ a, S8x128.size a = 0 ∨ (![n % 128, 0] : Fin 2 → ℕ) a + (![132, 1] : Fin 2 → Nat) a * (S8x128.size a - 1) < S1056x128.size a := by
  intro a; right; fin_cases a
  · show n % 128 + 132 * (8 - 1) < 1056; omega
  · show 0 + 1 * (128 - 1) < 128; omega

/-- The row `n` of each of the eight channels. -/
def ldG (f : BufTy.Contents (Elt F) arg13.view.ty) (n : ℕ) : Vec F S8x128 .f32 :=
  arg13.view.readAt (Elt F) (⟨![n % 128, 0], S8x128.size, ![132, 1], gInb n⟩ : LoadRect S1056x128) f

/-- Where the tile number `n` of the group's rows of `dh` is stored. -/
def hOff (k0_t4 : Fin k0_t4_loop.trips) : ℕ → Fin 2 → ℕ
  | 0 => k0_off30 k0_t4
  | 1 => k0_off31 k0_t4
  | 2 => k0_off32 k0_t4
  | 3 => k0_off33 k0_t4
  | 4 => k0_off34 k0_t4
  | 5 => k0_off35 k0_t4
  | 6 => k0_off36 k0_t4
  | 7 => k0_off37 k0_t4
  | 8 => k0_off38 k0_t4
  | 9 => k0_off39 k0_t4
  | 10 => k0_off40 k0_t4
  | 11 => k0_off41 k0_t4
  | 12 => k0_off42 k0_t4
  | 13 => k0_off43 k0_t4
  | 14 => k0_off44 k0_t4
  | _ => k0_off45 k0_t4
theorem hOff_eq (k0_t4 : Fin k0_t4_loop.trips) (n : Fin 16) : hOff k0_t4 n.val = ![8 * k0_t4.val, 128 * n.val] := by
  fin_cases n
  · exact k0_off30_eq k0_t4
  · exact k0_off31_eq k0_t4
  · exact k0_off32_eq k0_t4
  · exact k0_off33_eq k0_t4
  · exact k0_off34_eq k0_t4
  · exact k0_off35_eq k0_t4
  · exact k0_off36_eq k0_t4
  · exact k0_off37_eq k0_t4
  · exact k0_off38_eq k0_t4
  · exact k0_off39_eq k0_t4
  · exact k0_off40_eq k0_t4
  · exact k0_off41_eq k0_t4
  · exact k0_off42_eq k0_t4
  · exact k0_off43_eq k0_t4
  · exact k0_off44_eq k0_t4
  · exact k0_off45_eq k0_t4
theorem hOff_inb (k0_t4 : Fin k0_t4_loop.trips) (n : Fin 16) : ∀ a, hOff k0_t4 n.val a + S8x128.size a ≤ S128x2048.size a := by
  have h4 := t4_lt k0_t4
  have hn := n.isLt
  rw [hOff_eq]; intro a; fin_cases a
  · show 8 * k0_t4.val + 8 ≤ 128; omega
  · show 128 * n.val + 128 ≤ 2048; omega

/-- The stores of a group's rows of `dh`. -/
def sPieces (k0_t4 : Fin k0_t4_loop.trips) (f : BufTy.Contents (Elt F) arg13.view.ty) : List (View.Piece (Elt F) S128x2048 .f32) :=
  View.tilePieces (NT := 16) S8x128.size (fun n => hOff k0_t4 n.val) (fun n => hOff_inb k0_t4 n)
    (fun n => sum8 (fun s => ldG arg13 f (8 * n.val + s))) 16 le_rfl

theorem read_sPieces (t4 : Fin k0_t4_loop.trips) (f : BufTy.Contents (Elt F) arg8.view.ty)
    (g : BufTy.Contents (Elt F) arg13.view.ty) (n : Fin 16) (c : Fin 8) (l : Fin 128) (p : Fin 128) (k : Fin 2048)
    (hp : p.val = 8 * t4.val + c.val) (hk : k.val = 128 * n.val + l.val) :
    arg8.view.read (Elt F) (arg8.view.writes (Elt F) f (sPieces arg13 t4 g)) (ix2 p k) = sum8 (fun s => ldG arg13 g (8 * n.val + s)) (ix2 c l) := by
  have hb := l.isLt
  unfold sPieces
  rw [View.read_tilePieces (NT := 16) arg8.view f S8x128.size _ _ (fun n : Fin 16 => sum8 (fun s => ldG arg13 g (8 * n.val + s))) 16 le_rfl (ix2 p k) n n.isLt (ix2 c l) ?_ 1 ?_]
  · intro a; rw [hOff_eq]; fin_cases a
    · exact hp
    · exact hk
  · intro r' hr'; rw [hOff_eq]
    have hne : r'.val ≠ n.val := fun h => hr' (Fin.ext h)
    show k.val < 128 * r'.val ∨ 128 * r'.val + 128 ≤ k.val
    omega

theorem read_sPieces_miss (t4 : Fin k0_t4_loop.trips) (f : BufTy.Contents (Elt F) arg8.view.ty)
    (g : BufTy.Contents (Elt F) arg13.view.ty) (p : Fin 128) (k : Fin 2048)
    (hp : p.val < 8 * t4.val) :
    arg8.view.read (Elt F) (arg8.view.writes (Elt F) f (sPieces arg13 t4 g)) (ix2 p k) = arg8.view.read (Elt F) f (ix2 p k) := by
  unfold sPieces
  rw [View.read_tilePieces_miss (NT := 16) arg8.view f S8x128.size _ _ (fun n : Fin 16 => sum8 (fun s => ldG arg13 g (8 * n.val + s))) 16 le_rfl (ix2 p k) 0 ?_]
  intro r' _; rw [hOff_eq]
  show p.val < 8 * t4.val ∨ 8 * t4.val + 8 ≤ p.val
  omega

/-- The rows of `dh` of the first `n` groups are in place. -/
def DoneH (n : ℕ) (f : BufTy.Contents (Elt F) arg8.view.ty) (X5 : BufTy.Contents (Elt F) arg5.view.ty)
    (X6 : BufTy.Contents (Elt F) arg6.view.ty) (X9 : BufTy.Contents (Elt F) arg9.view.ty)
    (X10 : BufTy.Contents (Elt F) arg10.view.ty) : Prop :=
  ∀ (t4 : Fin k0_t4_loop.trips), t4.val < n → ∀ (t5 : Fin k0_t5_loop.trips) (r : Fin 16) (l : Fin 128) (p : Fin 128) (k : Fin 2048),
    p.val = 8 * t4.val + t5.val → k.val = 128 * r.val + l.val →
    arg8.view.read (Elt F) f (ix2 p k)
      = sum8 (fun s _ => skewTile (dhAcc (ldA t4 t5 arg9 X9) (ldN t4 t5 arg9 X9) (ldD arg6 X6) (ldA t4 t5 arg10 X10) (ldS arg5 X5) 4) r.val (ix2 (Fin.ofNat 8 s) l)) (ix2 0 0)

theorem sum8_congr (R R' : ℕ → Vec F S8x128 .f32) (i j : S8x128.Idx) (h : ∀ s : Fin 8, R s.val i = R' s.val j) : sum8 R i = sum8 R' j := by
  have h0 := h 0; have h1 := h 1; have h2 := h 2; have h3 := h 3; have h4 := h 4; have h5 := h 5; have h6 := h 6; have h7 := h 7
  unfold sum8 addf
  exact congrArg₂ _ (congrArg₂ _ (congrArg₂ _ (congrArg₂ _ (congrArg₂ _ (congrArg₂ _ (congrArg₂ _ h0 h1) h2) h3) h4) h5) h6) h7

theorem DoneH.step (t4 : Fin k0_t4_loop.trips) (f : BufTy.Contents (Elt F) arg8.view.ty)
    (g : BufTy.Contents (Elt F) arg13.view.ty) (X5 : BufTy.Contents (Elt F) arg5.view.ty)
    (X6 : BufTy.Contents (Elt F) arg6.view.ty) (X9 : BufTy.Contents (Elt F) arg9.view.ty)
    (X10 : BufTy.Contents (Elt F) arg10.view.ty)
    (hg : DoneG arg5 arg6 arg9 arg10 arg13 t4 8 g X5 X6 X9 X10)
    (h : DoneH arg5 arg6 arg8 arg9 arg10 t4.val f X5 X6 X9 X10) :
    DoneH arg5 arg6 arg8 arg9 arg10 (t4.val + 1) (arg8.view.writes (Elt F) f (sPieces arg13 t4 g)) X5 X6 X9 X10 := by
  intro t4' hlt t5 r l p k hp hk
  have h5 := t5_lt t5
  by_cases he : t4' = t4
  · subst he
    rw [read_sPieces arg8 arg13 t4' f g r ⟨t5.val, h5⟩ l p k hp hk]
    refine sum8_congr _ _ _ _ fun s => ?_
    have hs := s.isLt
    have hr := r.isLt
    have e : Fin.ofNat 8 s.val = s := Fin.ext (Nat.mod_eq_of_lt hs)
    rw [e, ← hg t5 h5 r s l ⟨132 * t5.val + 8 * r.val + s.val, by omega⟩ rfl]
    refine congrArg (arg13.view.read (Elt F) g) (funext fun a => Fin.ext ?_)
    fin_cases a
    · show (8 * r.val + s.val) % 128 + 132 * t5.val = 132 * t5.val + 8 * r.val + s.val; omega
    · show 0 + 1 * l.val = l.val; omega
  · have hne : t4'.val < t4.val := by
      have : t4'.val ≠ t4.val := fun h => he (Fin.ext h)
      omega
    rw [read_sPieces_miss arg8 arg13 t4 f g p k (by omega), h t4' hne t5 r l p k hp hk]

@[simp] theorem DoneG_zero (t4 : Fin k0_t4_loop.trips) (g : BufTy.Contents (Elt F) arg13.view.ty) (X5 : BufTy.Contents (Elt F) arg5.view.ty)
    (X6 : BufTy.Contents (Elt F) arg6.view.ty) (X9 : BufTy.Contents (Elt F) arg9.view.ty)
    (X10 : BufTy.Contents (Elt F) arg10.view.ty) : DoneG arg5 arg6 arg9 arg10 arg13 t4 0 g X5 X6 X9 X10 :=
  fun _ h => absurd h (Nat.not_lt_zero _)
@[simp] theorem DoneH_zero (g : BufTy.Contents (Elt F) arg8.view.ty) (X5 : BufTy.Contents (Elt F) arg5.view.ty)
    (X6 : BufTy.Contents (Elt F) arg6.view.ty) (X9 : BufTy.Contents (Elt F) arg9.view.ty)
    (X10 : BufTy.Contents (Elt F) arg10.view.ty) : DoneH arg5 arg6 arg8 arg9 arg10 0 g X5 X6 X9 X10 :=
  fun _ h => absurd h (Nat.not_lt_zero _)
@[simp] theorem DoneX_zero (f : BufTy.Contents (Elt F) arg12.view.ty) (X1 : BufTy.Contents (Elt F) arg1.view.ty) (X4 : BufTy.Contents (Elt F) arg4.view.ty)
    (X6 : BufTy.Contents (Elt F) arg6.view.ty) (X9 : BufTy.Contents (Elt F) arg9.view.ty) : DoneX arg1 arg4 arg6 arg9 arg12 0 f X1 X4 X6 X9 :=
  fun _ _ h => absurd h (Nat.not_lt_zero _)

set_option warn.classDefReducibility false

/-- The loop over the sixteen groups of channels. -/
@[sl_loop] def loopInv_k0_t4
    (X1 : BufTy.Contents (Elt F) arg1.view.ty) (X4 : BufTy.Contents (Elt F) arg4.view.ty)
    (X5 : BufTy.Contents (Elt F) arg5.view.ty) (X6 : BufTy.Contents (Elt F) arg6.view.ty)
    (X9 : BufTy.Contents (Elt F) arg9.view.ty) (X10 : BufTy.Contents (Elt F) arg10.view.ty) :
    LoopInvTy_k0_t4 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 where
  inv k _ := iprop(pt c arg1 X1 ∗ pt c arg4 X4 ∗ pt c arg5 X5 ∗ pt c arg6 X6 ∗ pt c arg9 X9 ∗ pt c arg10 X10
    ∗ (∃ f, pt c arg13 f)
    ∗ (∃ f, pt c arg12 f ∗ (∃ f8, pt c arg8 f8
      ∗ ⌜DoneX arg1 arg4 arg6 arg9 arg12 (8 * k) f X1 X4 X6 X9 ∧ DoneH arg5 arg6 arg8 arg9 arg10 k f8 X5 X6 X9 X10⌝)))
  step k acc := by
    unfold k0_t4_body
    iintro ⟨H1, H4, H5, H6, H9, H10, ⟨%f13, H13⟩, ⟨%f12, H12, ⟨%f8, H8, %hh⟩⟩⟩
    obtain ⟨h12, h8⟩ := hh
    sl_exec
    sl_step

    isplitl [H1]; · iexact H1
    isplitl [H4]; · iexact H4
    isplitl [H5]; · iexact H5
    isplitl [H6]; · iexact H6
    isplitl [H9]; · iexact H9
    isplitl [H10]; · iexact H10
    isplitl [H13]
    · iexists _; iexact H13
    iexists _
    isplitl [H12]
    · iexact H12
    iexists (arg8.view.writes (Elt F) f8 (sPieces arg13 k _))
    isplitl [H8]
    · iexact H8
    · ipureintro
      exact ⟨by assumption, DoneH.step arg5 arg6 arg8 arg9 arg10 arg13 k f8 _ X5 X6 X9 X10 (by assumption) h8⟩

end Cert.KernelIdeal.Val
end
-- ==== Proof.TileDh.lean ====
/-
  One channel's row of `dh` over the extended reals: the four products of `x` with moved tiles of `dy`, skewed and added
  up, are for each lag one sum over batches and times.
-/
module

public import proofs.«01_k».proof.Proof.TileBytes
public import proofs.«01_k».proof.Proof.Sums
public import proofs.«01_k».proof.Proof.Group
public import Idealize.ShloMosaic.Lib.MatmulPlain
import Idealize.ShloMosaic.Lib.ValueLayout

@[expose] public section

set_option maxHeartbeats 400000

noncomputable section

namespace Cert.KernelIdeal.Val

open Cert.KernelIdeal Cert.KernelIdeal.Gen Cert.KernelIdeal.Hand
open Idealize.ShloMosaic Idealize.ShloMosaic.TcCoe Idealize.ShloMosaic.ValueIdx
open Cert.Sums Finset

/-! ## The `x` operand -/

/-- The scaled `x` of batch `b` at time `t`; zero for the four batches that are not there. -/
def XX (xc : ℕ → ℕ → BitVec 8) (xsc : ℕ → ℕ → EReal) (b t : ℕ) : EReal := if b < 12 then dec4 (xc b t) * xsc b t else 0

/-- The time at which the block number `k` of sixteen columns starts. -/
def bt (k : ℕ) : ℕ := 256 * (k / 8) + 128 * (k % 2) + 32 * (k / 2 % 4)

section Dh
variable (A N : Fin 8 → Vec Ideal S8x128 .i32) (D : Fin 4 → Fin 16 → Vec Ideal S1x1x16x128 .bf16)
variable (X : Fin 8 → Vec Ideal S8x128 .i32) (Sx : Fin 8 → Vec Ideal S32x128 .bf16)
variable (dyc xc : ℕ → ℕ → BitVec 8) (dsc xsc : ℕ → ℕ → EReal)

theorem xTile_apply
    (hX : ∀ (g a : Fin 8) (m : Fin 128) (j : ℕ), j < 4 → m.val % 16 < 12 →
      byteAt (X g (ix2 a m)) j = xc (m.val % 16) (256 * g.val + bt (m.val / 16) + 4 * a.val + j))
    (hS : ∀ (g : Fin 8) (s : Fin 32) (m : Fin 128),
      Sx g (ix2 s m) = if m.val % 16 < 12 then xsc (m.val % 16) (256 * g.val + bt (m.val / 16) + s.val) else 0)
    (g : Fin 8) (s : Fin 32) (m : Fin 128) :
    xTile X Sx g (ix2 s m) = XX xc xsc (m.val % 16) (256 * g.val + bt (m.val / 16) + s.val) := by
  have hs := s.isLt
  unfold xTile
  rw [shapeCast_self]
  show dec4 (bitcast S32x128 8 (X g) bitcasts_S8x128_w32_S32x128_w8 (ix2 s m)) * Sx g (ix2 s m) = _
  rw [hS, bitcast_32_8_ix2 (X g) bitcasts_S8x128_w32_S32x128_w8 s m ⟨s.val / 4, by omega⟩ (s.val % 4) (by omega) (by show s.val = 4 * (s.val / 4) + s.val % 4; omega)]
  unfold XX
  by_cases h : m.val % 16 < 12
  · rw [if_pos h, if_pos h, hX g _ m _ (by omega) h]
    congr 3
    show 256 * g.val + bt (m.val / 16) + 4 * (s.val / 4) + s.val % 4 = _
    omega
  · rw [if_neg h, if_neg h, mul_zero]

theorem xPad_apply
    (hT : ∀ (g : Fin 8) (s : Fin 32) (m : Fin 128), xTile X Sx g (ix2 s m) = XX xc xsc (m.val % 16) (256 * g.val + bt (m.val / 16) + s.val))
    (j : ℕ) (hj : j < 16) (s : Fin 32) (m : Fin 128) :
    xPad X Sx j (ix2 s m) = if 8 ≤ j then XX xc xsc (m.val % 16) (256 * (j - 8) + bt (m.val / 16) + s.val) else 0 := by
  unfold xPad
  by_cases h : 8 ≤ j
  · rw [show Nat.ble 8 j = true from Nat.ble_eq_true_of_le h, if_pos h]
    refine (hT _ s m).trans ?_
    rw [show (Fin.ofNat 8 (j - 8)).val = j - 8 from Nat.mod_eq_of_lt (by omega)]
  · rw [show Nat.ble 8 j = false from by rw [← Bool.not_eq_true, Nat.ble_eq]; omega, if_neg h]
    exact Ideal.ofBits_zero_bf16

theorem concat2_32c {α : Type} (x0 x1 : S32x128.Idx → α) (u : Fin 32) (t : Fin 256) (k : ℕ) (p : Fin 128) (x : S32x128.Idx → α)
    (hk : t.val = 128 * k + p.val) (hx : [x0, x1][k]? = some x) :
    concatenate S32x256 1 [⟨S32x128, x0⟩, ⟨S32x128, x1⟩] concatenates_S32x128_S32x128_S32x256_d1 (ix2 u t) = x (ix2 u p) :=
  concat_cols (T := 256) (h := 32) (w := 128) [x0, x1] concatenates_S32x128_S32x128_S32x256_d1 u t k p hk x hx

theorem concat8_32 {α : Type} (x0 x1 x2 x3 x4 x5 x6 x7 : S32x256.Idx → α) (u : Fin 256) (t : Fin 256) (k : ℕ) (p : Fin 32) (x : S32x256.Idx → α)
    (hk : u.val = 32 * k + p.val) (hx : [x0, x1, x2, x3, x4, x5, x6, x7][k]? = some x) :
    concatenate S256x256 0 [⟨S32x256, x0⟩, ⟨S32x256, x1⟩, ⟨S32x256, x2⟩, ⟨S32x256, x3⟩, ⟨S32x256, x4⟩, ⟨S32x256, x5⟩, ⟨S32x256, x6⟩, ⟨S32x256, x7⟩]
      concatenates_S32x256_S32x256_S32x256_S32x256_S32x256_S32x256_S32x256_S32x256_S256x256_d0 (ix2 u t) = x (ix2 p t) :=
  concat_rows (T := 256) (h := 32) (w := 256) [x0, x1, x2, x3, x4, x5, x6, x7]
    concatenates_S32x256_S32x256_S32x256_S32x256_S32x256_S32x256_S32x256_S32x256_S256x256_d0 u t k p hk x hx

/-- The `x` operand: row `32 e + s` is `x` delayed by `256 e` and advanced by `s`. -/
theorem xStack_apply
    (hT : ∀ (g : Fin 8) (s : Fin 32) (m : Fin 128), xTile X Sx g (ix2 s m) = XX xc xsc (m.val % 16) (256 * g.val + bt (m.val / 16) + s.val))
    (t : ℕ) (ht : t < 4) (u : Fin 256) (e : ℕ) (s : Fin 32) (hu : u.val = 32 * e + s.val) (M : Fin 256) :
    xStack X Sx t (ix2 u M)
      = if 8 * e ≤ 16 * t + M.val / 16 then XX xc xsc (M.val % 16) (bt (16 * t + M.val / 16 - 8 * e) + s.val) else 0 := by
  have hu' := u.isLt
  have hM := M.isLt
  have he : e < 8 := by omega
  have hpair : xStack X Sx t (ix2 u M) = xPair X Sx (2 * t + 8 - e) (ix2 s M) := by
    unfold xStack
    exact concat8_32 _ _ _ _ _ _ _ _ u M e s (xPair X Sx (2 * t + 8 - e)) hu (by interval_cases e <;> rfl)
  have hh : xPair X Sx (2 * t + 8 - e) (ix2 s M) = xPad X Sx (2 * t + 8 - e + M.val / 128) (ix2 s ⟨M.val % 128, Nat.mod_lt _ (by omega)⟩) := by
    unfold xPair
    refine concat2_32c _ _ s M (M.val / 128) ⟨M.val % 128, Nat.mod_lt _ (by omega)⟩ _ (by show M.val = 128 * (M.val / 128) + M.val % 128; omega) ?_
    have : M.val / 128 < 2 := by omega
    generalize M.val / 128 = h at this
    interval_cases h <;> rfl
  rw [hpair, hh, xPad_apply X Sx xc xsc hT _ (by omega)]
  show (if 8 ≤ 2 * t + 8 - e + M.val / 128 then XX xc xsc (M.val % 128 % 16) (256 * (2 * t + 8 - e + M.val / 128 - 8) + bt (M.val % 128 / 16) + s.val) else 0) = _
  by_cases h : 8 * e ≤ 16 * t + M.val / 16
  · rw [if_pos (by omega), if_pos h]
    unfold bt
    congr 1 <;> omega
  · rw [if_neg (by omega), if_neg h]

/-! ## The `dy` operand -/

theorem concat16_16 {α : Type} (x : ℕ → S16x128.Idx → α) (u : Fin 256) (t : Fin 128) (k : ℕ) (p : Fin 16)
    (hk : u.val = 16 * k + p.val) :
    concatenate S256x128 0
      [⟨S16x128, x 0⟩, ⟨S16x128, x 1⟩, ⟨S16x128, x 2⟩, ⟨S16x128, x 3⟩, ⟨S16x128, x 4⟩, ⟨S16x128, x 5⟩, ⟨S16x128, x 6⟩, ⟨S16x128, x 7⟩,
        ⟨S16x128, x 8⟩, ⟨S16x128, x 9⟩, ⟨S16x128, x 10⟩, ⟨S16x128, x 11⟩, ⟨S16x128, x 12⟩, ⟨S16x128, x 13⟩, ⟨S16x128, x 14⟩, ⟨S16x128, x 15⟩]
      concatenates_S16x128_S16x128_S16x128_S16x128_S16x128_S16x128_S16x128_S16x128_S16x128_S16x128_S16x128_S16x128_S16x128_S16x128_S16x128_S16x128_S256x128_d0
      (ix2 u t) = x k (ix2 p t) := by
  have hu := u.isLt
  have hk16 : k < 16 := by omega
  refine concat_rows (T := 256) (h := 16) (w := 128) [x 0, x 1, x 2, x 3, x 4, x 5, x 6, x 7, x 8, x 9, x 10, x 11, x 12, x 13, x 14, x 15]
    concatenates_S16x128_S16x128_S16x128_S16x128_S16x128_S16x128_S16x128_S16x128_S16x128_S16x128_S16x128_S16x128_S16x128_S16x128_S16x128_S16x128_S256x128_d0
    u t k p hk (x k) ?_
  interval_cases k <;> rfl

theorem concat2_256c {α : Type} (x0 x1 : S256x128.Idx → α) (u : Fin 256) (t : Fin 256) (k : ℕ) (p : Fin 128) (x : S256x128.Idx → α)
    (hk : t.val = 128 * k + p.val) (hx : [x0, x1][k]? = some x) :
    concatenate S256x256 1 [⟨S256x128, x0⟩, ⟨S256x128, x1⟩] concatenates_S256x128_S256x128_S256x256_d1 (ix2 u t) = x (ix2 u p) :=
  concat_cols (T := 256) (h := 256) (w := 128) [x0, x1] concatenates_S256x128_S256x128_S256x256_d1 u t k p hk x hx

/-- A column of moved tiles, tile by tile. -/
theorem zCol_tile (q : ℕ) (M : Fin 256) (l : Fin 128) :
    zCol A N D q (ix2 M l) = zTile A N D (M.val / 16 / 2 % 4) (q + M.val / 16 % 2 + 2 * (M.val / 16 / 8)) (ix2 ⟨M.val % 16, Nat.mod_lt _ (by omega)⟩ l) := by
  unfold zCol
  exact concat16_16 (fun k => zTile A N D (k / 2 % 4) (q + k % 2 + 2 * (k / 8))) M l (M.val / 16) ⟨M.val % 16, Nat.mod_lt _ (by omega)⟩
    (by show M.val = 16 * (M.val / 16) + M.val % 16; omega)

theorem zStack_apply
    (hZ : ∀ (v : ℕ), v < 4 → ∀ (q : ℕ) (b : Fin 16) (l : Fin 128), zTile A N D v q (ix2 b l) = Zv dyc dsc b.val (128 * q + 32 * v + l.val))
    (t : ℕ) (M L : Fin 256) :
    zStack A N D t (ix2 M L) = Zv dyc dsc (M.val % 16) (bt (16 * t + M.val / 16) + L.val) := by
  have hM := M.isLt
  have hL := L.isLt
  have hcol : zStack A N D t (ix2 M L) = zCol A N D (4 * t + L.val / 128) (ix2 M ⟨L.val % 128, Nat.mod_lt _ (by omega)⟩) := by
    unfold zStack
    refine concat2_256c _ _ M L (L.val / 128) ⟨L.val % 128, Nat.mod_lt _ (by omega)⟩ _ (by show L.val = 128 * (L.val / 128) + L.val % 128; omega) ?_
    have : L.val / 128 < 2 := by omega
    generalize L.val / 128 = h at this
    interval_cases h <;> rfl
  rw [hcol, zCol_tile, hZ _ (by omega)]
  show Zv dyc dsc (M.val % 16) (128 * (4 * t + L.val / 128 + M.val / 16 % 2 + 2 * (M.val / 16 / 8)) + 32 * (M.val / 16 / 2 % 4) + L.val % 128) = _
  unfold bt
  congr 1
  omega

/-! ## The sum of products, and the skew -/

/-- `x` times the `dy` that lies `k` later, summed over the starts of the blocks, `s` past each. -/
def lagSum (s k : ℕ) : EReal :=
  ∑ κ ∈ range 64, ∑ b ∈ range 16, XX xc xsc b (bt κ + s) * Zv dyc dsc b (bt κ + s + k)

theorem dhAcc_partial
    (hZ : ∀ (v : ℕ), v < 4 → ∀ (q : ℕ) (b : Fin 16) (l : Fin 128), zTile A N D v q (ix2 b l) = Zv dyc dsc b.val (128 * q + 32 * v + l.val))
    (hT : ∀ (g : Fin 8) (s : Fin 32) (m : Fin 128), xTile X Sx g (ix2 s m) = XX xc xsc (m.val % 16) (256 * g.val + bt (m.val / 16) + s.val))
    (n : ℕ) (hn : n ≤ 4) (u L : Fin 256) (e : ℕ) (s : Fin 32) (hu : u.val = 32 * e + s.val) :
    dhAcc A N D X Sx n (ix2 u L)
      = ∑ t ∈ range n, ∑ c ∈ range 16, ∑ b ∈ range 16,
          (if 8 * e ≤ 16 * t + c then XX xc xsc b (bt (16 * t + c - 8 * e) + s.val) else 0) * Zv dyc dsc b (bt (16 * t + c) + L.val) := by
  induction n with
  | zero => exact Ideal.ofBits_zero_f32
  | succ t ih =>
    rw [sum_range_succ, ← ih (by omega)]
    show dhAcc A N D X Sx t (ix2 u L) + _ = _
    congr 1
    refine (Ideal.matmul_plain_apply (M := 256) (K := 256) (N := 256) none (xStack X Sx t) (zStack A N D t) _ u L).trans ?_
    rw [show (constant (F := Ideal) S256x256 .f32 0x00000000#32 (ix2 u L) : EReal) = 0 from Ideal.ofBits_zero_f32, zero_add]
    have hsum : ∀ M : Fin 256, xStack X Sx t (ix2 u M) * zStack A N D t (ix2 M L)
        = (fun K : ℕ => (if 8 * e ≤ 16 * t + K / 16 then XX xc xsc (K % 16) (bt (16 * t + K / 16 - 8 * e) + s.val) else 0)
            * Zv dyc dsc (K % 16) (bt (16 * t + K / 16) + L.val)) M.val := fun M => by
      rw [xStack_apply X Sx xc xsc hT t (by omega) u e s hu M, zStack_apply A N D dyc dsc hZ t M L]
    rw [Finset.sum_congr rfl fun M _ => hsum M, ← Finset.sum_range (fun K : ℕ => (if 8 * e ≤ 16 * t + K / 16 then XX xc xsc (K % 16) (bt (16 * t + K / 16 - 8 * e) + s.val) else 0)
            * Zv dyc dsc (K % 16) (bt (16 * t + K / 16) + L.val)), sum_range_split 16 16 256 rfl]
    refine Finset.sum_congr rfl fun c _ => Finset.sum_congr rfl fun b hb => ?_
    have hb' := Finset.mem_range.1 hb
    rw [show (16 * c + b) / 16 = c by omega, show (16 * c + b) % 16 = b by omega]

theorem dhAcc_apply
    (hZ : ∀ (v : ℕ), v < 4 → ∀ (q : ℕ) (b : Fin 16) (l : Fin 128), zTile A N D v q (ix2 b l) = Zv dyc dsc b.val (128 * q + 32 * v + l.val))
    (hT : ∀ (g : Fin 8) (s : Fin 32) (m : Fin 128), xTile X Sx g (ix2 s m) = XX xc xsc (m.val % 16) (256 * g.val + bt (m.val / 16) + s.val))
    (u L : Fin 256) (e : ℕ) (s : Fin 32) (hu : u.val = 32 * e + s.val) :
    dhAcc A N D X Sx 4 (ix2 u L)
      = ∑ κ ∈ range 64, ∑ b ∈ range 16, XX xc xsc b (bt κ + s.val) * Zv dyc dsc b (bt κ + 256 * e + L.val) := by
  rw [dhAcc_partial A N D X Sx dyc xc dsc xsc hZ hT 4 (le_refl 4) u L e s hu,
    sum_range_mul 4 16 (fun κ => ∑ b ∈ range 16,
      (if 8 * e ≤ κ then XX xc xsc b (bt (κ - 8 * e) + s.val) else 0) * Zv dyc dsc b (bt κ + L.val)),
    ← sum_delay 64 (8 * e) (fun κ => ∑ b ∈ range 16, XX xc xsc b (bt κ + s.val) * Zv dyc dsc b (bt κ + 256 * e + L.val))]
  · refine Finset.sum_congr rfl fun κ _ => ?_
    by_cases h : 8 * e ≤ κ
    · rw [if_pos h]
      refine Finset.sum_congr rfl fun b _ => ?_
      rw [if_pos h]
      congr 2
      unfold bt
      omega
    · rw [if_neg h]
      refine Finset.sum_eq_zero fun b _ => ?_
      rw [if_neg h, zero_mul]
  · intro κ hκ
    refine Finset.sum_eq_zero fun b _ => ?_
    rw [Zv_late _ _ _ _ (by unfold bt; omega), mul_zero]

theorem gTile_apply (G : FVec Ideal S256x256 .f32)
    (hG : ∀ (u L : Fin 256) (e : ℕ) (s : Fin 32), u.val = 32 * e + s.val →
      G (ix2 u L) = ∑ κ ∈ range 64, ∑ b ∈ range 16, XX xc xsc b (bt κ + s.val) * Zv dyc dsc b (bt κ + 256 * e + L.val))
    (n g : ℕ) (hg : g < 4) (s : Fin 8) (l : Fin 128) :
    gTile G n g (ix2 s l)
      = ∑ κ ∈ range 64, ∑ b ∈ range 16, XX xc xsc b (bt κ + (8 * g + s.val)) * Zv dyc dsc b (bt κ + (128 * n + l.val)) := by
  have hs := s.isLt
  have hl := l.isLt
  unfold gTile
  by_cases h : 16 ≤ n
  · rw [show Nat.ble 16 n = true from Nat.ble_eq_true_of_le h]
    refine Ideal.ofBits_zero_f32.trans (Eq.symm ?_)
    refine Finset.sum_eq_zero fun κ _ => Finset.sum_eq_zero fun b _ => ?_
    rw [Zv_late _ _ _ _ (by omega), mul_zero]
  · rw [show Nat.ble 16 n = false from by rw [← Bool.not_eq_true, Nat.ble_eq]; omega]
    show extractStridedSlice S8x128 ![32 * (n / 2 % 8) + 8 * (g % 4), 128 * (n % 2)] G (gSlices n g) (ix2 s l) = _
    rw [extractStridedSlice_apply _ _ (gSlices n g) (ix2 s l) (ix2 (⟨32 * (n / 2 % 8) + 8 * (g % 4) + s.val, by omega⟩ : Fin 256) (⟨128 * (n % 2) + l.val, by omega⟩ : Fin 256))
      (fun c => by match c with
        | ⟨0, _⟩ => rfl
        | ⟨1, _⟩ => rfl)]
    rw [hG _ _ (n / 2) ⟨8 * g + s.val, by omega⟩ (by show 32 * (n / 2 % 8) + 8 * (g % 4) + s.val = 32 * (n / 2) + (8 * g + s.val); omega)]
    refine Finset.sum_congr rfl fun κ _ => Finset.sum_congr rfl fun b _ => ?_
    congr 2
    show bt κ + 256 * (n / 2) + (128 * (n % 2) + l.val) = _
    omega

theorem skewLane_apply (g : ℕ) (hg : g < 4) (s : Fin 8) (l : Fin 128) : skewLane g (ix2 s l) = BitVec.ofNat 32 ((l.val + s.val + 8 * g) % 128) := by
  have hs := s.isLt
  have hl := l.isLt
  show (BitVec.ofNat 32 (0 * 128 + l.val) + BitVec.ofNat 32 (0 * 8 + s.val) + BitVec.ofNat 32 (8 * g)) &&& 127#32 = _
  apply BitVec.eq_of_toNat_eq
  rw [BitVec.toNat_and]
  simp only [BitVec.toNat_add, BitVec.toNat_ofNat]
  rw [show 127 % 2 ^ 32 = 2 ^ 7 - 1 from rfl, Nat.and_two_pow_sub_one_eq_mod]
  omega

theorem skewIdx_apply (g : ℕ) (hg : g < 4) (s : Fin 8) (l : Fin 128) : skewIdx g (ix2 s l) = BitVec.ofNat 32 ((l.val + s.val + 8 * g) % 128) := by
  unfold skewIdx
  rw [shapeCast_apply _ _ (ix2 s l) (ix3 s l 0) (by
      rw [Shape.rowMajor_val_three, Shape.rowMajor_val_two]
      show (s.val * 128 + l.val) * 1 + 0 = s.val * 128 + l.val
      omega),
    shapeCast_apply _ _ (ix3 s l 0) (ix2 s l) (by
      rw [Shape.rowMajor_val_three, Shape.rowMajor_val_two]
      show s.val * 128 + l.val = (s.val * 128 + l.val) * 1 + 0
      omega)]
  show Scalar.select (IntOp.cmpi .slt (skewLane g (ix2 s l)) (BitVec.ofNat 32 0)) _ (skewLane g (ix2 s l)) = _
  rw [skewLane_apply g hg, slt_ofNat _ _ (by omega) (by omega), if_neg (by omega)]
  exact if_neg (by decide)

theorem sge_ofNat (a b : ℕ) (ha : a < 2 ^ 31) (hb : b < 2 ^ 31) :
    IntOp.cmpi .sge (BitVec.ofNat 32 a) (BitVec.ofNat 32 b) = if b ≤ a then 1#1 else 0#1 := by
  unfold IntOp.cmpi
  simp only [BitVec.sle]
  rw [BitVec.toInt_eq_toNat_of_lt (by simp only [BitVec.toNat_ofNat]; omega), BitVec.toInt_eq_toNat_of_lt (by simp only [BitVec.toNat_ofNat]; omega)]
  simp only [BitVec.toNat_ofNat]
  rw [Nat.mod_eq_of_lt (by omega), Nat.mod_eq_of_lt (by omega)]
  by_cases h : b ≤ a
  · simp [h]
  · simp [h]

theorem skewPart_apply (G : FVec Ideal S256x256 .f32)
    (hG : ∀ (u L : Fin 256) (e : ℕ) (s : Fin 32), u.val = 32 * e + s.val →
      G (ix2 u L) = ∑ κ ∈ range 64, ∑ b ∈ range 16, XX xc xsc b (bt κ + s.val) * Zv dyc dsc b (bt κ + 256 * e + L.val))
    (n g : ℕ) (hg : g < 4) (s : Fin 8) (l : Fin 128) :
    skewPart G n g (ix2 s l) = lagSum dyc xc dsc xsc (8 * g + s.val) (128 * n + l.val) := by
  have hs := s.isLt
  have hl := l.isLt
  let m : Fin 128 := ⟨(l.val + s.val + 8 * g) % 128, Nat.mod_lt _ (by omega)⟩
  have hm : m.val = (l.val + s.val + 8 * g) % 128 := rfl
  unfold skewPart dynamicGather
  have hidx : (fun c => if c = 1 then (⟨(skewIdx g (ix2 s l)).toNat % S8x128.size c, Nat.mod_lt _ (Fin.pos (ix2 s l c))⟩ : Fin (S8x128.size c)) else ix2 s l c) = ix2 s m := by
    funext c
    match c with
    | ⟨0, _⟩ => rfl
    | ⟨1, _⟩ =>
      refine (if_pos rfl).trans (Fin.ext ?_)
      show (skewIdx g (ix2 s l)).toNat % 128 = m.val
      rw [skewIdx_apply g hg, BitVec.toNat_ofNat, hm]
      omega
  refine (congrArg (select (cmpi .sge lane8 (addi sub8 (broadcast S8x128 (BitVec.ofNat 32 (8 * g))))) (gTile G n g) (gTile G (n + 1) g)) hidx).trans ?_
  have hcmp : cmpi .sge lane8 (addi sub8 (broadcast S8x128 (BitVec.ofNat 32 (8 * g)))) (ix2 s m) = if s.val + 8 * g ≤ m.val then 1#1 else 0#1 := by
    rw [← sge_ofNat _ _ (by omega) (by omega)]
    show IntOp.cmpi .sge (BitVec.ofNat 32 (0 * 128 + m.val)) (BitVec.ofNat 32 (0 * 8 + s.val) + BitVec.ofNat 32 (8 * g)) = _
    congr 1
    · congr 1; omega
    · apply BitVec.eq_of_toNat_eq
      simp only [BitVec.toNat_add, BitVec.toNat_ofNat]
      omega
  show Scalar.select (cmpi .sge lane8 (addi sub8 (broadcast S8x128 (BitVec.ofNat 32 (8 * g)))) (ix2 s m)) (gTile G n g (ix2 s m)) (gTile G (n + 1) g (ix2 s m)) = _
  rw [hcmp]
  unfold lagSum
  by_cases h : s.val + 8 * g ≤ m.val
  · rw [if_pos h]
    refine (if_pos rfl).trans ?_
    rw [gTile_apply dyc xc dsc xsc G hG n g hg]
    refine Finset.sum_congr rfl fun κ _ => Finset.sum_congr rfl fun b _ => ?_
    congr 2
    omega
  · rw [if_neg h]
    refine (if_neg (by decide)).trans ?_
    rw [gTile_apply dyc xc dsc xsc G hG (n + 1) g hg]
    refine Finset.sum_congr rfl fun κ _ => Finset.sum_congr rfl fun b _ => ?_
    congr 2
    omega

theorem skewTile_apply (G : FVec Ideal S256x256 .f32)
    (hG : ∀ (u L : Fin 256) (e : ℕ) (s : Fin 32), u.val = 32 * e + s.val →
      G (ix2 u L) = ∑ κ ∈ range 64, ∑ b ∈ range 16, XX xc xsc b (bt κ + s.val) * Zv dyc dsc b (bt κ + 256 * e + L.val))
    (n : ℕ) (s : Fin 8) (l : Fin 128) :
    skewTile G n (ix2 s l) = ∑ g ∈ range 4, lagSum dyc xc dsc xsc (8 * g + s.val) (128 * n + l.val) := by
  unfold skewTile
  rw [shapeCast_self]
  show ((((Ideal.ofBits .f32 0x00000000#32 : EReal) + skewPart G n 0 (ix2 s l)) + skewPart G n 1 (ix2 s l)) + skewPart G n 2 (ix2 s l)) + skewPart G n 3 (ix2 s l) = _
  rw [Ideal.ofBits_zero_f32, skewPart_apply dyc xc dsc xsc G hG n 0 (by omega), skewPart_apply dyc xc dsc xsc G hG n 1 (by omega),
    skewPart_apply dyc xc dsc xsc G hG n 2 (by omega), skewPart_apply dyc xc dsc xsc G hG n 3 (by omega)]
  simp only [Finset.sum_range_succ, Finset.sum_range_zero]

/-- The blocks' starts and the thirty-two steps past each are all the times. -/
theorem sum_bt (f : ℕ → EReal) : ∑ s ∈ range 32, ∑ κ ∈ range 64, f (bt κ + s) = ∑ τ ∈ range 2048, f τ := by
  rw [Finset.sum_comm, sum_range_split 8 8 64 rfl, sum_range_split 8 256 2048 rfl]
  refine Finset.sum_congr rfl fun p _ => ?_
  rw [sum_range_split 4 2 8 rfl, Finset.sum_comm, sum_range_split 2 128 256 rfl]
  refine Finset.sum_congr rfl fun q hq => ?_
  have hq' := Finset.mem_range.1 hq
  rw [sum_range_split 4 32 128 rfl]
  refine Finset.sum_congr rfl fun v hv => Finset.sum_congr rfl fun s hs => ?_
  have hv' := Finset.mem_range.1 hv
  congr 1
  unfold bt
  omega

theorem sum8_skew (G : FVec Ideal S256x256 .f32)
    (hG : ∀ (u L : Fin 256) (e : ℕ) (s : Fin 32), u.val = 32 * e + s.val →
      G (ix2 u L) = ∑ κ ∈ range 64, ∑ b ∈ range 16, XX xc xsc b (bt κ + s.val) * Zv dyc dsc b (bt κ + 256 * e + L.val))
    (n : ℕ) (l : Fin 128) :
    sum8 (F := Ideal) (fun s _ => skewTile G n (ix2 (Fin.ofNat 8 s) l)) (ix2 0 0)
      = ∑ b ∈ range 16, ∑ τ ∈ range 2048, XX xc xsc b τ * Zv dyc dsc b (τ + (128 * n + l.val)) := by
  have h8 : sum8 (F := Ideal) (fun s _ => skewTile G n (ix2 (Fin.ofNat 8 s) l)) (ix2 0 0)
      = ∑ s ∈ range 8, skewTile G n (ix2 (Fin.ofNat 8 s) l) := by
    simp only [Finset.sum_range_succ, Finset.sum_range_zero, zero_add]
    rfl
  rw [h8]
  have h1 : ∀ s ∈ range 8, skewTile G n (ix2 (Fin.ofNat 8 s) l) = ∑ g ∈ range 4, lagSum dyc xc dsc xsc (8 * g + s) (128 * n + l.val) := fun s hs => by
    rw [skewTile_apply dyc xc dsc xsc G hG n, show (Fin.ofNat 8 s).val = s from Nat.mod_eq_of_lt (Finset.mem_range.1 hs)]
  rw [Finset.sum_congr rfl h1, Finset.sum_comm, sum_range_mul 4 8 (fun s => lagSum dyc xc dsc xsc s (128 * n + l.val))]
  unfold lagSum
  rw [sum_bt (fun τ => ∑ b ∈ range 16, XX xc xsc b τ * Zv dyc dsc b (τ + (128 * n + l.val))), Finset.sum_comm]

/-- The channel's row of `dh` at lag `128 n + l`: the sum over batches and times of `x` with the `dy` that much later. -/
theorem dhRow_apply
    (hZ : ∀ (v : ℕ), v < 4 → ∀ (q : ℕ) (b : Fin 16) (l : Fin 128), zTile A N D v q (ix2 b l) = Zv dyc dsc b.val (128 * q + 32 * v + l.val))
    (hT : ∀ (g : Fin 8) (s : Fin 32) (m : Fin 128), xTile X Sx g (ix2 s m) = XX xc xsc (m.val % 16) (256 * g.val + bt (m.val / 16) + s.val))
    (n : ℕ) (l : Fin 128) :
    sum8 (F := Ideal) (fun s _ => skewTile (dhAcc A N D X Sx 4) n (ix2 (Fin.ofNat 8 s) l)) (ix2 0 0)
      = ∑ b ∈ range 16, ∑ τ ∈ range 2048, XX xc xsc b τ * Zv dyc dsc b (τ + (128 * n + l.val)) :=
  sum8_skew dyc xc dsc xsc _ (fun u L e s hu => dhAcc_apply A N D X Sx dyc xc dsc xsc hZ hT u L e s hu) n l

end Dh

end Cert.KernelIdeal.Val
end
-- ==== Proof.ConcatSlab.lean ====
/-
  Four slabs laid one after the other along a new first axis, read at a place: the slab the first coordinate names.
-/
module

import Idealize.ShloMosaic.Lib.Pointwise.SelectCore
public import proofs.«01_k».proof.Proof.Gen.KernelIdeal
public import Idealize.ShloMosaic.Lib.ValueIdxCore

@[expose] public section

namespace Cert.KernelIdeal.Val

open Cert.KernelIdeal Cert.KernelIdeal.Gen
open Idealize.ShloMosaic

theorem concat4_slab {α : Type} (x0 x1 x2 x3 : S1x16x16x128.Idx → α) (v : Fin 4) (q b : Fin 16) (l : Fin 128) :
    concatenate S4x16x16x128 0 [⟨S1x16x16x128, x0⟩, ⟨S1x16x16x128, x1⟩, ⟨S1x16x16x128, x2⟩, ⟨S1x16x16x128, x3⟩]
      concatenates_S1x16x16x128_S1x16x16x128_S1x16x16x128_S1x16x16x128_S4x16x16x128_d0 (ValueIdx.ix4 v q b l)
      = (match v with | 0 => x0 | 1 => x1 | 2 => x2 | 3 => x3) (ValueIdx.ix4 0 q b l) := by
  rw [concatenate_apply]
  match v with
  | 0 =>
    simp only [concatenateAt_cons]
    exact (dif_pos (by show 0 < 1; omega)).trans (congrArg x0 (by funext a; match a with | ⟨0, _⟩ => rfl | ⟨1, _⟩ => rfl | ⟨2, _⟩ => rfl | ⟨3, _⟩ => rfl))
  | 1 =>
    simp only [concatenateAt_cons]
    exact (dif_neg (by show ¬ 1 < 1; omega)).trans ((dif_pos (by show 1 - 1 < 1; omega)).trans (congrArg x1 (by funext a; match a with | ⟨0, _⟩ => rfl | ⟨1, _⟩ => rfl | ⟨2, _⟩ => rfl | ⟨3, _⟩ => rfl)))
  | 2 =>
    simp only [concatenateAt_cons]
    exact (dif_neg (by show ¬ 2 < 1; omega)).trans ((dif_neg (by show ¬ 2 - 1 < 1; omega)).trans ((dif_pos (by show 2 - 1 - 1 < 1; omega)).trans
      (congrArg x2 (by funext a; match a with | ⟨0, _⟩ => rfl | ⟨1, _⟩ => rfl | ⟨2, _⟩ => rfl | ⟨3, _⟩ => rfl))))
  | 3 =>
    simp only [concatenateAt_cons, concatenateAt_singleton]
    exact (dif_neg (by show ¬ 3 < 1; omega)).trans ((dif_neg (by show ¬ 3 - 1 < 1; omega)).trans ((dif_neg (by show ¬ 3 - 1 - 1 < 1; omega)).trans
      (congrArg x3 (by funext a; match a with | ⟨0, _⟩ => rfl | ⟨1, _⟩ => rfl | ⟨2, _⟩ => rfl | ⟨3, _⟩ => rfl))))

end Cert.KernelIdeal.Val
-- ==== Proof.Entry.lean ====
/-
  What the host operations before the region leave in the six arrays the kernel reads, as terms of the arguments and then
  element by element.
-/
module

public import proofs.«01_k».proof.Proof.Gen.KernelIdeal.Frame
public import proofs.«01_k».proof.Proof.TileDx
public import proofs.«01_k».proof.Proof.TileDh
public import Idealize.ShloMosaic.Lib.Claim
public import Idealize.ShloMosaic.Lib.KernelVsHost
public import proofs.«01_k».proof.Proof.ConcatSlab

@[expose] public section

set_option maxRecDepth 16384
set_option maxHeartbeats 1000000

noncomputable section

namespace Cert.KernelIdeal.Val

open Cert.KernelIdeal Cert.KernelIdeal.Gen
open Idealize.ShloMosaic Idealize.ShloMosaic.TcCoe Idealize.ShloMosaic.ValueIdx

/-! ## The arguments, at natural numbers -/

def at1 {α : Type} (f : S512.Idx → α) (c : ℕ) : α := f (ix1 (Fin.ofNat 512 c))
def at2 {α : Type} (f : S12x2048.Idx → α) (b t : ℕ) : α := f (ix2 (Fin.ofNat 12 b) (Fin.ofNat 2048 t))
def at3 {α : Type} (f : S12x2048x512.Idx → α) (c b t : ℕ) : α := f (ix3 (Fin.ofNat 12 b) (Fin.ofNat 2048 t) (Fin.ofNat 512 c))
def atH {α : Type} (f : S512x2048.Idx → α) (c t : ℕ) : α := f (ix2 (Fin.ofNat 512 c) (Fin.ofNat 2048 t))

theorem ofNat_val (n : ℕ) [NeZero n] (i : Fin n) : Fin.ofNat n i.val = i := Fin.ext (Nat.mod_eq_of_lt i.isLt)

/-! ## The filter windows -/

section Hb
variable (h : S512x2048.Idx → BitVec 8)

/-- The filter codes, last first, with four zeros before and one hundred and twenty-eight after. -/
def hPad : S512x2180.Idx → BitVec 32 :=
  pad S512x2180 ![0, 4] ![0, 128] ![0, 0] (Host.reverse [1] (extui (s := S512x2048) 32 h natLt_8_32)) (constantI S_ 32 0#32)
    pads_S512x2048_S512x2180_000_41280 h_S_

def hShift (n : BitVec 32) (x : S512x2176.Idx → BitVec 32) : S512x2176.Idx → BitVec 32 :=
  Host.shli x (broadcastInDim S512x2176 ![] bcast_S_S512x2176 (constantI S_ 32 n))

/-- Four consecutive codes in one word. -/
def hWord (p : S512x2180.Idx → BitVec 32) : S512x2176.Idx → BitVec 32 :=
  ori (ori (ori (extractStridedSlice S512x2176 ![0, 3] p slices_S512x2180_S512x2176_0_3)
    (hShift 8#32 (extractStridedSlice S512x2176 ![0, 2] p slices_S512x2180_S512x2176_0_2)))
    (hShift 16#32 (extractStridedSlice S512x2176 ![0, 1] p slices_S512x2180_S512x2176_0_1)))
    (hShift 24#32 (extractStridedSlice S512x2176 ![0, 0] p slices_S512x2180_S512x2176_0_0))

/-- The words as seventeen windows, last first, and seven windows of zeros. -/
def hWin (w : S512x2176.Idx → BitVec 32) : S512x24x128.Idx → BitVec 32 :=
  pad S512x24x128 ![0, 0, 0] ![0, 7, 0] ![0, 0, 0] (Host.reverse [1] (shapeCast S512x17x128 w shapeCasts_S512x2176_S512x17x128))
    (constantI S_ 32 0#32) pads_S512x17x128_S512x24x128_000_070_000 h_S_

theorem hPad_apply (c : Fin 512) (p : Fin 2180) :
    hPad h (ix2 c p) = if 4 ≤ p.val ∧ p.val < 2052 then (atH h c.val (2051 - p.val)).setWidth 32 else 0#32 := by
  unfold hPad
  by_cases hp : 4 ≤ p.val ∧ p.val < 2052
  · rw [if_pos hp, pad_apply_of_inside _ _ _ _ _ _ _ (ix2 c p) (ix2 c (⟨p.val - 4, by omega⟩ : Fin 2048)) (fun a => by
      match a with
      | ⟨0, _⟩ => show c.val = 0 + c.val * 1; omega
      | ⟨1, _⟩ => show p.val = 4 + (p.val - 4) * 1; omega)]
    show BitVec.setWidth 32 (h _) = _
    unfold atH
    congr 2
    funext a
    match a with
    | ⟨0, _⟩ => exact (ofNat_val 512 c).symm
    | ⟨1, _⟩ => exact Fin.ext (by show 2048 - (p.val - 4 + 1) = (2051 - p.val) % 2048; omega)
  · rw [if_neg hp]
    exact pad_apply_of_not_inside _ _ _ _ _ _ _ (ix2 c p) 1 (by
      show ¬(4 ≤ p.val ∧ (p.val - 4) % 1 = 0 ∧ (p.val - 4) / 1 < 2048); omega)

theorem shift8 (x : BitVec 32) (i : ℕ) (hi : i < 4) : IntOp.shli .host x (BitVec.ofNat 32 (8 * i)) = x <<< (8 * i) := by
  unfold IntOp.shli
  rw [if_pos (by rw [BitVec.toNat_ofNat]; omega), BitVec.shiftLeft_eq', BitVec.toNat_ofNat, Nat.mod_eq_of_lt (by omega)]

theorem byteAt_or4 (a b c d : BitVec 8) (j : ℕ) (hj : j < 4) :
    byteAt (((a.setWidth 32 ||| (b.setWidth 32 <<< (8 * 1))) ||| (c.setWidth 32 <<< (8 * 2))) ||| (d.setWidth 32 <<< (8 * 3))) j
      = match j with | 0 => a | 1 => b | 2 => c | _ => d := by
  unfold byteAt
  interval_cases j <;> (apply BitVec.eq_of_getLsbD_eq; intro i hi; interval_cases i <;> simp [BitVec.getLsbD_extractLsb', BitVec.getLsbD_or, BitVec.getLsbD_shiftLeft, BitVec.getLsbD_setWidth])

/-- The code in byte `j` of the word at `y`. -/
def hByte (c y : ℕ) (j : ℕ) : BitVec 8 := if j + 1 ≤ y ∧ y ≤ 2048 + j then atH h c (2048 + j - y) else 0#8

theorem hWord_apply (c : Fin 512) (y : Fin 2176) (j : ℕ) (hj : j < 4) : byteAt (hWord (hPad h) (ix2 c y)) j = hByte h c.val y.val j := by
  have hy := y.isLt
  have hb : ∀ (k : ℕ) (hk : k < 4), hPad h (ix2 c (⟨3 - k + y.val, by omega⟩ : Fin 2180)) = (hByte h c.val y.val k).setWidth 32 := fun k hk => by
    rw [hPad_apply]
    unfold hByte
    show (if 4 ≤ 3 - k + y.val ∧ 3 - k + y.val < 2052 then (atH h c.val (2051 - (3 - k + y.val))).setWidth 32 else 0#32) = _
    by_cases hc : k + 1 ≤ y.val ∧ y.val ≤ 2048 + k
    · rw [if_pos (by omega), if_pos hc]
      congr 2
      omega
    · rw [if_neg (by omega), if_neg hc]; rfl
  have e : hWord (hPad h) (ix2 c y)
      = (((hByte h c.val y.val 0).setWidth 32 ||| ((hByte h c.val y.val 1).setWidth 32 <<< (8 * 1))) ||| ((hByte h c.val y.val 2).setWidth 32 <<< (8 * 2)))
        ||| ((hByte h c.val y.val 3).setWidth 32 <<< (8 * 3)) := by
    rw [← hb 0 (by omega), ← hb 1 (by omega), ← hb 2 (by omega), ← hb 3 (by omega), ← shift8 _ 1 (by omega), ← shift8 _ 2 (by omega), ← shift8 _ 3 (by omega)]
    have es : ∀ (k : ℕ) (hk : k < 4) (hs), extractStridedSlice S512x2176 ![0, 3 - k] (hPad h) hs (ix2 c y) = hPad h (ix2 c (⟨3 - k + y.val, by omega⟩ : Fin 2180)) := fun k hk hs =>
      extractStridedSlice_apply _ _ hs (ix2 c y) _ (fun a => by
        match a with
        | ⟨0, _⟩ => show c.val = 0 + c.val; omega
        | ⟨1, _⟩ => rfl)
    rw [← es 0 (by omega) slices_S512x2180_S512x2176_0_3, ← es 1 (by omega) slices_S512x2180_S512x2176_0_2,
      ← es 2 (by omega) slices_S512x2180_S512x2176_0_1, ← es 3 (by omega) slices_S512x2180_S512x2176_0_0]
    rfl
  rw [e, byteAt_or4 _ _ _ _ j hj]
  interval_cases j <;> rfl

theorem hWin_apply (c : Fin 512) (e : Fin 24) (he : e.val < 17) (l : Fin 128) (j : ℕ) (hj : j < 4) :
    byteAt (hWin (hWord (hPad h)) (ix3 c e l)) j = hzv (atH h c.val) (128 * e.val + j) l.val := by
  have hl := l.isLt
  unfold hWin
  rw [pad_apply_of_inside _ _ _ _ _ _ _ (ix3 c e l) (ix3 c (⟨e.val, he⟩ : Fin 17) l) (fun a => by
    match a with
    | ⟨0, _⟩ => show c.val = 0 + c.val * 1; omega
    | ⟨1, _⟩ => show e.val = 0 + e.val * 1; omega
    | ⟨2, _⟩ => show l.val = 0 + l.val * 1; omega)]
  have er : Host.reverse [1] (shapeCast S512x17x128 (hWord (hPad h)) shapeCasts_S512x2176_S512x17x128) (ix3 c (⟨e.val, he⟩ : Fin 17) l)
      = shapeCast S512x17x128 (hWord (hPad h)) shapeCasts_S512x2176_S512x17x128 (ix3 c (⟨16 - e.val, by omega⟩ : Fin 17) l) := by
    show shapeCast S512x17x128 (hWord (hPad h)) shapeCasts_S512x2176_S512x17x128 _ = _
    congr 1
    funext a
    match a with
    | ⟨0, _⟩ => rfl
    | ⟨1, _⟩ => exact Fin.ext (by show 17 - (e.val + 1) = 16 - e.val; omega)
    | ⟨2, _⟩ => rfl
  rw [er, shapeCast_apply _ _ (ix3 c (⟨16 - e.val, by omega⟩ : Fin 17) l) (ix2 c (⟨128 * (16 - e.val) + l.val, by omega⟩ : Fin 2176)) (by
    rw [Shape.rowMajor_val_three, Shape.rowMajor_val_two]
    show c.val * 2176 + (128 * (16 - e.val) + l.val) = (c.val * 17 + (16 - e.val)) * 128 + l.val
    omega), hWord_apply h c _ j hj]
  unfold hByte hzv
  show (if j + 1 ≤ 128 * (16 - e.val) + l.val ∧ 128 * (16 - e.val) + l.val ≤ 2048 + j then atH h c.val (2048 + j - (128 * (16 - e.val) + l.val)) else 0#8) = _
  by_cases hc : l.val ≤ 128 * e.val + j ∧ 128 * e.val + j - l.val < 2048
  · rw [if_pos (by omega), if_pos hc]
    congr 1
    omega
  · rw [if_neg (by omega), if_neg hc]
end Hb

/-! ## The scales -/

section Scales
variable (sc : S12x2048.Idx → EReal)

theorem sitofp_zero (i : S_.Idx) : (sitofp (F := Ideal) .bf16 (constantI S_ 32 0#32) i : EReal) = 0 := by
  show (((0#32 : BitVec 32).toInt : ℝ) : EReal) = 0
  simp

def xsArr : S32x1024.Idx → EReal :=
  shapeCast S32x1024 (transpose S32x8x4x2x16 [4, 1, 3, 2, 0]
    (shapeCast S16x8x2x4x32 (pad S16x2048 ![0, 0] ![4, 0] ![0, 0] (truncf (F := Ideal) .bf16 (sc : FVec Ideal S12x2048 .f32) bitsLt_bf16_f32) (sitofp (F := Ideal) .bf16 (constantI S_ 32 0#32)) pads_S12x2048_S16x2048_040_000 h_S_)
      shapeCasts_S16x2048_S16x8x2x4x32) transposes_S16x8x2x4x32_S32x8x4x2x16_4_1_3_2_0) shapeCasts_S32x8x4x2x16_S32x1024

theorem xsArr_apply (s : Fin 32) (m : Fin 1024) :
    xsArr sc (ix2 s m) = if m.val % 16 < 12 then at2 sc (m.val % 16) (256 * (m.val / 128) + bt (m.val % 128 / 16) + s.val) else 0 := by
  have hm := m.isLt
  have hs := s.isLt
  unfold xsArr
  rw [shapeCast_apply _ _ (ix2 s m) (ix5 s (⟨m.val / 128, by omega⟩ : Fin 8) (⟨m.val / 32 % 4, by omega⟩ : Fin 4) (⟨m.val / 16 % 2, by omega⟩ : Fin 2) (⟨m.val % 16, by omega⟩ : Fin 16)) (by
      rw [Shape.rowMajor_val_five, Shape.rowMajor_val_two]
      show (((s.val * 8 + m.val / 128) * 4 + m.val / 32 % 4) * 2 + m.val / 16 % 2) * 16 + m.val % 16 = s.val * 1024 + m.val
      omega),
    transpose_apply _ _ _ _ (ix5 (⟨m.val % 16, by omega⟩ : Fin 16) (⟨m.val / 128, by omega⟩ : Fin 8) (⟨m.val / 16 % 2, by omega⟩ : Fin 2) (⟨m.val / 32 % 4, by omega⟩ : Fin 4) s) (fun b => by
      match b with
      | ⟨0, _⟩ => rfl
      | ⟨1, _⟩ => rfl
      | ⟨2, _⟩ => rfl
      | ⟨3, _⟩ => rfl
      | ⟨4, _⟩ => rfl),
    shapeCast_apply _ _ _ (ix2 (⟨m.val % 16, by omega⟩ : Fin 16) (⟨256 * (m.val / 128) + bt (m.val % 128 / 16) + s.val, by unfold bt; omega⟩ : Fin 2048)) (by
      rw [Shape.rowMajor_val_five, Shape.rowMajor_val_two]
      unfold bt
      show m.val % 16 * 2048 + (256 * (m.val / 128) + (256 * (m.val % 128 / 16 / 8) + 128 * (m.val % 128 / 16 % 2) + 32 * (m.val % 128 / 16 / 2 % 4)) + s.val)
        = (((m.val % 16 * 8 + m.val / 128) * 2 + m.val / 16 % 2) * 4 + m.val / 32 % 4) * 32 + s.val
      have h1 : m.val % 128 / 16 / 8 = 0 := by omega
      have h2 : m.val % 128 / 16 % 2 = m.val / 16 % 2 := by omega
      have h3 : m.val % 128 / 16 / 2 % 4 = m.val / 32 % 4 := by omega
      rw [h1, h2, h3]
      generalize m.val / 16 % 2 = a, m.val / 32 % 4 = b, m.val / 128 = c, m.val % 16 = d
      omega)]
  by_cases hb : m.val % 16 < 12
  · rw [if_pos hb, pad_apply_of_inside _ _ _ _ _ _ _ _ (ix2 (⟨m.val % 16, hb⟩ : Fin 12) (⟨256 * (m.val / 128) + bt (m.val % 128 / 16) + s.val, by unfold bt; omega⟩ : Fin 2048)) (fun a => by
      match a with
      | ⟨0, _⟩ => show m.val % 16 = 0 + m.val % 16 * 1; omega
      | ⟨1, _⟩ => show _ = 0 + (256 * (m.val / 128) + bt (m.val % 128 / 16) + s.val) * 1; rw [Nat.zero_add, Nat.mul_one]; rfl)]
    show sc _ = sc _
    congr 1
    funext a
    match a with
    | ⟨0, _⟩ => exact (ofNat_val 12 (⟨m.val % 16, hb⟩ : Fin 12)).symm
    | ⟨1, _⟩ => exact (ofNat_val 2048 (⟨256 * (m.val / 128) + bt (m.val % 128 / 16) + s.val, by unfold bt; omega⟩ : Fin 2048)).symm
  · rw [if_neg hb, pad_apply_of_not_inside _ _ _ _ _ _ _ _ 0 (by
      show ¬(0 ≤ m.val % 16 ∧ (m.val % 16 - 0) % 1 = 0 ∧ (m.val % 16 - 0) / 1 < 12); omega)]
    exact sitofp_zero _

def dsPad : S16x2176.Idx → EReal :=
  pad S16x2176 ![0, 0] ![4, 128] ![0, 0] (truncf (F := Ideal) .bf16 (sc : FVec Ideal S12x2048 .f32) bitsLt_bf16_f32) (sitofp (F := Ideal) .bf16 (constantI S_ 32 0#32)) pads_S12x2048_S16x2176_040_01280 h_S_

theorem dsPad_apply (b : Fin 16) (t : Fin 2176) : dsPad sc (ix2 b t) = if b.val < 12 ∧ t.val < 2048 then at2 sc b.val t.val else 0 := by
  unfold dsPad
  by_cases hb : b.val < 12 ∧ t.val < 2048
  · rw [if_pos hb, pad_apply_of_inside _ _ _ _ _ _ _ _ (ix2 (⟨b.val, hb.1⟩ : Fin 12) (⟨t.val, hb.2⟩ : Fin 2048)) (fun a => by
      match a with
      | ⟨0, _⟩ => show b.val = 0 + b.val * 1; omega
      | ⟨1, _⟩ => show t.val = 0 + t.val * 1; omega)]
    show sc _ = sc _
    congr 1
    funext a
    match a with
    | ⟨0, _⟩ => exact (ofNat_val 12 (⟨b.val, hb.1⟩ : Fin 12)).symm
    | ⟨1, _⟩ => exact (ofNat_val 2048 (⟨t.val, hb.2⟩ : Fin 2048)).symm
  · rw [if_neg hb]
    by_cases h0 : b.val < 12
    · rw [pad_apply_of_not_inside _ _ _ _ _ _ _ _ 1 (by
        show ¬(0 ≤ t.val ∧ (t.val - 0) % 1 = 0 ∧ (t.val - 0) / 1 < 2048); omega)]
      exact sitofp_zero _
    · rw [pad_apply_of_not_inside _ _ _ _ _ _ _ _ 0 (by
        show ¬(0 ≤ b.val ∧ (b.val - 0) % 1 = 0 ∧ (b.val - 0) / 1 < 12); omega)]
      exact sitofp_zero _

theorem dsSlices (v : ℕ) (hv : v < 4) : S16x2176.Slices ![0, 32 * v] S16x2048 := by
  refine ⟨rfl, fun a => ?_⟩
  fin_cases a
  · show 0 + 16 ≤ 16; omega
  · show 32 * v + 2048 ≤ 2176; omega

/-- One of the four windows of the scales of `dy`, as sixteen tiles. -/
def dsSlab (o : ℕ) (hs : S16x2176.Slices ![0, o] S16x2048) : S1x16x16x128.Idx → EReal :=
  broadcastInDim S1x16x16x128 ![1, 2, 3] bcast_S16x16x128_S1x16x16x128_1_2_3
    (transpose S16x16x128 [1, 0, 2] (shapeCast S16x16x128 (extractStridedSlice S16x2048 ![0, o] (dsPad sc) hs) shapeCasts_S16x2048_S16x16x128)
      transposes_S16x16x128_S16x16x128_1_0_2)

theorem dsSlab_apply (o : ℕ) (hs : S16x2176.Slices ![0, o] S16x2048) (ho : o ≤ 128) (q b : Fin 16) (l : Fin 128) :
    dsSlab sc o hs (ix4 0 q b l) = if b.val < 12 ∧ 128 * q.val + o + l.val < 2048 then at2 sc b.val (128 * q.val + o + l.val) else 0 := by
  have hq := q.isLt
  have hl := l.isLt
  unfold dsSlab
  rw [broadcastInDim_apply _ _ _ (ix4 0 q b l) (ix3 q b l) (fun a => by
      match a with
      | ⟨0, _⟩ => rfl
      | ⟨1, _⟩ => rfl
      | ⟨2, _⟩ => rfl),
    transpose_apply _ _ _ _ (ix3 b q l) (fun a => by
      match a with
      | ⟨0, _⟩ => rfl
      | ⟨1, _⟩ => rfl
      | ⟨2, _⟩ => rfl),
    shapeCast_apply _ _ _ (ix2 b (⟨128 * q.val + l.val, by omega⟩ : Fin 2048)) (by
      rw [Shape.rowMajor_val_three, Shape.rowMajor_val_two]
      show b.val * 2048 + (128 * q.val + l.val) = (b.val * 16 + q.val) * 128 + l.val
      omega),
    extractStridedSlice_apply _ _ hs _ (ix2 b (⟨128 * q.val + o + l.val, by omega⟩ : Fin 2176)) (fun a => by
      match a with
      | ⟨0, _⟩ => show b.val = 0 + b.val; omega
      | ⟨1, _⟩ => show 128 * q.val + o + l.val = o + (128 * q.val + l.val); omega),
    dsPad_apply]

def dsArr : S4x16x16x128.Idx → EReal :=
  concatenate S4x16x16x128 0 [⟨S1x16x16x128, dsSlab sc 0 slices_S16x2176_S16x2048_0_0⟩, ⟨S1x16x16x128, dsSlab sc 32 slices_S16x2176_S16x2048_0_32⟩,
    ⟨S1x16x16x128, dsSlab sc 64 slices_S16x2176_S16x2048_0_64⟩, ⟨S1x16x16x128, dsSlab sc 96 slices_S16x2176_S16x2048_0_96⟩]
    concatenates_S1x16x16x128_S1x16x16x128_S1x16x16x128_S1x16x16x128_S4x16x16x128_d0

theorem dsArr_apply (v : Fin 4) (q b : Fin 16) (l : Fin 128) :
    dsArr sc (ix4 v q b l)
      = if b.val < 12 ∧ 128 * q.val + 32 * v.val + l.val < 2048 then at2 sc b.val (128 * q.val + 32 * v.val + l.val) else 0 := by
  unfold dsArr
  rw [concat4_slab]
  match v with
  | 0 => exact dsSlab_apply sc 0 _ (by omega) q b l
  | 1 => exact dsSlab_apply sc 32 _ (by omega) q b l
  | 2 => exact dsSlab_apply sc 64 _ (by omega) q b l
  | 3 => exact dsSlab_apply sc 96 _ (by omega) q b l

end Scales

/-! ## The arrays at the region's entry -/

variable (m : (ℓ : Loc nD τ sig) → Buf (Elt Ideal) ℓ)

theorem V_v45 (c : Dev nD) : V m c main_v45 = shapeCast S24576x512 (m ((c : Thread nD τ).loc main_arg0)) shapeCasts_S12x2048x512_S24576x512 := by
  entry_read
  rfl
theorem V_v46 (c : Dev nD) : V m c main_v46 = shapeCast S24576x512 (m ((c : Thread nD τ).loc main_arg2)) shapeCasts_S12x2048x512_S24576x512 := by
  entry_read
  rfl
theorem V_v44 (c : Dev nD) : V m c main_v44 = shapeCast S4x1x128 (m ((c : Thread nD τ).loc main_arg5)) shapeCasts_S512_S4x1x128 := by
  entry_read
  rfl
theorem V_v24 (c : Dev nD) : V m c main_v24 = xsArr (m ((c : Thread nD τ).loc main_arg1)) := by
  entry_read
  rfl
theorem V_v19 (c : Dev nD) : V m c main_v19 = hWin (hWord (hPad (m ((c : Thread nD τ).loc main_arg4)))) := by
  entry_read
  rfl
theorem V_v43 (c : Dev nD) : V m c main_v43 = dsArr (m ((c : Thread nD τ).loc main_arg3)) := by
  entry_read
  rfl

end Cert.KernelIdeal.Val
end
-- ==== Proof.Pieces.lean ====
/-
  A list of stores through any rectangles, one per number below `n`, the last one newest, read at a place that one of
  them holds and no other does.
-/
module

public import Idealize.ShloMosaic.Lib.Writes

@[expose] public section

namespace Idealize.ShloMosaic.View

variable {sig : RefSig} {κ : Kind} {sp : Space} {s : Shape} {e : EltTy} {Val : EltTy → Type}

/-- The first `j` of `n` stores, the last one first in the list. -/
def numbered {n : ℕ} (R : Fin n → Rect s) (P : ∀ r, (R r).shape.Idx → Val e) : (j : ℕ) → j ≤ n → List (Piece Val s e)
  | 0, _ => []
  | j + 1, h => ⟨R ⟨j, h⟩, P ⟨j, h⟩⟩ :: numbered R P j (Nat.le_of_succ_le h)

variable (v : View sig κ sp s e) (f : v.ty.Contents Val)

/-- A place no store holds keeps what was there. -/
theorem read_numbered_miss {n : ℕ} (R : Fin n → Rect s) (P : ∀ r, (R r).shape.Idx → Val e) (y : s.Idx) :
    ∀ (j : ℕ) (hj : j ≤ n), (∀ r : Fin n, r.val < j → y ∉ (R r).set) →
      v.read Val (v.writes Val f (numbered R P j hj)) y = v.read Val f y
  | 0, _, _ => rfl
  | j + 1, hj, h => by
    unfold numbered
    rw [read_writes_cons_miss v f _ _ y (h ⟨j, hj⟩ (Nat.lt_succ_self j))]
    exact read_numbered_miss R P y j _ fun r hr => h r (Nat.lt_succ_of_lt hr)

/-- A place that store `r` alone holds reads that store's payload. -/
theorem read_numbered {n : ℕ} (R : Fin n → Rect s) (P : ∀ r, (R r).shape.Idx → Val e) (y : s.Idx) (r : Fin n)
    (x : (R r).shape.Idx) (hx : ∀ a, (y a).val = (R r).off a + (R r).stride a * (x a).val) :
    ∀ (j : ℕ) (hj : j ≤ n), r.val < j → (∀ r' : Fin n, r' ≠ r → y ∉ (R r').set) →
      v.read Val (v.writes Val f (numbered R P j hj)) y = P r x
  | 0, _, h, _ => absurd h (Nat.not_lt_zero _)
  | j + 1, hj, hlt, h => by
    unfold numbered
    by_cases e : r.val = j
    · subst e
      exact read_writes_cons_hit_of_coords v f _ _ _ x y hx
    · rw [read_writes_cons_miss v f _ _ y (h ⟨j, hj⟩ (fun he => e (congrArg Fin.val he).symm))]
      exact read_numbered R P y r x hx j _ (by omega) h

/-- A rectangle does not hold a place whose coordinate on one axis it does not reach. -/
theorem _root_.Idealize.ShloMosaic.Rect.not_mem_set_of_ne (r : Rect s) (y : s.Idx) (a : Fin s.rank)
    (h : ∀ j, j < r.size a → (y a).val ≠ r.off a + r.stride a * j) : y ∉ r.set := fun hy => by
  obtain ⟨j, hj, hy'⟩ := r.mem_set.mp hy a
  exact h j hj hy'

end Idealize.ShloMosaic.View
-- ==== Proof.Mix.lean ====
/-
  The staging loops with values. The kernel copies its inputs into scratch buffers so that one row holds one channel: the
  codes of `dy` four batches to a word, the codes of `x` four time steps to a word; and it copies the finished rows of
  `dx` back. What one trip stores, read at a place.
-/
module

public import proofs.«01_k».proof.Proof.Channel
public import proofs.«01_k».proof.Proof.Pieces
public import Idealize.ShloMosaic.Lib.BitcastFour
public import Idealize.ShloMosaic.Lib.ValueLayout

@[expose] public section

set_option maxRecDepth 16384
set_option maxHeartbeats 4000000

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- A load read at a place, the place in the buffer named by its coordinates. -/
theorem readAt_at {sp : Space} {S : Shape} {e : EltTy} (v : View sig .tc sp S e) (R : LoadRect S) (f : v.ty.Contents (Elt F))
    (x : R.shape.Idx) (y : S.Idx) (h : ∀ a, (y a).val = R.off a + R.stride a * (x a).val) :
    v.readAt (Elt F) R f x = v.read (Elt F) f y := by
  rw [View.readAt_apply]
  congr 1
  funext a
  exact Fin.ext (h a).symm

/-! ## Four rows of bytes in four words -/

/-- The bytes 0 and 2 of two words, alternating. -/
def mixLo (p r : IVec S32x128 32) : IVec S32x128 32 :=
  ori (andi p (broadcast S32x128 16711935#32)) (shli (andi r (broadcast S32x128 16711935#32)) (broadcast S32x128 8#32))

/-- The bytes 1 and 3 of two words, alternating. -/
def mixHi (p r : IVec S32x128 32) : IVec S32x128 32 :=
  ori (andi (shrui p (broadcast S32x128 8#32)) (broadcast S32x128 16711935#32))
    (andi r (broadcast S32x128 (Scalar.xori 16711935#32 4294967295#32)))

/-- Rows of codes, four rows to a word. -/
def words (b : Vec F S128x128 .i8) : IVec S32x128 32 :=
  bitcast S32x128 32 (shapeCast S128x128 b shapeCasts_S128x128_S128x128) bitcasts_S128x128_w8_S32x128_w32

/-- The rows `j`, `j + 4`, … of four blocks of codes, one byte of each word from each block. -/
def quad (B : Fin 4 → Vec F S128x128 .i8) : ℕ → IVec S32x128 32
  | 0 => shapeCast S32x128 (ori (andi (mixLo (words (B 0)) (words (B 1))) (broadcast S32x128 65535#32))
      (shli (mixLo (words (B 2)) (words (B 3))) (broadcast S32x128 16#32))) shapeCasts_S32x128_S32x128
  | 1 => shapeCast S32x128 (ori (andi (mixHi (words (B 0)) (words (B 1))) (broadcast S32x128 65535#32))
      (shli (mixHi (words (B 2)) (words (B 3))) (broadcast S32x128 16#32))) shapeCasts_S32x128_S32x128
  | 2 => shapeCast S32x128 (ori (shrui (mixLo (words (B 0)) (words (B 1))) (broadcast S32x128 16#32))
      (andi (mixLo (words (B 2)) (words (B 3))) (broadcast S32x128 (Scalar.xori 65535#32 4294967295#32)))) shapeCasts_S32x128_S32x128
  | _ => shapeCast S32x128 (ori (shrui (mixHi (words (B 0)) (words (B 1))) (broadcast S32x128 16#32))
      (andi (mixHi (words (B 2)) (words (B 3))) (broadcast S32x128 (Scalar.xori 65535#32 4294967295#32)))) shapeCasts_S32x128_S32x128

theorem words_bits (b : Vec F S128x128 .i8) (a : Fin 32) (l : Fin 128) (q : ℕ) (hq : q < 32) (p : Fin 128) (hp : p.val = 4 * a.val + q / 8) :
    (words b (ix2 a l)).getLsbD q = BitVec.getLsbD (w := 8) (b (ix2 p l)) (q % 8) := by
  unfold words
  rw [bitcast_8_32_getLsbD_ix2 _ _ a l q hq p hp, shapeCast_self]

def loW (p r : BitVec 32) : BitVec 32 := (p &&& 16711935#32) ||| ((r &&& 16711935#32) <<< 8)
def hiW (p r : BitVec 32) : BitVec 32 := ((p >>> 8) &&& 16711935#32) ||| (r &&& 4278255360#32)

theorem mix0 (p0 p1 p2 p3 : BitVec 32) (n : ℕ) (hn : n < 32) :
    ((loW p0 p1 &&& 65535#32) ||| (loW p2 p3 <<< 16)).getLsbD n = ((![p0, p1, p2, p3] : Fin 4 → BitVec 32) ⟨n / 8, by omega⟩).getLsbD (n % 8) := by
  unfold loW
  interval_cases n <;> simp
theorem mix1 (p0 p1 p2 p3 : BitVec 32) (n : ℕ) (hn : n < 32) :
    ((hiW p0 p1 &&& 65535#32) ||| (hiW p2 p3 <<< 16)).getLsbD n = ((![p0, p1, p2, p3] : Fin 4 → BitVec 32) ⟨n / 8, by omega⟩).getLsbD (8 + n % 8) := by
  unfold hiW
  interval_cases n <;> simp
theorem mix2 (p0 p1 p2 p3 : BitVec 32) (n : ℕ) (hn : n < 32) :
    ((loW p0 p1 >>> 16) ||| (loW p2 p3 &&& 4294901760#32)).getLsbD n = ((![p0, p1, p2, p3] : Fin 4 → BitVec 32) ⟨n / 8, by omega⟩).getLsbD (16 + n % 8) := by
  unfold loW
  interval_cases n <;> simp
theorem mix3 (p0 p1 p2 p3 : BitVec 32) (n : ℕ) (hn : n < 32) :
    ((hiW p0 p1 >>> 16) ||| (hiW p2 p3 &&& 4294901760#32)).getLsbD n = ((![p0, p1, p2, p3] : Fin 4 → BitVec 32) ⟨n / 8, by omega⟩).getLsbD (24 + n % 8) := by
  unfold hiW
  interval_cases n <;> simp

theorem mixLo_apply (p r : IVec S32x128 32) (x : S32x128.Idx) : mixLo p r x = loW (p x) (r x) := rfl
theorem mixHi_apply (p r : IVec S32x128 32) (x : S32x128.Idx) : mixHi p r x = hiW (p x) (r x) := rfl

/-- A bit of a mixed word: byte `n / 8` comes from block `n / 8`. -/
theorem quad_bits (B : Fin 4 → Vec F S128x128 .i8) (j : Fin 4) (a : Fin 32) (l : Fin 128) (n : ℕ) (hn : n < 32) (i : Fin 4)
    (hi : i.val = n / 8) (p : Fin 128) (hp : p.val = 4 * a.val + j.val) :
    (quad B j.val (ix2 a l)).getLsbD n = BitVec.getLsbD (w := 8) (B i (ix2 p l)) (n % 8) := by
  have key : (quad B j.val (ix2 a l)).getLsbD n
      = ((![words (B 0) (ix2 a l), words (B 1) (ix2 a l), words (B 2) (ix2 a l), words (B 3) (ix2 a l)] : Fin 4 → BitVec 32)
          ⟨n / 8, by omega⟩).getLsbD (8 * j.val + n % 8) := by
    fin_cases j
    · show BitVec.getLsbD (w := 32) (shapeCast S32x128 _ shapeCasts_S32x128_S32x128 _) n = _
      rw [shapeCast_self]
      refine Eq.trans ?_ ((mix0 _ _ _ _ n hn).trans (congrArg _ (by show n % 8 = 8 * 0 + n % 8; omega)))
      rfl
    · show BitVec.getLsbD (w := 32) (shapeCast S32x128 _ shapeCasts_S32x128_S32x128 _) n = _
      rw [shapeCast_self]
      exact mix1 _ _ _ _ n hn
    · show BitVec.getLsbD (w := 32) (shapeCast S32x128 _ shapeCasts_S32x128_S32x128 _) n = _
      rw [shapeCast_self]
      exact mix2 _ _ _ _ n hn
    · show BitVec.getLsbD (w := 32) (shapeCast S32x128 _ shapeCasts_S32x128_S32x128 _) n = _
      rw [shapeCast_self]
      exact mix3 _ _ _ _ n hn
  have hj := j.isLt
  have e : (⟨n / 8, by omega⟩ : Fin 4) = i := Fin.ext hi.symm
  have hw : ∀ k : Fin 4, (![words (B 0) (ix2 a l), words (B 1) (ix2 a l), words (B 2) (ix2 a l), words (B 3) (ix2 a l)] : Fin 4 → BitVec 32) k
      = words (B k) (ix2 a l) := by intro k; fin_cases k <;> rfl
  rw [key, e, hw, words_bits (B i) a l _ (by omega) p (by omega)]
  congr 1
  omega
end Cert.KernelIdeal.Val
end
-- ==== Proof.StageDy.lean ====
/-
  The staging loops with values: what each loop leaves in the buffer it writes, read at a place.
-/
module

public import proofs.«01_k».proof.Proof.Mix

@[expose] public section

set_option maxRecDepth 16384
set_option maxHeartbeats 4000000

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (E : Set ℕ) (i : grid0.Coords)
  (arg1 : Memref sig .tc .smem S1x1x128 .f32) (harg1 : arg1.IsWhole)
  (arg2 : Memref sig .tc .vmem S24576x128 .i8) (harg2 : arg2.IsWhole)
  (arg3 : Memref sig .tc .vmem S24576x128 .i8) (harg3 : arg3.IsWhole)
  (arg4 : Memref sig .tc .vmem S128x24x128 .i32) (harg4 : arg4.IsWhole)
  (arg5 : Memref sig .tc .vmem S32x1024 .bf16) (harg5 : arg5.IsWhole)
  (arg6 : Memref sig .tc .vmem S4x16x16x128 .bf16) (harg6 : arg6.IsWhole)
  (arg7 : Memref sig .tc .vmem S12x2048x128 .bf16) (harg7 : arg7.IsWhole)
  (arg8 : Memref sig .tc .vmem S128x2048 .f32) (harg8 : arg8.IsWhole)
  (arg9 : Memref sig .tc .vmem S8704x128 .i32) (harg9 : arg9.IsWhole)
  (arg10 : Memref sig .tc .vmem S8704x128 .i32) (harg10 : arg10.IsWhole)
  (arg11 : Memref sig .tc .vmem S6192x128 .i32) (harg11 : arg11.IsWhole)
  (arg12 : Memref sig .tc .vmem S33792x128 .f32) (harg12 : arg12.IsWhole)
  (arg13 : Memref sig .tc .vmem S1056x128 .f32) (harg13 : arg13.IsWhole)
  (arg14 : Memref sig .tc .vmem S128x128 .i32) (harg14 : arg14.IsWhole)

theorem t1_lt (t : Fin k0_t1_loop.trips) : t.val < 16 := lt_of_lt_of_eq t.isLt (by decide)
theorem t2_lt (t : Fin k0_t2_loop.trips) : t.val < 12 := lt_of_lt_of_eq t.isLt (by decide)
theorem t3_lt (t : Fin k0_t3_loop.trips) : t.val < 8 := lt_of_lt_of_eq t.isLt (by decide)
theorem t6_lt (t : Fin k0_t6_loop.trips) : t.val < 16 := lt_of_lt_of_eq t.isLt (by decide)

/-! ## The codes of `dy` -/

section StageDy

variable (t1 : Fin k0_t1_loop.trips) (X3 : BufTy.Contents (Elt F) arg3.view.ty) (f14 : BufTy.Contents (Elt F) arg14.view.ty)

/-- A block of 128 time steps of one batch. -/
def dyRows (r : Fin 12) : Vec F S128x128 .i8 :=
  arg3.view.readAt (Elt F) (Rect.unit (s := S24576x128) (k0_off1 t1 (BitVec.ofNat 32 (2048 * r.val))) S128x128.size (k0_off1_inb t1 r)).toLoadRect X3

/-- The blocks of the four batches from `4 w`. -/
def dyFour (w : ℕ) (i : Fin 4) : Vec F S128x128 .i8 := dyRows arg3 t1 X3 (Fin.ofNat 12 (4 * w + i.val))

theorem rowInb (j : Fin 4) : ∀ a, S32x128.size a = 0 ∨ (![j.val, 0] : Fin 2 → ℕ) a + (![4, 1] : Fin 2 → ℕ) a * (S32x128.size a - 1) < S128x128.size a := by
  intro a; fin_cases a
  · right; show j.val + 4 * (32 - 1) < 128; omega
  · right; show 0 + 1 * (128 - 1) < 128; omega

/-- Every fourth row, from row `j`. -/
def rowRect (j : Fin 4) : Rect S128x128 := ⟨⟨![j.val, 0], S32x128.size, ![4, 1], rowInb j⟩, spos_4_1⟩

/-- The stores into the small buffer up to the batches from `4 w`. -/
def tmpPieces : ℕ → List (View.Piece (Elt F) S128x128 .i32)
  | 0 => []
  | w + 1 => View.numbered (n := 4) rowRect (fun j => quad (dyFour arg3 t1 X3 w) j.val) 4 le_rfl ++ tmpPieces w

/-- What the small buffer then holds, turned so that a row is a channel. -/
def dyTile (w : ℕ) : IVec S128x128 32 :=
  k0_pay6 (F := F) (arg14.view.readAt (Elt F) (Rect.unit (s := S128x128) ![0, 0] S128x128.size inb_S128x128_S128x128_0_0).toLoadRect
    (arg14.view.writes (Elt F) f14 (tmpPieces arg3 t1 X3 (w + 1))))

def dyRect (w : Fin 3) : Rect S8704x128 := ⟨⟨k0_off2 t1 (BitVec.ofNat 32 w.val), S128x128.size, ![68, 1], k0_off2_inb t1 w⟩, spos_68_1⟩

/-- The three stores of a trip. -/
def dyPieces (P : ℕ → IVec S128x128 32) : List (View.Piece (Elt F) S8704x128 .i32) :=
  View.numbered (n := 3) (dyRect t1) (fun w => P w.val) 3 le_rfl

theorem dyRows_apply (r : Fin 12) (c l : Fin 128) (p : Fin 24576) (hp : p.val = 2048 * r.val + 128 * t1.val + l.val) :
    dyRows arg3 t1 X3 r (ix2 l c) = arg3.view.read (Elt F) X3 (ix2 p c) := by
  unfold dyRows
  refine readAt_at arg3.view (Rect.unit (s := S24576x128) (k0_off1 t1 (BitVec.ofNat 32 (2048 * r.val))) S128x128.size (k0_off1_inb t1 r)).toLoadRect
    X3 (ix2 l c) (ix2 p c) ?_
  intro a
  fin_cases a
  · show p.val = k0_off1 t1 (BitVec.ofNat 32 (2048 * r.val)) 0 + 1 * l.val
    have ho : k0_off1 t1 (BitVec.ofNat 32 (2048 * r.val)) 0 = 2048 * r.val + 128 * t1.val := congrFun (k0_off1_eq t1 r) 0
    omega
  · show c.val = k0_off1 t1 (BitVec.ofNat 32 (2048 * r.val)) 1 + 1 * c.val
    have ho : k0_off1 t1 (BitVec.ofNat 32 (2048 * r.val)) 1 = 0 := congrFun (k0_off1_eq t1 r) 1
    omega

theorem read_rowPieces (f : BufTy.Contents (Elt F) arg14.view.ty) (O : ℕ → IVec S32x128 32) (l c : Fin 128) :
    arg14.view.read (Elt F) (arg14.view.writes (Elt F) f (View.numbered (n := 4) rowRect (fun j => O j.val) 4 le_rfl)) (ix2 l c)
      = O (l.val % 4) (ix2 (⟨l.val / 4, by omega⟩ : Fin 32) c) := by
  refine View.read_numbered arg14.view f rowRect (fun j => O j.val) (ix2 l c)
    (⟨l.val % 4, by omega⟩ : Fin 4) (ix2 (⟨l.val / 4, by omega⟩ : Fin 32) c) ?_ 4 le_rfl (by show l.val % 4 < 4; omega) ?_
  · intro a; fin_cases a
    · show l.val = l.val % 4 + 4 * (l.val / 4); omega
    · show c.val = 0 + 1 * c.val; omega
  · intro r' hr'
    refine Rect.not_mem_set_of_ne _ _ 0 fun j hj => ?_
    have hne : r'.val ≠ l.val % 4 := fun h => hr' (Fin.ext h)
    have := r'.isLt
    show l.val ≠ r'.val + 4 * j
    omega

theorem tmpPieces_succ (w : ℕ) : tmpPieces arg3 t1 X3 (w + 1)
    = View.numbered (n := 4) rowRect (fun j => quad (dyFour arg3 t1 X3 w) j.val) 4 le_rfl ++ tmpPieces arg3 t1 X3 w := rfl

theorem dyTile_bits (w : Fin 3) (c l : Fin 128) (n : ℕ) (hn : n < 32) (p : Fin 24576)
    (hp : p.val = 2048 * (4 * w.val + n / 8) + 128 * t1.val + l.val) :
    (dyTile arg3 arg14 t1 X3 f14 w.val (ix2 c l)).getLsbD n = BitVec.getLsbD (w := 8) (arg3.view.read (Elt F) X3 (ix2 p c)) (n % 8) := by
  have hl := l.isLt; have hw := w.isLt
  unfold dyTile k0_pay6
  rw [shapeCast_self, transpose_ix2_apply]
  have e14 : ∀ G : BufTy.Contents (Elt F) arg14.view.ty, arg14.view.readAt (Elt F)
      (Rect.unit (s := S128x128) ![0, 0] S128x128.size inb_S128x128_S128x128_0_0).toLoadRect G (ix2 l c) = arg14.view.read (Elt F) G (ix2 l c) :=
    fun G => readAt_at arg14.view (Rect.unit (s := S128x128) ![0, 0] S128x128.size inb_S128x128_S128x128_0_0).toLoadRect G (ix2 l c) (ix2 l c) (by
      intro a; fin_cases a
      · show l.val = 0 + 1 * l.val; omega
      · show c.val = 0 + 1 * c.val; omega)
  rw [e14]
  rw [tmpPieces_succ, View.writes_append, read_rowPieces arg14 _ (quad (dyFour arg3 t1 X3 w.val)) l c]
  rw [quad_bits (dyFour arg3 t1 X3 w.val) (⟨l.val % 4, by omega⟩ : Fin 4) (⟨l.val / 4, by omega⟩ : Fin 32) c n hn
      (⟨n / 8, by omega⟩ : Fin 4) rfl l (by show l.val = 4 * (l.val / 4) + l.val % 4; omega)]
  exact congrArg (fun z : BitVec 8 => z.getLsbD (n % 8)) (dyRows_apply arg3 t1 X3 (Fin.ofNat 12 (4 * w.val + n / 8)) c l p
      (by show p.val = 2048 * ((4 * w.val + n / 8) % 12) + 128 * t1.val + l.val; omega))

theorem read_dyPieces (f : BufTy.Contents (Elt F) arg9.view.ty) (P : ℕ → IVec S128x128 32) (w : Fin 3) (c l : Fin 128) (p : Fin 8704)
    (hp : p.val = 68 * c.val + 4 * t1.val + w.val) :
    arg9.view.read (Elt F) (arg9.view.writes (Elt F) f (dyPieces (F := F) t1 P)) (ix2 p l) = P w.val (ix2 c l) := by
  have h1 := t1_lt t1; have hw := w.isLt
  unfold dyPieces
  rw [View.read_numbered arg9.view f (dyRect t1) (fun w => P w.val) (ix2 p l) w (ix2 c l) ?_ 3 le_rfl hw ?_]
  · intro a
    show _ = k0_off2 t1 (BitVec.ofNat 32 w.val) a + _
    rw [k0_off2_eq]
    fin_cases a
    · show p.val = 4 * t1.val + w.val + 68 * c.val; omega
    · show l.val = 0 + 1 * l.val; omega
  · intro r' hr'
    refine Rect.not_mem_set_of_ne _ _ 0 fun j hj => ?_
    have hne : r'.val ≠ w.val := fun h => hr' (Fin.ext h)
    have := r'.isLt
    show _ ≠ k0_off2 t1 (BitVec.ofNat 32 r'.val) 0 + _
    rw [k0_off2_eq]
    show p.val ≠ 4 * t1.val + r'.val + 68 * j
    omega

theorem read_dyPieces_miss (f : BufTy.Contents (Elt F) arg9.view.ty) (P : ℕ → IVec S128x128 32) (l : Fin 128) (p : Fin 8704)
    (c m : ℕ) (hp : p.val = 68 * c + m) (hm : m < 4 * t1.val) :
    arg9.view.read (Elt F) (arg9.view.writes (Elt F) f (dyPieces (F := F) t1 P)) (ix2 p l) = arg9.view.read (Elt F) f (ix2 p l) := by
  have h1 := t1_lt t1
  unfold dyPieces
  rw [View.read_numbered_miss arg9.view f (dyRect t1) (fun w => P w.val) (ix2 p l) 3 le_rfl ?_]
  intro r' _
  refine Rect.not_mem_set_of_ne _ _ 0 fun j hj => ?_
  have := r'.isLt
  show _ ≠ k0_off2 t1 (BitVec.ofNat 32 r'.val) 0 + _
  rw [k0_off2_eq]
  show p.val ≠ 4 * t1.val + r'.val + 68 * j
  omega

end StageDy

/-- The codes of `dy` of the first `k` blocks of time steps are in place, four batches to a word. -/
def DoneDy (k : ℕ) (f : BufTy.Contents (Elt F) arg9.view.ty) (X3 : BufTy.Contents (Elt F) arg3.view.ty) : Prop :=
  ∀ q, q < k → ∀ (w : Fin 3) (c l : Fin 128) (p : Fin 8704), q < 16 → p.val = 68 * c.val + 4 * q + w.val → ∀ (n : ℕ), n < 32 →
    ∀ p' : Fin 24576, p'.val = 2048 * (4 * w.val + n / 8) + 128 * q + l.val →
    BitVec.getLsbD (w := 32) (arg9.view.read (Elt F) f (ix2 p l)) n
      = BitVec.getLsbD (w := 8) (arg3.view.read (Elt F) X3 (ix2 p' c)) (n % 8)

theorem DoneDy.step (t1 : Fin k0_t1_loop.trips) (f : BufTy.Contents (Elt F) arg9.view.ty) (X3 : BufTy.Contents (Elt F) arg3.view.ty)
    (f14 : BufTy.Contents (Elt F) arg14.view.ty) (h : DoneDy arg3 arg9 t1.val f X3) :
    DoneDy arg3 arg9 (t1.val + 1) (arg9.view.writes (Elt F) f (dyPieces (F := F) t1 (dyTile arg3 arg14 t1 X3 f14))) X3 := by
  intro q hq w c l p hq16 hp n hn p' hp'
  have hw := w.isLt
  by_cases e : q = t1.val
  · subst e
    rw [read_dyPieces arg9 t1 f _ w c l p hp, dyTile_bits arg3 arg14 t1 X3 f14 w c l n hn p' hp']
  · rw [read_dyPieces_miss arg9 t1 f _ l p c.val (4 * q + w.val) (by omega) (by omega)]
    exact h q (by omega) w c l p hq16 hp n hn p' hp'

@[simp] theorem DoneDy_zero (f : BufTy.Contents (Elt F) arg9.view.ty) (X3 : BufTy.Contents (Elt F) arg3.view.ty) :
    DoneDy arg3 arg9 0 f X3 := fun q hq => absurd hq (Nat.not_lt_zero q)

set_option warn.classDefReducibility false

/-- The loop that turns the codes of `dy`. -/
@[sl_loop] def loopInv_k0_t1 (X3 : BufTy.Contents (Elt F) arg3.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 where
  inv k _ := iprop(pt c arg3 X3 ∗ (∃ f, pt c arg14 f) ∗ (∃ f, pt c arg9 f ∗ ⌜DoneDy arg3 arg9 k f X3⌝))
  step k acc := by
    unfold k0_t1_body
    iintro ⟨H3, ⟨%f14, H14⟩, ⟨%f9, H9, %h9⟩⟩
    sl_exec
    sl_step
    isplitl [H3]; · iexact H3
    isplitl [H14]; · iexists _; iexact H14
    iexists (arg9.view.writes (Elt F) f9 (dyPieces (F := F) k (dyTile arg3 arg14 k X3 f14)))
    isplitl [H9]
    · iexact H9
    · ipureintro; exact DoneDy.step arg3 arg9 arg14 k f9 X3 f14 h9

end Cert.KernelIdeal.Val
end
-- ==== Proof.StageX.lean ====
/-
  The staging of `x` and the copy of the finished rows of `dx` back, with values.
-/
module

public import proofs.«01_k».proof.Proof.Mix

@[expose] public section

set_option maxRecDepth 16384
set_option maxHeartbeats 4000000

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (E : Set ℕ) (i : grid0.Coords)
  (arg1 : Memref sig .tc .smem S1x1x128 .f32) (harg1 : arg1.IsWhole)
  (arg2 : Memref sig .tc .vmem S24576x128 .i8) (harg2 : arg2.IsWhole)
  (arg3 : Memref sig .tc .vmem S24576x128 .i8) (harg3 : arg3.IsWhole)
  (arg4 : Memref sig .tc .vmem S128x24x128 .i32) (harg4 : arg4.IsWhole)
  (arg5 : Memref sig .tc .vmem S32x1024 .bf16) (harg5 : arg5.IsWhole)
  (arg6 : Memref sig .tc .vmem S4x16x16x128 .bf16) (harg6 : arg6.IsWhole)
  (arg7 : Memref sig .tc .vmem S12x2048x128 .bf16) (harg7 : arg7.IsWhole)
  (arg8 : Memref sig .tc .vmem S128x2048 .f32) (harg8 : arg8.IsWhole)
  (arg9 : Memref sig .tc .vmem S8704x128 .i32) (harg9 : arg9.IsWhole)
  (arg10 : Memref sig .tc .vmem S8704x128 .i32) (harg10 : arg10.IsWhole)
  (arg11 : Memref sig .tc .vmem S6192x128 .i32) (harg11 : arg11.IsWhole)
  (arg12 : Memref sig .tc .vmem S33792x128 .f32) (harg12 : arg12.IsWhole)
  (arg13 : Memref sig .tc .vmem S1056x128 .f32) (harg13 : arg13.IsWhole)
  (arg14 : Memref sig .tc .vmem S128x128 .i32) (harg14 : arg14.IsWhole)

theorem t2_lt (t : Fin k0_t2_loop.trips) : t.val < 12 := lt_of_lt_of_eq t.isLt (by decide)
theorem t3_lt (t : Fin k0_t3_loop.trips) : t.val < 8 := lt_of_lt_of_eq t.isLt (by decide)
theorem t6_lt (t : Fin k0_t6_loop.trips) : t.val < 16 := lt_of_lt_of_eq t.isLt (by decide)

/-! ## The codes of `x`, four time steps to a word -/

section StageXp

variable (t2 : Fin k0_t2_loop.trips) (X2 : BufTy.Contents (Elt F) arg2.view.ty)

/-- The 2048 time steps of one batch as words. -/
def xpTile : IVec S512x128 32 :=
  k0_pay7 (F := F) (arg2.view.readAt (Elt F) (Rect.unit (s := S24576x128) (k0_off3 t2) S2048x128.size (k0_off3_inb t2)).toLoadRect X2)

def xpPieces (P : IVec S512x128 32) : List (View.Piece (Elt F) S6192x128 .i32) :=
  [⟨Rect.unit (s := S6192x128) (k0_off4 t2) S512x128.size (k0_off4_inb t2), P⟩]

theorem xpTile_bits (r : Fin 512) (c : Fin 128) (n : ℕ) (hn : n < 32) (p : Fin 24576)
    (hp : p.val = 2048 * t2.val + 4 * r.val + n / 8) :
    (xpTile arg2 t2 X2 (ix2 r c)).getLsbD n = BitVec.getLsbD (w := 8) (arg2.view.read (Elt F) X2 (ix2 p c)) (n % 8) := by
  have hr := r.isLt
  unfold xpTile k0_pay7
  rw [shapeCast_self, bitcast_8_32_getLsbD_ix2 _ _ r c n hn (⟨4 * r.val + n / 8, by omega⟩ : Fin 2048) rfl, shapeCast_self]
  refine congrArg (fun z : BitVec 8 => z.getLsbD (n % 8)) (readAt_at arg2.view
    (Rect.unit (s := S24576x128) (k0_off3 t2) S2048x128.size (k0_off3_inb t2)).toLoadRect X2
    (ix2 (⟨4 * r.val + n / 8, by omega⟩ : Fin 2048) c) (ix2 p c) ?_)
  intro a; fin_cases a
  · show p.val = k0_off3 t2 0 + 1 * (4 * r.val + n / 8)
    have ho : k0_off3 t2 0 = 2048 * t2.val := congrFun (k0_off3_eq t2) 0
    omega
  · show c.val = k0_off3 t2 1 + 1 * c.val
    have ho : k0_off3 t2 1 = 0 := congrFun (k0_off3_eq t2) 1
    omega

theorem read_xpPieces (f : BufTy.Contents (Elt F) arg11.view.ty) (P : IVec S512x128 32) (r : Fin 512) (c : Fin 128) (p : Fin 6192)
    (hp : p.val = 516 * t2.val + r.val) :
    arg11.view.read (Elt F) (arg11.view.writes (Elt F) f (xpPieces (F := F) t2 P)) (ix2 p c) = P (ix2 r c) := by
  refine View.read_writes_cons_hit_of_coords arg11.view f (Rect.unit (s := S6192x128) (k0_off4 t2) S512x128.size (k0_off4_inb t2)) P []
    (ix2 r c) (ix2 p c) ?_
  intro a; fin_cases a
  · show p.val = k0_off4 t2 0 + 1 * r.val
    have ho : k0_off4 t2 0 = 516 * t2.val := congrFun (k0_off4_eq t2) 0
    omega
  · show c.val = k0_off4 t2 1 + 1 * c.val
    have ho : k0_off4 t2 1 = 0 := congrFun (k0_off4_eq t2) 1
    omega

theorem read_xpPieces_miss (f : BufTy.Contents (Elt F) arg11.view.ty) (P : IVec S512x128 32) (c : Fin 128) (p : Fin 6192)
    (hp : p.val < 516 * t2.val) :
    arg11.view.read (Elt F) (arg11.view.writes (Elt F) f (xpPieces (F := F) t2 P)) (ix2 p c) = arg11.view.read (Elt F) f (ix2 p c) := by
  refine View.read_writes_cons_miss arg11.view f _ [] (ix2 p c) (Rect.not_mem_set_of_ne _ _ 0 fun j hj => ?_)
  show p.val ≠ k0_off4 t2 0 + 1 * j
  have ho : k0_off4 t2 0 = 516 * t2.val := congrFun (k0_off4_eq t2) 0
  omega

end StageXp

/-- The codes of `x` of the first `k` batches are in place, four time steps to a word. -/
def DoneXp (k : ℕ) (f : BufTy.Contents (Elt F) arg11.view.ty) (X2 : BufTy.Contents (Elt F) arg2.view.ty) : Prop :=
  ∀ b, b < k → b < 12 → ∀ (r : Fin 512) (c : Fin 128) (p : Fin 6192), p.val = 516 * b + r.val → ∀ (n : ℕ), n < 32 →
    ∀ p' : Fin 24576, p'.val = 2048 * b + 4 * r.val + n / 8 →
    BitVec.getLsbD (w := 32) (arg11.view.read (Elt F) f (ix2 p c)) n
      = BitVec.getLsbD (w := 8) (arg2.view.read (Elt F) X2 (ix2 p' c)) (n % 8)

theorem DoneXp.step (t2 : Fin k0_t2_loop.trips) (f : BufTy.Contents (Elt F) arg11.view.ty) (X2 : BufTy.Contents (Elt F) arg2.view.ty)
    (h : DoneXp arg2 arg11 t2.val f X2) :
    DoneXp arg2 arg11 (t2.val + 1) (arg11.view.writes (Elt F) f (xpPieces (F := F) t2 (xpTile arg2 t2 X2))) X2 := by
  intro b hb hb12 r c p hp n hn p' hp'
  have hr := r.isLt
  by_cases e : b = t2.val
  · subst e
    rw [read_xpPieces arg11 t2 f _ r c p hp, xpTile_bits arg2 t2 X2 r c n hn p' hp']
  · rw [read_xpPieces_miss arg11 t2 f _ c p (by omega)]
    exact h b (by omega) hb12 r c p hp n hn p' hp'

@[simp] theorem DoneXp_zero (f : BufTy.Contents (Elt F) arg11.view.ty) (X2 : BufTy.Contents (Elt F) arg2.view.ty) :
    DoneXp arg2 arg11 0 f X2 := fun q hq => absurd hq (Nat.not_lt_zero q)

set_option warn.classDefReducibility false

/-- The loop that packs the codes of `x`. -/
@[sl_loop] def loopInv_k0_t2 (X2 : BufTy.Contents (Elt F) arg2.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 where
  inv k _ := iprop(pt c arg2 X2 ∗ (∃ f, pt c arg11 f ∗ ⌜DoneXp arg2 arg11 k f X2⌝))
  step k acc := by
    unfold k0_t2_body
    iintro ⟨H2, ⟨%f11, H11, %h11⟩⟩
    sl_exec
    sl_step
    isplitl [H2]; · iexact H2
    iexists (arg11.view.writes (Elt F) f11 (xpPieces (F := F) k (xpTile arg2 k X2)))
    isplitl [H11]
    · iexact H11
    · ipureintro; exact DoneXp.step arg2 arg11 k f11 X2 h11

/-! ## The finished rows of `dx` -/

section Unstage

variable (t6 : Fin k0_t6_loop.trips) (X12 : BufTy.Contents (Elt F) arg12.view.ty)

/-- The row of `dxw` where batch `b` starts. -/
def rowOff : ℕ → Fin 2 → ℕ
  | 0 => k0_off46 t6 0#32 | 1 => k0_off47 t6 0#32 | 2 => k0_off46 t6 1#32 | 3 => k0_off47 t6 1#32
  | 4 => k0_off46 t6 2#32 | 5 => k0_off47 t6 2#32 | 6 => k0_off46 t6 3#32 | 7 => k0_off47 t6 3#32
  | 8 => k0_off46 t6 4#32 | 9 => k0_off47 t6 4#32 | 10 => k0_off46 t6 5#32 | _ => k0_off47 t6 5#32

theorem rowOff_eq (b : ℕ) (hb : b < 12) : rowOff t6 b = ![16 * t6.val + b, 0] := by
  interval_cases b
  · exact k0_off46_eq t6 0
  · exact k0_off47_eq t6 0
  · exact k0_off46_eq t6 1
  · exact k0_off47_eq t6 1
  · exact k0_off46_eq t6 2
  · exact k0_off47_eq t6 2
  · exact k0_off46_eq t6 3
  · exact k0_off47_eq t6 3
  · exact k0_off46_eq t6 4
  · exact k0_off47_eq t6 4
  · exact k0_off46_eq t6 5
  · exact k0_off47_eq t6 5

theorem rowOff_inb (b : Fin 12) : ∀ a, S128x128.size a = 0 ∨ rowOff t6 b.val a + (![264, 1] : Fin 2 → ℕ) a * (S128x128.size a - 1) < S33792x128.size a := by
  have h6 := t6_lt t6
  intro a; rw [rowOff_eq t6 b.val b.isLt]; fin_cases a
  · right; show 16 * t6.val + b.val + 264 * (128 - 1) < 33792; omega
  · right; show 0 + 1 * (128 - 1) < 128; omega

/-- The slab of `dx` that batch `b` gets. -/
def dxTileOut (b : Fin 12) : FVec F S1x128x128 .bf16 :=
  shapeCast S1x128x128 (truncf .bf16 (transpose S128x128 [1, 0] (arg12.view.readAt (Elt F)
    ⟨rowOff t6 b.val, S128x128.size, ![264, 1], rowOff_inb t6 b⟩ X12) transposes_S128x128_p1_0_S128x128) bitsLt_bf16_f32) shapeCasts_S128x128_S1x128x128

/-- Where the slab of batch `b` starts. -/
def slabOff : ℕ → Fin 3 → ℕ
  | 0 => k0_off48 t6 | 1 => k0_off49 t6 | 2 => k0_off50 t6 | 3 => k0_off51 t6 | 4 => k0_off52 t6 | 5 => k0_off53 t6
  | 6 => k0_off54 t6 | 7 => k0_off55 t6 | 8 => k0_off56 t6 | 9 => k0_off57 t6 | 10 => k0_off58 t6 | _ => k0_off59 t6

theorem slabOff_eq (b : ℕ) (hb : b < 12) : slabOff t6 b = ![b, 128 * t6.val, 0] := by
  interval_cases b
  · exact k0_off48_eq t6
  · exact k0_off49_eq t6
  · exact k0_off50_eq t6
  · exact k0_off51_eq t6
  · exact k0_off52_eq t6
  · exact k0_off53_eq t6
  · exact k0_off54_eq t6
  · exact k0_off55_eq t6
  · exact k0_off56_eq t6
  · exact k0_off57_eq t6
  · exact k0_off58_eq t6
  · exact k0_off59_eq t6

theorem slabOff_inb (b : Fin 12) : ∀ a, slabOff t6 b.val a + S1x128x128.size a ≤ S12x2048x128.size a := by
  have h6 := t6_lt t6
  intro a; rw [slabOff_eq t6 b.val b.isLt]; fin_cases a
  · show b.val + 1 ≤ 12; omega
  · show 128 * t6.val + 128 ≤ 2048; omega
  · show 0 + 128 ≤ 128; omega

def slabRect (b : Fin 12) : Rect S12x2048x128 := Rect.unit (s := S12x2048x128) (slabOff t6 b.val) S1x128x128.size (slabOff_inb t6 b)

def slabPieces (P : Fin 12 → FVec F S1x128x128 .bf16) : List (View.Piece (Elt F) S12x2048x128 .bf16) :=
  View.numbered (n := 12) (slabRect t6) P 12 le_rfl

theorem read_slabPieces (f : BufTy.Contents (Elt F) arg7.view.ty) (P : Fin 12 → FVec F S1x128x128 .bf16) (b : Fin 12) (l c : Fin 128)
    (t : Fin 2048) (ht : t.val = 128 * t6.val + l.val) :
    arg7.view.read (Elt F) (arg7.view.writes (Elt F) f (slabPieces t6 P)) (ix3 b t c) = P b (ix3 (0 : Fin 1) l c) := by
  unfold slabPieces
  refine View.read_numbered arg7.view f (slabRect t6) P (ix3 b t c) b (ix3 (0 : Fin 1) l c) ?_ 12 le_rfl b.isLt ?_
  · intro a
    show _ = slabOff t6 b.val a + 1 * _
    rw [slabOff_eq t6 b.val b.isLt]
    fin_cases a
    · show b.val = b.val + 1 * 0; omega
    · show t.val = 128 * t6.val + 1 * l.val; omega
    · show c.val = 0 + 1 * c.val; omega
  · intro r' hr'
    refine Rect.not_mem_set_of_ne _ _ 0 fun j hj => ?_
    have hj : j < 1 := hj
    have hne : r'.val ≠ b.val := fun h => hr' (Fin.ext h)
    show b.val ≠ slabOff t6 r'.val 0 + 1 * j
    rw [slabOff_eq t6 r'.val r'.isLt]
    show b.val ≠ r'.val + 1 * j
    omega

theorem read_slabPieces_miss (f : BufTy.Contents (Elt F) arg7.view.ty) (P : Fin 12 → FVec F S1x128x128 .bf16) (b : Fin 12) (c : Fin 128)
    (t : Fin 2048) (ht : t.val < 128 * t6.val) :
    arg7.view.read (Elt F) (arg7.view.writes (Elt F) f (slabPieces t6 P)) (ix3 b t c) = arg7.view.read (Elt F) f (ix3 b t c) := by
  unfold slabPieces
  refine View.read_numbered_miss arg7.view f (slabRect t6) P (ix3 b t c) 12 le_rfl ?_
  intro r' _
  refine Rect.not_mem_set_of_ne _ _ 1 fun j hj => ?_
  show t.val ≠ slabOff t6 r'.val 1 + 1 * j
  rw [slabOff_eq t6 r'.val r'.isLt]
  show t.val ≠ 128 * t6.val + 1 * j
  omega

theorem dxTileOut_apply (b : Fin 12) (l c : Fin 128) (p : Fin 33792) (hp : p.val = 264 * c.val + 16 * t6.val + b.val) :
    dxTileOut arg12 t6 X12 b (ix3 (0 : Fin 1) l c) = FloatOps.truncf .bf16 bitsLt_bf16_f32 (arg12.view.read (Elt F) X12 (ix2 p l)) := by
  unfold dxTileOut
  rw [shapeCast_ab_1ab_apply]
  refine congrArg (FloatOps.truncf .bf16 bitsLt_bf16_f32) ?_
  rw [transpose_ix2_apply]
  refine readAt_at arg12.view ⟨rowOff t6 b.val, S128x128.size, ![264, 1], rowOff_inb t6 b⟩ X12 (ix2 c l) (ix2 p l) ?_
  have h0 : rowOff t6 b.val 0 = 16 * t6.val + b.val := congrFun (rowOff_eq t6 b.val b.isLt) 0
  have h1 : rowOff t6 b.val 1 = 0 := congrFun (rowOff_eq t6 b.val b.isLt) 1
  intro a; fin_cases a
  · show p.val = rowOff t6 b.val 0 + 264 * c.val; omega
  · show l.val = rowOff t6 b.val 1 + 1 * l.val; omega

end Unstage

/-- The time steps of the first `k` blocks of `dx` are written. -/
def DoneDx (k : ℕ) (f : BufTy.Contents (Elt F) arg7.view.ty) (X12 : BufTy.Contents (Elt F) arg12.view.ty) : Prop :=
  ∀ q, q < k → ∀ (b : Fin 12) (l c : Fin 128) (t : Fin 2048) (p : Fin 33792), t.val = 128 * q + l.val →
    p.val = 264 * c.val + 16 * q + b.val →
    arg7.view.read (Elt F) f (ix3 b t c) = FloatOps.truncf .bf16 bitsLt_bf16_f32 (arg12.view.read (Elt F) X12 (ix2 p l))

theorem DoneDx.step (t6 : Fin k0_t6_loop.trips) (f : BufTy.Contents (Elt F) arg7.view.ty) (X12 : BufTy.Contents (Elt F) arg12.view.ty)
    (h : DoneDx arg7 arg12 t6.val f X12) :
    DoneDx arg7 arg12 (t6.val + 1) (arg7.view.writes (Elt F) f (slabPieces t6 (dxTileOut arg12 t6 X12))) X12 := by
  intro q hq b l c t p ht hp
  have hl := l.isLt
  by_cases e : q = t6.val
  · subst e
    rw [read_slabPieces arg7 t6 f _ b l c t ht, dxTileOut_apply arg12 t6 X12 b l c p hp]
  · rw [read_slabPieces_miss arg7 t6 f _ b c t (by omega)]
    exact h q (by omega) b l c t p ht hp

@[simp] theorem DoneDx_zero (f : BufTy.Contents (Elt F) arg7.view.ty) (X12 : BufTy.Contents (Elt F) arg12.view.ty) :
    DoneDx arg7 arg12 0 f X12 := fun q hq => absurd hq (Nat.not_lt_zero q)

/-- The loop that copies `dx` back. -/
@[sl_loop] def loopInv_k0_t6 (X12 : BufTy.Contents (Elt F) arg12.view.ty) :
    LoopInvTy_k0_t6 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 where
  inv k _ := iprop(pt c arg12 X12 ∗ (∃ f, pt c arg7 f ∗ ⌜DoneDx arg7 arg12 k f X12⌝))
  step k acc := by
    unfold k0_t6_body
    iintro ⟨H12, ⟨%f7, H7, %h7⟩⟩
    sl_exec
    sl_step
    isplitl [H12]; · iexact H12
    iexists (arg7.view.writes (Elt F) f7 (slabPieces k (dxTileOut arg12 k X12)))
    isplitl [H7]
    · iexact H7
    · ipureintro; exact DoneDx.step arg7 arg12 k f7 X12 h7

end Cert.KernelIdeal.Val
end
-- ==== Proof.StageXw.lean ====
/-
  The second half of the staging of `x`, with values: the words are turned so that a row is a channel.
-/
module

public import proofs.«01_k».proof.Proof.StageX
public import proofs.«01_k».proof.Proof.Concat

@[expose] public section

set_option maxRecDepth 16384
set_option maxHeartbeats 4000000

noncomputable section

namespace Cert.KernelIdeal.Val

open Cert.KernelIdeal Cert.KernelIdeal.Gen Cert.KernelIdeal.Hand
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (𝒱 : Variants) (c : Dev nD) (bd : Option 𝒱.V) (E : Set ℕ) (i : grid0.Coords)
  (arg1 : Memref sig .tc .smem S1x1x128 .f32) (harg1 : arg1.IsWhole)
  (arg2 : Memref sig .tc .vmem S24576x128 .i8) (harg2 : arg2.IsWhole)
  (arg3 : Memref sig .tc .vmem S24576x128 .i8) (harg3 : arg3.IsWhole)
  (arg4 : Memref sig .tc .vmem S128x24x128 .i32) (harg4 : arg4.IsWhole)
  (arg5 : Memref sig .tc .vmem S32x1024 .bf16) (harg5 : arg5.IsWhole)
  (arg6 : Memref sig .tc .vmem S4x16x16x128 .bf16) (harg6 : arg6.IsWhole)
  (arg7 : Memref sig .tc .vmem S12x2048x128 .bf16) (harg7 : arg7.IsWhole)
  (arg8 : Memref sig .tc .vmem S128x2048 .f32) (harg8 : arg8.IsWhole)
  (arg9 : Memref sig .tc .vmem S8704x128 .i32) (harg9 : arg9.IsWhole)
  (arg10 : Memref sig .tc .vmem S8704x128 .i32) (harg10 : arg10.IsWhole)
  (arg11 : Memref sig .tc .vmem S6192x128 .i32) (harg11 : arg11.IsWhole)
  (arg12 : Memref sig .tc .vmem S33792x128 .f32) (harg12 : arg12.IsWhole)
  (arg13 : Memref sig .tc .vmem S1056x128 .f32) (harg13 : arg13.IsWhole)
  (arg14 : Memref sig .tc .vmem S128x128 .i32) (harg14 : arg14.IsWhole)

section StageXw

variable (v7 : IVec S8x128 1) (t3 : Fin k0_t3_loop.trips) (X11 : BufTy.Contents (Elt F) arg11.view.ty)

/-- The words of the batches 0 … 7 at one time. -/
def xLow (ql : Fin 2) (v : Fin 4) (k : Fin 8) : Vec F S8x128 .i32 :=
  arg11.view.readAt (Elt F) ⟨k0_off5 t3 (BitVec.ofNat 32 (4 * ql.val)) (BitVec.ofNat 32 v.val) (BitVec.ofNat 32 k.val), S8x128.size, ![516, 1], k0_off5_inb t3 ql v k⟩ X11

/-- The words of the batches 8 … 11 at one time, the other rows zero. -/
def xHigh (ql : Fin 2) (v : Fin 4) (k : Fin 8) : IVec S8x128 32 :=
  select v7 (dynamicRotate 0 4#32 none (arg11.view.readAt (Elt F) ⟨k0_off6 t3 (BitVec.ofNat 32 (4 * ql.val)) (BitVec.ofNat 32 v.val) (BitVec.ofNat 32 k.val), S8x128.size, ![516, 1], k0_off6_inb t3 ql v k⟩ X11) rotates_S8x128_d0) (broadcast S8x128 0#32)

/-- The words of one word row of all channels, turned. -/
def xwTile (k : Fin 8) : IVec S128x128 32 :=
  k0_pay9 (F := F) (xLow arg11 t3 X11 0 0 k) (xHigh arg11 v7 t3 X11 0 0 k) (xLow arg11 t3 X11 1 0 k) (xHigh arg11 v7 t3 X11 1 0 k)
    (xLow arg11 t3 X11 0 1 k) (xHigh arg11 v7 t3 X11 0 1 k) (xLow arg11 t3 X11 1 1 k) (xHigh arg11 v7 t3 X11 1 1 k)
    (xLow arg11 t3 X11 0 2 k) (xHigh arg11 v7 t3 X11 0 2 k) (xLow arg11 t3 X11 1 2 k) (xHigh arg11 v7 t3 X11 1 2 k)
    (xLow arg11 t3 X11 0 3 k) (xHigh arg11 v7 t3 X11 0 3 k) (xLow arg11 t3 X11 1 3 k) (xHigh arg11 v7 t3 X11 1 3 k)

def xwRect (k : Fin 8) : Rect S8704x128 := ⟨⟨k0_off7 t3 (BitVec.ofNat 32 k.val), S128x128.size, ![68, 1], k0_off7_inb t3 k⟩, spos_68_1⟩

def xwPieces (P : Fin 8 → IVec S128x128 32) : List (View.Piece (Elt F) S8704x128 .i32) :=
  View.numbered (n := 8) (xwRect t3) P 8 le_rfl

theorem xLow_apply (ql : Fin 2) (v : Fin 4) (k : Fin 8) (s : Fin 8) (c : Fin 128) (p : Fin 6192)
    (hp : p.val = 64 * t3.val + 32 * ql.val + 8 * v.val + k.val + 516 * s.val) :
    xLow arg11 t3 X11 ql v k (ix2 s c) = arg11.view.read (Elt F) X11 (ix2 p c) := by
  unfold xLow
  refine readAt_at arg11.view ⟨k0_off5 t3 (BitVec.ofNat 32 (4 * ql.val)) (BitVec.ofNat 32 v.val) (BitVec.ofNat 32 k.val), S8x128.size, ![516, 1], k0_off5_inb t3 ql v k⟩ X11 (ix2 s c) (ix2 p c) ?_
  have h0 := congrFun (k0_off5_eq t3 ql v k) 0
  have h1 := congrFun (k0_off5_eq t3 ql v k) 1
  intro a; fin_cases a
  · show p.val = k0_off5 t3 (BitVec.ofNat 32 (4 * ql.val)) (BitVec.ofNat 32 v.val) (BitVec.ofNat 32 k.val) 0 + 516 * s.val
    rw [h0]; exact hp
  · show c.val = k0_off5 t3 (BitVec.ofNat 32 (4 * ql.val)) (BitVec.ofNat 32 v.val) (BitVec.ofNat 32 k.val) 1 + 1 * c.val
    rw [h1]; show c.val = 0 + 1 * c.val; omega

theorem xHigh_apply (ql : Fin 2) (v : Fin 4) (k : Fin 8) (s : Fin 8) (hs : s.val < 4) (c : Fin 128) (p : Fin 6192)
    (hp : p.val = 64 * t3.val + 32 * ql.val + 8 * v.val + k.val + 516 * (8 + s.val)) :
    xHigh arg11 k0_pay8 t3 X11 ql v k (ix2 s c) = arg11.view.read (Elt F) X11 (ix2 p c) := by
  have hc : k0_pay8 (ix2 s c) = 1#1 := by
    have : ∀ s : Fin 8, s.val < 4 → IntOp.cmpi .slt (BitVec.ofNat 32 (0 * 8 + s.val)) 4#32 = 1#1 := by decide
    exact this s hs
  unfold xHigh
  show Scalar.select (k0_pay8 (ix2 s c)) _ _ = _
  rw [hc, show ∀ (a b : BitVec 32), Scalar.select 1#1 a b = a from fun a b => if_pos rfl]
  refine Eq.trans ?_ (readAt_at arg11.view ⟨k0_off6 t3 (BitVec.ofNat 32 (4 * ql.val)) (BitVec.ofNat 32 v.val) (BitVec.ofNat 32 k.val), S8x128.size, ![516, 1], k0_off6_inb t3 ql v k⟩ X11 (ix2 (⟨s.val + 4, by omega⟩ : Fin 8) c) (ix2 p c) ?_)
  · show dynamicRotate 0 4#32 none _ rotates_S8x128_d0 (ix2 s c) = _
    unfold dynamicRotate
    refine congrArg (arg11.view.readAt (Elt F) (⟨k0_off6 t3 (BitVec.ofNat 32 (4 * ql.val)) (BitVec.ofNat 32 v.val) (BitVec.ofNat 32 k.val), S8x128.size, ![516, 1], k0_off6_inb t3 ql v k⟩ : LoadRect S6192x128) X11) (funext fun a => ?_)
    match a with
    | ⟨0, _⟩ => exact Fin.ext (by show (s.val + 8 - (4 + 0) % 8) % 8 = s.val + 4; omega)
    | ⟨1, _⟩ => rfl
  have h0 := congrFun (k0_off6_eq t3 ql v k) 0
  have h1 := congrFun (k0_off6_eq t3 ql v k) 1
  intro a; fin_cases a
  · show p.val = k0_off6 t3 (BitVec.ofNat 32 (4 * ql.val)) (BitVec.ofNat 32 v.val) (BitVec.ofNat 32 k.val) 0 + 516 * (s.val + 4)
    rw [h0]; show p.val = 64 * t3.val + 32 * ql.val + 8 * v.val + k.val + 2064 + 516 * (s.val + 4); omega
  · show c.val = k0_off6 t3 (BitVec.ofNat 32 (4 * ql.val)) (BitVec.ofNat 32 v.val) (BitVec.ofNat 32 k.val) 1 + 1 * c.val
    rw [h1]; show c.val = 0 + 1 * c.val; omega

theorem concat16 (x0 x1 x2 x3 x4 x5 x6 x7 x8 x9 x10 x11 x12 x13 x14 x15 : IVec S8x128 32) (m c : Fin 128) (j : ℕ) (s : Fin 8) (x : IVec S8x128 32) (hj : m.val = 8 * j + s.val)
    (hx : [x0, x1, x2, x3, x4, x5, x6, x7, x8, x9, x10, x11, x12, x13, x14, x15][j]? = some x) :
    concatenate S128x128 0 [⟨S8x128, x0⟩, ⟨S8x128, x1⟩, ⟨S8x128, x2⟩, ⟨S8x128, x3⟩, ⟨S8x128, x4⟩, ⟨S8x128, x5⟩, ⟨S8x128, x6⟩, ⟨S8x128, x7⟩, ⟨S8x128, x8⟩, ⟨S8x128, x9⟩, ⟨S8x128, x10⟩, ⟨S8x128, x11⟩, ⟨S8x128, x12⟩, ⟨S8x128, x13⟩, ⟨S8x128, x14⟩, ⟨S8x128, x15⟩]
      concatenates_S8x128_S8x128_S8x128_S8x128_S8x128_S8x128_S8x128_S8x128_S8x128_S8x128_S8x128_S8x128_S8x128_S8x128_S8x128_S8x128_S128x128_d0 (ix2 m c) = x (ix2 s c) :=
  concat_rows (T := 128) (h := 8) (w := 128) [x0, x1, x2, x3, x4, x5, x6, x7, x8, x9, x10, x11, x12, x13, x14, x15]
    concatenates_S8x128_S8x128_S8x128_S8x128_S8x128_S8x128_S8x128_S8x128_S8x128_S8x128_S8x128_S8x128_S8x128_S8x128_S8x128_S8x128_S128x128_d0 m c j s hj x hx

/-- The word of batch `b` in column `16 (2 v + ql) + b` of the turned tile. -/
theorem xwTile_apply (k : Fin 8) (ql : Fin 2) (v : Fin 4) (b : Fin 12) (c m : Fin 128) (hm : m.val = 16 * (2 * v.val + ql.val) + b.val)
    (p : Fin 6192) (hp : p.val = 64 * t3.val + 32 * ql.val + 8 * v.val + k.val + 516 * b.val) :
    xwTile arg11 k0_pay8 t3 X11 k (ix2 c m) = arg11.view.read (Elt F) X11 (ix2 p c) := by
  have hb := b.isLt
  unfold xwTile k0_pay9
  rw [shapeCast_self, transpose_ix2_apply]
  by_cases h8 : b.val < 8
  · rw [concat16 _ _ _ _ _ _ _ _ _ _ _ _ _ _ _ _ m c (2 * (2 * v.val + ql.val)) ⟨b.val, h8⟩ (xLow arg11 t3 X11 ql v k) (by show m.val = 8 * (2 * (2 * v.val + ql.val)) + b.val; omega)
      (by fin_cases ql <;> fin_cases v <;> rfl)]
    exact xLow_apply arg11 t3 X11 ql v k ⟨b.val, h8⟩ c p hp
  · rw [concat16 _ _ _ _ _ _ _ _ _ _ _ _ _ _ _ _ m c (2 * (2 * v.val + ql.val) + 1) ⟨b.val - 8, by omega⟩ (xHigh arg11 k0_pay8 t3 X11 ql v k)
      (by show m.val = 8 * (2 * (2 * v.val + ql.val) + 1) + (b.val - 8); omega) (by fin_cases ql <;> fin_cases v <;> rfl)]
    exact xHigh_apply arg11 t3 X11 ql v k ⟨b.val - 8, by omega⟩ (by show b.val - 8 < 4; omega) c p
      (by show p.val = 64 * t3.val + 32 * ql.val + 8 * v.val + k.val + 516 * (8 + (b.val - 8)); omega)

theorem read_xwPieces (f : BufTy.Contents (Elt F) arg10.view.ty) (P : Fin 8 → IVec S128x128 32) (k : Fin 8) (c l : Fin 128) (p : Fin 8704)
    (hp : p.val = 68 * c.val + 8 * t3.val + k.val) :
    arg10.view.read (Elt F) (arg10.view.writes (Elt F) f (xwPieces (F := F) t3 P)) (ix2 p l) = P k (ix2 c l) := by
  have h1 := t3_lt t3; have hk := k.isLt
  unfold xwPieces
  refine View.read_numbered arg10.view f (xwRect t3) P (ix2 p l) k (ix2 c l) ?_ 8 le_rfl hk ?_
  · intro a
    show _ = k0_off7 t3 (BitVec.ofNat 32 k.val) a + _
    rw [k0_off7_eq]
    fin_cases a
    · show p.val = 8 * t3.val + k.val + 68 * c.val; omega
    · show l.val = 0 + 1 * l.val; omega
  · intro r' hr'
    refine Rect.not_mem_set_of_ne _ _ 0 fun j hj => ?_
    have hne : r'.val ≠ k.val := fun h => hr' (Fin.ext h)
    have := r'.isLt
    show _ ≠ k0_off7 t3 (BitVec.ofNat 32 r'.val) 0 + _
    rw [k0_off7_eq]
    show p.val ≠ 8 * t3.val + r'.val + 68 * j
    omega

theorem read_xwPieces_miss (f : BufTy.Contents (Elt F) arg10.view.ty) (P : Fin 8 → IVec S128x128 32) (l : Fin 128) (p : Fin 8704)
    (c m : ℕ) (hp : p.val = 68 * c + m) (hm : m < 8 * t3.val) :
    arg10.view.read (Elt F) (arg10.view.writes (Elt F) f (xwPieces (F := F) t3 P)) (ix2 p l) = arg10.view.read (Elt F) f (ix2 p l) := by
  have h1 := t3_lt t3
  unfold xwPieces
  refine View.read_numbered_miss arg10.view f (xwRect t3) P (ix2 p l) 8 le_rfl ?_
  intro r' _
  refine Rect.not_mem_set_of_ne _ _ 0 fun j hj => ?_
  have := r'.isLt
  show _ ≠ k0_off7 t3 (BitVec.ofNat 32 r'.val) 0 + _
  rw [k0_off7_eq]
  show p.val ≠ 8 * t3.val + r'.val + 68 * j
  omega

end StageXw

/-- The first `n` blocks of words of `x` are in place. -/
def DoneXw (v7 : IVec S8x128 1) (n : ℕ) (f : BufTy.Contents (Elt F) arg10.view.ty) (X11 : BufTy.Contents (Elt F) arg11.view.ty) : Prop :=
  ∀ t3 : Fin k0_t3_loop.trips, t3.val < n → ∀ (k : Fin 8) (c l : Fin 128) (p : Fin 8704), p.val = 68 * c.val + 8 * t3.val + k.val →
    arg10.view.read (Elt F) f (ix2 p l) = xwTile arg11 v7 t3 X11 k (ix2 c l)

theorem DoneXw.step (v7 : IVec S8x128 1) (t3 : Fin k0_t3_loop.trips) (f : BufTy.Contents (Elt F) arg10.view.ty)
    (X11 : BufTy.Contents (Elt F) arg11.view.ty) (h : DoneXw arg10 arg11 v7 t3.val f X11) :
    DoneXw arg10 arg11 v7 (t3.val + 1) (arg10.view.writes (Elt F) f (xwPieces (F := F) t3 (xwTile arg11 v7 t3 X11))) X11 := by
  intro g hg k c l p hp
  have hk := k.isLt
  by_cases e : g = t3
  · subst e
    rw [read_xwPieces arg10 g f _ k c l p hp]
  · have hne : g.val ≠ t3.val := fun h => e (Fin.ext h)
    rw [read_xwPieces_miss arg10 t3 f _ l p c.val (8 * g.val + k.val) (by omega) (by omega)]
    exact h g (by omega) k c l p hp

@[simp] theorem DoneXw_zero (v7 : IVec S8x128 1) (f : BufTy.Contents (Elt F) arg10.view.ty) (X11 : BufTy.Contents (Elt F) arg11.view.ty) :
    DoneXw arg10 arg11 v7 0 f X11 := fun q hq => absurd hq (Nat.not_lt_zero _)

set_option warn.classDefReducibility false

/-- The loop that turns the words of `x`. -/
@[sl_loop] def loopInv_k0_t3 (v7 : IVec S8x128 1) (X11 : BufTy.Contents (Elt F) arg11.view.ty) :
    LoopInvTy_k0_t3 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 v7 where
  inv k _ := iprop(pt c arg11 X11 ∗ (∃ f, pt c arg10 f ∗ ⌜DoneXw arg10 arg11 v7 k f X11⌝))
  step k acc := by
    unfold k0_t3_body
    iintro ⟨H11, ⟨%f10, H10, %h10⟩⟩
    sl_exec
    sl_step
    isplitl [H11]; · iexact H11
    iexists (arg10.view.writes (Elt F) f10 (xwPieces (F := F) k (xwTile arg11 v7 k X11)))
    isplitl [H10]
    · iexact H10
    · ipureintro; exact DoneXw.step arg10 arg11 v7 k f10 X11 h10

end Cert.KernelIdeal.Val
end
-- ==== Proof.Body.lean ====
/-
  One run of the kernel's body: from the six input blocks, the facts the loops establish about the two output blocks.
  The scratch buffers in between are named only inside the statement.
-/
module

public import proofs.«01_k».proof.Proof.StageDy
public import proofs.«01_k».proof.Proof.StageX
public import proofs.«01_k».proof.Proof.StageXw
public import proofs.«01_k».proof.Proof.Group

@[expose] public section

set_option maxRecDepth 16384
set_option maxHeartbeats 4000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

/-- What the body's loops leave, from input blocks `d1 … d6` to output blocks `d7`, `d8`. -/
def Ran (arg1 : Memref sig .tc .smem S1x1x128 .f32)
    (arg2 : Memref sig .tc .vmem S24576x128 .i8)
    (arg3 : Memref sig .tc .vmem S24576x128 .i8)
    (arg4 : Memref sig .tc .vmem S128x24x128 .i32)
    (arg5 : Memref sig .tc .vmem S32x1024 .bf16)
    (arg6 : Memref sig .tc .vmem S4x16x16x128 .bf16)
    (arg7 : Memref sig .tc .vmem S12x2048x128 .bf16) (arg8 : Memref sig .tc .vmem S128x2048 .f32)
    (arg9 arg10 : Memref sig .tc .vmem S8704x128 .i32) (arg11 : Memref sig .tc .vmem S6192x128 .i32)
    (arg12 : Memref sig .tc .vmem S33792x128 .f32)
    (d1 : S1x1x128.Idx → Elt F .f32) (d2 d3 : S24576x128.Idx → Elt F .i8) (d4 : S128x24x128.Idx → Elt F .i32)
    (d5 : S32x1024.Idx → Elt F .bf16) (d6 : S4x16x16x128.Idx → Elt F .bf16)
    (d7 : S12x2048x128.Idx → Elt F .bf16) (d8 : S128x2048.Idx → Elt F .f32) : Prop :=
  ∃ X1 X2 X3 X4 X5 X6 X9 X10 X11 X12 f7 f8,
    arg1.view.read (Elt F) X1 = d1 ∧ arg2.view.read (Elt F) X2 = d2 ∧ arg3.view.read (Elt F) X3 = d3
    ∧ arg4.view.read (Elt F) X4 = d4 ∧ arg5.view.read (Elt F) X5 = d5 ∧ arg6.view.read (Elt F) X6 = d6
    ∧ arg7.view.read (Elt F) f7 = d7 ∧ arg8.view.read (Elt F) f8 = d8
    ∧ DoneDy arg3 arg9 16 X9 X3 ∧ DoneXp arg2 arg11 12 X11 X2 ∧ DoneXw arg10 arg11 k0_pay8 8 X10 X11
    ∧ DoneX arg1 arg4 arg6 arg9 arg12 128 X12 X1 X4 X6 X9 ∧ DoneH arg5 arg6 arg8 arg9 arg10 16 f8 X5 X6 X9 X10
    ∧ DoneDx arg7 arg12 16 f7 X12

/-- The body from its input blocks: the inputs come back unchanged, the outputs as `Ran` says, the scratch at anything. -/
theorem body_run (c : Dev nD) (i : grid0.Coords) (arg1 : Memref sig .tc .smem S1x1x128 .f32) (harg1 : arg1.IsWhole)
    (arg2 : Memref sig .tc .vmem S24576x128 .i8) (harg2 : arg2.IsWhole)
    (arg3 : Memref sig .tc .vmem S24576x128 .i8) (harg3 : arg3.IsWhole)
    (arg4 : Memref sig .tc .vmem S128x24x128 .i32) (harg4 : arg4.IsWhole)
    (arg5 : Memref sig .tc .vmem S32x1024 .bf16) (harg5 : arg5.IsWhole)
    (arg6 : Memref sig .tc .vmem S4x16x16x128 .bf16) (harg6 : arg6.IsWhole)
    (arg7 : Memref sig .tc .vmem S12x2048x128 .bf16) (harg7 : arg7.IsWhole)
    (arg8 : Memref sig .tc .vmem S128x2048 .f32) (harg8 : arg8.IsWhole)
    (arg9 : Memref sig .tc .vmem S8704x128 .i32) (harg9 : arg9.IsWhole)
    (arg10 : Memref sig .tc .vmem S8704x128 .i32) (harg10 : arg10.IsWhole)
    (arg11 : Memref sig .tc .vmem S6192x128 .i32) (harg11 : arg11.IsWhole)
    (arg12 : Memref sig .tc .vmem S33792x128 .f32) (harg12 : arg12.IsWhole)
    (arg13 : Memref sig .tc .vmem S1056x128 .f32) (harg13 : arg13.IsWhole)
    (arg14 : Memref sig .tc .vmem S128x128 .i32) (harg14 : arg14.IsWhole)
    (d1 : S1x1x128.Idx → Elt F .f32) (d2 d3 : S24576x128.Idx → Elt F .i8) (d4 : S128x24x128.Idx → Elt F .i32)
    (d5 : S32x1024.Idx → Elt F .bf16) (d6 : S4x16x16x128.Idx → Elt F .bf16)
    (K : PUnit → sProp 𝕄) :
    iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare d1 ∗ owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ (∃ d7 d8, ⌜Ran arg1 arg2 arg3 arg4 arg5 arg6 arg7 arg8 arg9 arg10 arg11 arg12 d1 d2 d3 d4 d5 d6 d7 d8⌝ ∗ owns (c : Thread nD τ) arg7 fullShare d7 ∗ owns (c : Thread nD τ) arg8 fullShare d8) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) Set.univ (cc0__body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__body_eq_skeleton]; unfold cc0__body_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  sl_exec
  sl_step
  iapply Hk
  isplitl [H1]
  · iexists _; isplitr; swap; · iexact H1
    ipureintro; exact e1
  isplitl [H2]
  · iexists _; isplitr; swap; · iexact H2
    ipureintro; exact e2
  isplitl [H3]
  · iexists _; isplitr; swap; · iexact H3
    ipureintro; exact e3
  isplitl [H4]
  · iexists _; isplitr; swap; · iexact H4
    ipureintro; exact e4
  isplitl [H5]
  · iexists _; isplitr; swap; · iexact H5
    ipureintro; exact e5
  isplitl [H6]
  · iexists _; isplitr; swap; · iexact H6
    ipureintro; exact e6
  have t1 : Scf.trips k0_t1_loop.lb k0_t1_loop.ub k0_t1_loop.st = 16 := by decide
  have t2 : Scf.trips k0_t2_loop.lb k0_t2_loop.ub k0_t2_loop.st = 12 := by decide
  have t3 : Scf.trips k0_t3_loop.lb k0_t3_loop.ub k0_t3_loop.st = 8 := by decide
  have t4 : Scf.trips k0_t4_loop.lb k0_t4_loop.ub k0_t4_loop.st = 16 := by decide
  have t6 : Scf.trips k0_t6_loop.lb k0_t6_loop.ub k0_t6_loop.st = 16 := by decide
  rw [t1] at hL3; rw [t2] at hL6; rw [t3] at hL9; rw [t4] at hL19; rw [t6] at hL22
  isplitl [H7 H8]
  · iexists _, _
    isplitr
    swap
    · isplitl [H7]
      · iexists _; isplitr; swap; · iexact H7
        ipureintro; rfl
      iexists _; isplitr; swap; · iexact H8
      ipureintro; rfl
    ipureintro
    exact ⟨f1, f2, f3, f4, f5, f6, fL1, fL3, fL2, fL5, fL7, f8L6, e1, e2, e3, e4, e5, e6, rfl, rfl, hL3, hL6, hL9, hL19.1, hL19.2, hL22⟩
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end Cert.KernelIdeal.Val
end
-- ==== Proof.BodyValue.lean ====
/-
  The value of one body: from its six input blocks, read element by element as codes and scales of the block's channels, to
  every element of the two output blocks.
-/
module

public import proofs.«01_k».proof.Proof.Body
public import proofs.«01_k».proof.Proof.TileDx
public import proofs.«01_k».proof.Proof.TileDh

@[expose] public section

set_option maxRecDepth 16384
set_option maxHeartbeats 400000

noncomputable section

namespace Cert.KernelIdeal.Val

open Cert.KernelIdeal Cert.KernelIdeal.Gen Cert.KernelIdeal.Hand
open Idealize.ShloMosaic Idealize.ShloMosaic.TcCoe Idealize.ShloMosaic.ValueIdx
open Finset

/-! ## The loads of a channel, element by element -/

section Reads

variable (t4 : Fin k0_t4_loop.trips) (t5 : Fin k0_t5_loop.trips)

theorem trips4 : k0_t4_loop.trips = 16 := by decide +kernel
theorem trips5 : k0_t5_loop.trips = 8 := by decide +kernel

theorem ldA_apply (M : Memref sig .tc .vmem S8704x128 .i32) (X : BufTy.Contents (Elt Ideal) M.view.ty) (i s : Fin 8) (l : Fin 128)
    (p : Fin 8704) (hp : p.val = 544 * t4.val + 68 * t5.val + 8 * i.val + s.val) :
    ldA (F := Ideal) t4 t5 M X i (ix2 s l) = M.view.read (Elt Ideal) X (ix2 p l) := by
  unfold ldA
  refine readAt_at M.view (Rect.unit (s := S8704x128) (k0_off8 t4 t5 (BitVec.ofNat 32 (8 * i.val))) S8x128.size (k0_off8_inb t4 t5 i)).toLoadRect X (ix2 s l) (ix2 p l) ?_
  have h0 := congrFun (k0_off8_eq t4 t5 i) 0
  have h1 := congrFun (k0_off8_eq t4 t5 i) 1
  intro a; fin_cases a
  · show p.val = k0_off8 t4 t5 (BitVec.ofNat 32 (8 * i.val)) 0 + 1 * s.val
    rw [h0]; show p.val = 544 * t4.val + 68 * t5.val + 8 * i.val + 1 * s.val; omega
  · show l.val = k0_off8 t4 t5 (BitVec.ofNat 32 (8 * i.val)) 1 + 1 * l.val
    rw [h1]; show l.val = 0 + 1 * l.val; omega

theorem ldN_apply (M : Memref sig .tc .vmem S8704x128 .i32) (X : BufTy.Contents (Elt Ideal) M.view.ty) (i s : Fin 8) (l : Fin 128)
    (p : Fin 8704) (hp : p.val = 544 * t4.val + 68 * t5.val + 8 * i.val + 4 + s.val) :
    ldN (F := Ideal) t4 t5 M X i (ix2 s l) = M.view.read (Elt Ideal) X (ix2 p l) := by
  unfold ldN
  refine readAt_at M.view (Rect.unit (s := S8704x128) (k0_off9 t4 t5 (BitVec.ofNat 32 (8 * i.val))) S8x128.size (k0_off9_inb t4 t5 i)).toLoadRect X (ix2 s l) (ix2 p l) ?_
  have h0 := congrFun (k0_off9_eq t4 t5 i) 0
  have h1 := congrFun (k0_off9_eq t4 t5 i) 1
  intro a; fin_cases a
  · show p.val = k0_off9 t4 t5 (BitVec.ofNat 32 (8 * i.val)) 0 + 1 * s.val
    rw [h0]; show p.val = 544 * t4.val + 68 * t5.val + 8 * i.val + 4 + 1 * s.val; omega
  · show l.val = k0_off9 t4 t5 (BitVec.ofNat 32 (8 * i.val)) 1 + 1 * l.val
    rw [h1]; show l.val = 0 + 1 * l.val; omega

theorem ldD_apply (M : Memref sig .tc .vmem S4x16x16x128 .bf16) (X : BufTy.Contents (Elt Ideal) M.view.ty) (v : Fin 4) (q b : Fin 16) (l : Fin 128) :
    ldD (F := Ideal) M X v q (ix4 0 0 b l) = M.view.read (Elt Ideal) X (ix4 v q b l) := by
  unfold ldD
  refine readAt_at M.view (Rect.unit (s := S4x16x16x128) ![v.val, q.val, 0, 0] S1x1x16x128.size (dInb v q)).toLoadRect X (ix4 0 0 b l) (ix4 v q b l) ?_
  intro a; fin_cases a
  · show v.val = v.val + 1 * 0; omega
  · show q.val = q.val + 1 * 0; omega
  · show b.val = 0 + 1 * b.val; omega
  · show l.val = 0 + 1 * l.val; omega

theorem ldS_apply (M : Memref sig .tc .vmem S32x1024 .bf16) (X : BufTy.Contents (Elt Ideal) M.view.ty) (g : Fin 8) (s : Fin 32) (m : Fin 128)
    (k : Fin 1024) (hk : k.val = 128 * g.val + m.val) :
    ldS (F := Ideal) M X g (ix2 s m) = M.view.read (Elt Ideal) X (ix2 s k) := by
  unfold ldS
  refine readAt_at M.view (Rect.unit (s := S32x1024) ![0, 128 * g.val] S32x128.size (sInb g)).toLoadRect X (ix2 s m) (ix2 s k) ?_
  intro a; fin_cases a
  · show s.val = 0 + 1 * s.val; omega
  · show k.val = 128 * g.val + 1 * m.val; omega

theorem hRead (M : Memref sig .tc .vmem S128x24x128 .i32) (X : BufTy.Contents (Elt Ideal) M.view.ty) (off : Fin 3 → ℕ)
    (inb : ∀ a, off a + S1x1x128.size a ≤ S128x24x128.size a) (e : Fin 24) (l : Fin 128) (c : Fin 128) (he : off = ![c.val, e.val, 0]) :
    M.view.readAt (Elt Ideal) (Rect.unit (s := S128x24x128) off S1x1x128.size inb).toLoadRect X (ix3 0 0 l) = M.view.read (Elt Ideal) X (ix3 c e l) := by
  refine readAt_at M.view (Rect.unit (s := S128x24x128) off S1x1x128.size inb).toLoadRect X (ix3 0 0 l) (ix3 c e l) ?_
  subst he
  intro a; fin_cases a
  · show c.val = c.val + 1 * 0; omega
  · show e.val = e.val + 1 * 0; omega
  · show l.val = 0 + 1 * l.val; omega

theorem ldH_apply (M : Memref sig .tc .vmem S128x24x128 .i32) (X : BufTy.Contents (Elt Ideal) M.view.ty) (e : ℕ) (he : e < 17) (l : Fin 128)
    (c : Fin 128) (hc : c.val = 8 * t4.val + t5.val) :
    ldH (F := Ideal) M t4 t5 X e (ix3 0 0 l) = M.view.read (Elt Ideal) X (ix3 c (⟨e, by omega⟩ : Fin 24) l) := by
  interval_cases e
  · exact hRead M X _ (k0_off10_inb t4 t5) 0 l c (by rw [hc]; exact k0_off10_eq t4 t5)
  · exact hRead M X _ (k0_off11_inb t4 t5) 1 l c (by rw [hc]; exact k0_off11_eq t4 t5)
  · exact hRead M X _ (k0_off12_inb t4 t5) 2 l c (by rw [hc]; exact k0_off12_eq t4 t5)
  · exact hRead M X _ (k0_off13_inb t4 t5) 3 l c (by rw [hc]; exact k0_off13_eq t4 t5)
  · exact hRead M X _ (k0_off14_inb t4 t5) 4 l c (by rw [hc]; exact k0_off14_eq t4 t5)
  · exact hRead M X _ (k0_off15_inb t4 t5) 5 l c (by rw [hc]; exact k0_off15_eq t4 t5)
  · exact hRead M X _ (k0_off16_inb t4 t5) 6 l c (by rw [hc]; exact k0_off16_eq t4 t5)
  · exact hRead M X _ (k0_off17_inb t4 t5) 7 l c (by rw [hc]; exact k0_off17_eq t4 t5)
  · exact hRead M X _ (k0_off18_inb t4 t5) 8 l c (by rw [hc]; exact k0_off18_eq t4 t5)
  · exact hRead M X _ (k0_off19_inb t4 t5) 9 l c (by rw [hc]; exact k0_off19_eq t4 t5)
  · exact hRead M X _ (k0_off20_inb t4 t5) 10 l c (by rw [hc]; exact k0_off20_eq t4 t5)
  · exact hRead M X _ (k0_off21_inb t4 t5) 11 l c (by rw [hc]; exact k0_off21_eq t4 t5)
  · exact hRead M X _ (k0_off22_inb t4 t5) 12 l c (by rw [hc]; exact k0_off22_eq t4 t5)
  · exact hRead M X _ (k0_off23_inb t4 t5) 13 l c (by rw [hc]; exact k0_off23_eq t4 t5)
  · exact hRead M X _ (k0_off24_inb t4 t5) 14 l c (by rw [hc]; exact k0_off24_eq t4 t5)
  · exact hRead M X _ (k0_off25_inb t4 t5) 15 l c (by rw [hc]; exact k0_off25_eq t4 t5)
  · exact hRead M X _ (k0_off26_inb t4 t5) 16 l c (by rw [hc]; exact k0_off26_eq t4 t5)

theorem ldC_apply (M : Memref sig .tc .smem S1x1x128 .f32) (X : BufTy.Contents (Elt Ideal) M.view.ty)
    (c : Fin 128) (hc : c.val = 8 * t4.val + t5.val) :
    ldC (F := Ideal) M t4 t5 X = M.view.read (Elt Ideal) X (ix3 0 0 c) := by
  unfold ldC
  refine readAt_at M.view _ X _ (ix3 0 0 c) ?_
  have h0 := congrFun (k0_off27_eq t4 t5) 0
  have h1 := congrFun (k0_off27_eq t4 t5) 1
  have h2 := congrFun (k0_off27_eq t4 t5) 2
  intro a; fin_cases a
  · show 0 = k0_off27 t4 t5 0 + 1 * 0
    rw [h0]; rfl
  · show 0 = k0_off27 t4 t5 1 + 1 * 0
    rw [h1]; rfl
  · show c.val = k0_off27 t4 t5 2 + 1 * 0
    rw [h2]; show c.val = 8 * t4.val + t5.val + 1 * 0; omega

end Reads

/-! ## The block's codes and scales -/

/-- What the six input blocks hold, by the block's channel `c`: codes of `x`, `dy` and the filter, and the three scales. -/
structure Blocks (d1 : S1x1x128.Idx → Elt Ideal .f32) (d2 d3 : S24576x128.Idx → Elt Ideal .i8) (d4 : S128x24x128.Idx → Elt Ideal .i32)
    (d5 : S32x1024.Idx → Elt Ideal .bf16) (d6 : S4x16x16x128.Idx → Elt Ideal .bf16)
    (xc dyc : ℕ → ℕ → ℕ → BitVec 8) (hc : ℕ → ℕ → BitVec 8) (xsc dsc : ℕ → ℕ → EReal) (hs : ℕ → EReal) : Prop where
  b1 : ∀ c : Fin 128, (d1 (ix3 0 0 c) : EReal) = hs c.val
  b2 : ∀ (p : Fin 24576) (c : Fin 128), (d2 (ix2 p c) : BitVec 8) = xc c.val (p.val / 2048) (p.val % 2048)
  b3 : ∀ (p : Fin 24576) (c : Fin 128), (d3 (ix2 p c) : BitVec 8) = dyc c.val (p.val / 2048) (p.val % 2048)
  b4 : ∀ (c : Fin 128) (e : Fin 24) (l : Fin 128) (j : ℕ), e.val < 17 → j < 4 → byteAt (d4 (ix3 c e l)) j = hzv (hc c.val) (128 * e.val + j) l.val
  b5 : ∀ (s : Fin 32) (m : Fin 1024), (d5 (ix2 s m) : EReal)
    = if m.val % 16 < 12 then xsc (m.val % 16) (256 * (m.val / 128) + bt (m.val % 128 / 16) + s.val) else 0
  b6 : ∀ (v : Fin 4) (q b : Fin 16) (l : Fin 128), (d6 (ix4 v q b l) : EReal)
    = if b.val < 12 ∧ 128 * q.val + 32 * v.val + l.val < 2048 then dsc b.val (128 * q.val + 32 * v.val + l.val) else 0

section Ran

variable {arg1 : Memref sig .tc .smem S1x1x128 .f32}
  {arg2 : Memref sig .tc .vmem S24576x128 .i8} {arg3 : Memref sig .tc .vmem S24576x128 .i8}
  {arg4 : Memref sig .tc .vmem S128x24x128 .i32} {arg5 : Memref sig .tc .vmem S32x1024 .bf16}
  {arg6 : Memref sig .tc .vmem S4x16x16x128 .bf16}
  {arg7 : Memref sig .tc .vmem S12x2048x128 .bf16} {arg8 : Memref sig .tc .vmem S128x2048 .f32}
  {arg9 arg10 : Memref sig .tc .vmem S8704x128 .i32} {arg11 : Memref sig .tc .vmem S6192x128 .i32}
  {arg12 : Memref sig .tc .vmem S33792x128 .f32}
  {d1 : S1x1x128.Idx → Elt Ideal .f32} {d2 d3 : S24576x128.Idx → Elt Ideal .i8} {d4 : S128x24x128.Idx → Elt Ideal .i32}
  {d5 : S32x1024.Idx → Elt Ideal .bf16} {d6 : S4x16x16x128.Idx → Elt Ideal .bf16}
  {d7 : S12x2048x128.Idx → Elt Ideal .bf16} {d8 : S128x2048.Idx → Elt Ideal .f32}
  {xc dyc : ℕ → ℕ → ℕ → BitVec 8} {hc : ℕ → ℕ → BitVec 8} {xsc dsc : ℕ → ℕ → EReal} {hs : ℕ → EReal}

/-- A staged word of `dy`: byte `j` is the code of batch `4 w + j`. -/
theorem dyByte {X3 X9} (h3 : arg3.view.read (Elt Ideal) X3 = d3) (h : DoneDy (F := Ideal) arg3 arg9 16 X9 X3)
    (hb : ∀ (p : Fin 24576) (c : Fin 128), (d3 (ix2 p c) : BitVec 8) = dyc c.val (p.val / 2048) (p.val % 2048))
    (c : Fin 128) (q w : ℕ) (hq : q < 16) (hw : w < 3) (l : Fin 128) (j : ℕ) (hj : j < 4) (p : Fin 8704) (hp : p.val = 68 * c.val + 4 * q + w) :
    byteAt (arg9.view.read (Elt Ideal) X9 (ix2 p l)) j = dyc c.val (4 * w + j) (128 * q + l.val) := by
  have hl := l.isLt
  refine byteAt_of_bits _ j hj _ fun n hn hnj => ?_
  have e := h q hq ⟨w, hw⟩ c l p hq hp n hn ⟨2048 * (4 * w + n / 8) + 128 * q + l.val, by omega⟩ rfl
  rw [h3, hb] at e
  refine e.trans ?_
  have e1 : (2048 * (4 * w + n / 8) + 128 * q + l.val) / 2048 = 4 * w + j := by omega
  have e2 : (2048 * (4 * w + n / 8) + 128 * q + l.val) % 2048 = 128 * q + l.val := by omega
  show BitVec.getLsbD (dyc c.val ((2048 * (4 * w + n / 8) + 128 * q + l.val) / 2048) ((2048 * (4 * w + n / 8) + 128 * q + l.val) % 2048)) (n % 8) = _
  rw [e1, e2]

/-- A staged word of `x`: byte `j` is the code of the `j`-th of four consecutive times. -/
theorem xByte {X2 X10 X11} (h2 : arg2.view.read (Elt Ideal) X2 = d2) (h : DoneXp (F := Ideal) arg2 arg11 12 X11 X2)
    (h' : DoneXw (F := Ideal) arg10 arg11 k0_pay8 8 X10 X11)
    (hb : ∀ (p : Fin 24576) (c : Fin 128), (d2 (ix2 p c) : BitVec 8) = xc c.val (p.val / 2048) (p.val % 2048))
    (c : Fin 128) (g a : Fin 8) (m : Fin 128) (hm : m.val % 16 < 12) (j : ℕ) (hj : j < 4) (p : Fin 8704) (hp : p.val = 68 * c.val + 8 * g.val + a.val) :
    byteAt (arg10.view.read (Elt Ideal) X10 (ix2 p m)) j = xc c.val (m.val % 16) (256 * g.val + bt (m.val / 16) + 4 * a.val + j) := by
  have hml := m.isLt
  have hg := g.isLt
  have ha := a.isLt
  have hT : k0_t3_loop.trips = 8 := by decide +kernel
  rw [h' ⟨g.val, by omega⟩ hg a c m p hp,
    xwTile_apply arg11 ⟨g.val, by omega⟩ X11 a ⟨m.val / 16 % 2, by omega⟩ ⟨m.val / 32, by omega⟩ ⟨m.val % 16, hm⟩ c m
      (by show m.val = 16 * (2 * (m.val / 32) + m.val / 16 % 2) + m.val % 16; omega)
      ⟨64 * g.val + 32 * (m.val / 16 % 2) + 8 * (m.val / 32) + a.val + 516 * (m.val % 16), by omega⟩ rfl]
  have hbt : bt (m.val / 16) = 128 * (m.val / 16 % 2) + 32 * (m.val / 32) := by unfold bt; omega
  refine byteAt_of_bits _ j hj _ fun n hn hnj => ?_
  have e := h (m.val % 16) (by omega) hm ⟨64 * g.val + 32 * (m.val / 16 % 2) + 8 * (m.val / 32) + a.val, by omega⟩ c
    ⟨64 * g.val + 32 * (m.val / 16 % 2) + 8 * (m.val / 32) + a.val + 516 * (m.val % 16), by omega⟩
    (by show 64 * g.val + 32 * (m.val / 16 % 2) + 8 * (m.val / 32) + a.val + 516 * (m.val % 16) = 516 * (m.val % 16) + (64 * g.val + 32 * (m.val / 16 % 2) + 8 * (m.val / 32) + a.val); omega)
    n hn ⟨2048 * (m.val % 16) + 4 * (64 * g.val + 32 * (m.val / 16 % 2) + 8 * (m.val / 32) + a.val) + n / 8, by omega⟩ rfl
  rw [h2, hb] at e
  refine e.trans ?_
  have e1 : (2048 * (m.val % 16) + 4 * (64 * g.val + 32 * (m.val / 16 % 2) + 8 * (m.val / 32) + a.val) + n / 8) / 2048 = m.val % 16 := by omega
  have e2 : (2048 * (m.val % 16) + 4 * (64 * g.val + 32 * (m.val / 16 % 2) + 8 * (m.val / 32) + a.val) + n / 8) % 2048
      = 256 * g.val + (128 * (m.val / 16 % 2) + 32 * (m.val / 32)) + 4 * a.val + j := by omega
  show BitVec.getLsbD (xc c.val ((2048 * (m.val % 16) + 4 * (64 * g.val + 32 * (m.val / 16 % 2) + 8 * (m.val / 32) + a.val) + n / 8) / 2048)
    ((2048 * (m.val % 16) + 4 * (64 * g.val + 32 * (m.val / 16 % 2) + 8 * (m.val / 32) + a.val) + n / 8) % 2048)) (n % 8) = _
  rw [hbt, e1, e2]

/-- The tiles of `dy` of one channel. -/
theorem zRead {X3 X6 X9} (h3 : arg3.view.read (Elt Ideal) X3 = d3) (h6 : arg6.view.read (Elt Ideal) X6 = d6)
    (h : DoneDy (F := Ideal) arg3 arg9 16 X9 X3) (B : Blocks d1 d2 d3 d4 d5 d6 xc dyc hc xsc dsc hs)
    (t4 : Fin k0_t4_loop.trips) (t5 : Fin k0_t5_loop.trips) (c : Fin 128) (hcc : c.val = 8 * t4.val + t5.val)
    (v : ℕ) (hv : v < 4) (q : ℕ) (b : Fin 16) (l : Fin 128) :
    zTile (ldA (F := Ideal) t4 t5 arg9 X9) (ldN (F := Ideal) t4 t5 arg9 X9) (ldD (F := Ideal) arg6 X6) v q (ix2 b l)
      = Zv (dyc c.val) dsc b.val (128 * q + 32 * v + l.val) := by
  refine zTile_apply _ _ _ (dyc c.val) dsc ?_ ?_ ?_ v hv q b l
  · intro r s l j hj hs3
    have hr := r.isLt
    have hs8 := s.isLt
    have hc8 := c.isLt
    rw [ldA_apply t4 t5 arg9 X9 r s l ⟨544 * t4.val + 68 * t5.val + 8 * r.val + s.val, by omega⟩ rfl]
    exact dyByte h3 h B.b3 c (2 * r.val + s.val / 4) (s.val % 4) (by omega) hs3 l j hj _
      (by show 544 * t4.val + 68 * t5.val + 8 * r.val + s.val = _; omega)
  · intro r s l j hj hs3 hq
    have hr := r.isLt
    have hs8 := s.isLt
    have hc8 := c.isLt
    rw [ldN_apply t4 t5 arg9 X9 r s l ⟨544 * t4.val + 68 * t5.val + 8 * r.val + 4 + s.val, by omega⟩ rfl]
    exact dyByte h3 h B.b3 c (2 * r.val + s.val / 4 + 1) (s.val % 4) (by omega) hs3 l j hj _
      (by show 544 * t4.val + 68 * t5.val + 8 * r.val + 4 + s.val = _; omega)
  · intro v q b l
    rw [ldD_apply, h6]
    exact B.b6 v q b l

theorem ran_dx (B : Blocks d1 d2 d3 d4 d5 d6 xc dyc hc xsc dsc hs)
    (h : Ran (F := Ideal) arg1 arg2 arg3 arg4 arg5 arg6 arg7 arg8 arg9 arg10 arg11 arg12 d1 d2 d3 d4 d5 d6 d7 d8)
    (b : Fin 12) (t : Fin 2048) (c : Fin 128) :
    (d7 (ix3 b t c) : EReal) = (∑ U ∈ range 2048, Zv (dyc c.val) dsc b.val U * dec4 (hzv (hc c.val) U t.val)) * hs c.val := by
  obtain ⟨X1, X2, X3, X4, X5, X6, X9, X10, X11, X12, f7, f8, h1, h2, h3, h4, h5, h6, h7, h8, hDy, hXp, hXw, hDX, hDH, hDx⟩ := h
  have hb := b.isLt
  have ht := t.isLt
  have hcl := c.isLt
  have ht4 : k0_t4_loop.trips = 16 := trips4
  have ht5 : k0_t5_loop.trips = 8 := trips5
  rw [← h7, hDx (t.val / 128) (by omega) b ⟨t.val % 128, by omega⟩ c t ⟨264 * c.val + 16 * (t.val / 128) + b.val, by omega⟩
    (by show t.val = 128 * (t.val / 128) + t.val % 128; omega) rfl]
  show (arg12.view.read (Elt Ideal) X12 _ : EReal) = _
  have hcc : c.val = 8 * (⟨c.val / 8, by omega⟩ : Fin k0_t4_loop.trips).val + (⟨c.val % 8, by omega⟩ : Fin k0_t5_loop.trips).val := by
    show c.val = 8 * (c.val / 8) + c.val % 8; omega
  rw [hDX ⟨c.val / 8, by omega⟩ ⟨c.val % 8, by omega⟩ (by show 8 * (c.val / 8) + c.val % 8 < 128; omega) ⟨t.val / 128, by omega⟩ ⟨b.val, by omega⟩
    ⟨t.val % 128, by omega⟩ ⟨264 * c.val + 16 * (t.val / 128) + b.val, by omega⟩
    (by show 264 * c.val + 16 * (t.val / 128) + b.val = 2112 * (c.val / 8) + 264 * (c.val % 8) + 16 * (t.val / 128) + b.val; omega)]
  refine (oTile_dxTile_apply _ _ _ _ (dyc c.val) dsc (hc c.val) (zRead h3 h6 hDy B _ _ c hcc) ?_ _ _ (by show t.val / 128 < 16; omega) _ _).trans ?_
  · intro e he l j hj
    rw [ldH_apply _ _ arg4 X4 e he l c hcc, h4]
    exact B.b4 c ⟨e, by omega⟩ l j he hj
  · rw [ldC_apply _ _ arg1 X1 c hcc, h1, B.b1]
    have et : 128 * (t.val / 128) + t.val % 128 = t.val := by omega
    show (∑ U ∈ range 2048, Zv (dyc c.val) dsc b.val U * dec4 (hzv (hc c.val) U (128 * (t.val / 128) + t.val % 128))) * hs c.val = _
    rw [et]

theorem ran_dh (B : Blocks d1 d2 d3 d4 d5 d6 xc dyc hc xsc dsc hs)
    (h : Ran (F := Ideal) arg1 arg2 arg3 arg4 arg5 arg6 arg7 arg8 arg9 arg10 arg11 arg12 d1 d2 d3 d4 d5 d6 d7 d8)
    (c : Fin 128) (k : Fin 2048) :
    (d8 (ix2 c k) : EReal) = ∑ b ∈ range 16, ∑ τ ∈ range 2048, XX (xc c.val) xsc b τ * Zv (dyc c.val) dsc b (τ + k.val) := by
  obtain ⟨X1, X2, X3, X4, X5, X6, X9, X10, X11, X12, f7, f8, h1, h2, h3, h4, h5, h6, h7, h8, hDy, hXp, hXw, hDX, hDH, hDx⟩ := h
  have hk := k.isLt
  have hcl := c.isLt
  have ht4 : k0_t4_loop.trips = 16 := trips4
  have ht5 : k0_t5_loop.trips = 8 := trips5
  have hcc : c.val = 8 * (⟨c.val / 8, by omega⟩ : Fin k0_t4_loop.trips).val + (⟨c.val % 8, by omega⟩ : Fin k0_t5_loop.trips).val := by
    show c.val = 8 * (c.val / 8) + c.val % 8; omega
  rw [← h8, hDH ⟨c.val / 8, by omega⟩ (by show c.val / 8 < 16; omega) ⟨c.val % 8, by omega⟩ ⟨k.val / 128, by omega⟩ ⟨k.val % 128, by omega⟩ c k hcc
    (by show k.val = 128 * (k.val / 128) + k.val % 128; omega)]
  refine (dhRow_apply _ _ _ _ _ (dyc c.val) (xc c.val) dsc xsc (zRead h3 h6 hDy B _ _ c hcc) ?_ _ _).trans ?_
  · refine xTile_apply _ _ (xc c.val) xsc ?_ ?_
    · intro g a m j hj hm
      have hg := g.isLt
      have ha := a.isLt
      rw [ldA_apply _ _ arg10 X10 g a m ⟨68 * c.val + 8 * g.val + a.val, by omega⟩
        (by show 68 * c.val + 8 * g.val + a.val = 544 * (c.val / 8) + 68 * (c.val % 8) + 8 * g.val + a.val; omega)]
      exact xByte h2 hXp hXw B.b2 c g a m hm j hj _ rfl
    · intro g s m
      have hg := g.isLt
      have hm := m.isLt
      rw [ldS_apply arg5 X5 g s m ⟨128 * g.val + m.val, by omega⟩ rfl, h5, B.b5]
      have e1 : (128 * g.val + m.val) % 16 = m.val % 16 := by omega
      have e2 : (128 * g.val + m.val) / 128 = g.val := by omega
      have e3 : (128 * g.val + m.val) % 128 / 16 = m.val / 16 := by omega
      show (if (128 * g.val + m.val) % 16 < 12 then xsc ((128 * g.val + m.val) % 16) (256 * ((128 * g.val + m.val) / 128) + bt ((128 * g.val + m.val) % 128 / 16) + s.val) else 0) = _
      rw [e1, e2, e3]
  · have ek : 128 * (k.val / 128) + k.val % 128 = k.val := by omega
    show (∑ b ∈ range 16, ∑ τ ∈ range 2048, XX (xc c.val) xsc b τ * Zv (dyc c.val) dsc b (τ + (128 * (k.val / 128) + k.val % 128))) = _
    rw [ek]

end Ran

end Cert.KernelIdeal.Val
end
-- ==== Proof.KernelValue.lean ====
/-
  The kernel's run, from any claim about one body to a claim about the two result arrays: if every point's body leaves, in
  its two output blocks, the blocks of `G6` and `G7`, then the run ends with the results at `G6` and `G7`.
-/
module

public import proofs.«01_k».proof.Proof.Body
public import proofs.«01_k».proof.Proof.Gen.KernelIdeal.Frame
public import Idealize.ShloMosaic.Lib.Pipeline.Frame
public import Idealize.ShloMosaic.Lib.Pipeline.Value

@[expose] public section

set_option maxRecDepth 16384
set_option maxHeartbeats 4000000

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)
variable (G6 : (c : Dev nD) → Buf (Elt F) ((c : Thread nD τ).loc main_v47_0))
variable (G7 : (c : Dev nD) → Buf (Elt F) ((c : Thread nD τ).loc main_v47_1))

/-- The block of the first result at point `t`, and of the second. -/
def o6 (c : Dev nD) (t : Fin cfg0.N) : S12x2048x128.Idx → Elt F .bf16 := ((cfg0.win 6).blk t).view.read (Elt F) (G6 c)
def o7 (c : Dev nD) (t : Fin cfg0.N) : S128x2048.Idx → Elt F .f32 := ((cfg0.win 7).blk t).view.read (Elt F) (G7 c)

/-- Every point's body leaves the blocks of `G6` and `G7`. -/
def Good : Prop := ∀ (c : Dev nD) (t : Fin cfg0.N) arg1 arg2 arg3 arg4 arg5 arg6 arg7 arg8 arg9 arg10 arg11 arg12 d7 d8,
  Ran (F := F) arg1 arg2 arg3 arg4 arg5 arg6 arg7 arg8 arg9 arg10 arg11 arg12
    (iblk m c 0 t) (iblk m c 1 t) (iblk m c 2 t) (iblk m c 3 t) (iblk m c 4 t) (iblk m c 5 t) d7 d8 →
  d7 = o6 G6 c t ∧ d8 = o7 G7 c t

/-- The proof data: the arrays as the region finds them, the inputs' blocks left in place, the outputs at `G6`'s and `G7`'s. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => o6 G6 c t
    | ⟨7, _⟩ => o7 G7 c t
  Φ _ := Pipeline.ΦA spec0 c
  q _ := fullShare
  owed _ := 0

theorem A_eq (c : Dev nD) (w : Fin cfg0.W) : (dats m G6 G7 0 c).A w = V m c (Pipeline.arrRef spec0 w) := by dsimp only [dats]
theorem after0_0 (c : Dev nD) (t : Fin cfg0.N) : (dats m G6 G7 0 c).after 0 t = iblk m c 0 t := by dsimp only [dats]
theorem after0_1 (c : Dev nD) (t : Fin cfg0.N) : (dats m G6 G7 0 c).after 1 t = iblk m c 1 t := by dsimp only [dats]
theorem after0_2 (c : Dev nD) (t : Fin cfg0.N) : (dats m G6 G7 0 c).after 2 t = iblk m c 2 t := by dsimp only [dats]
theorem after0_3 (c : Dev nD) (t : Fin cfg0.N) : (dats m G6 G7 0 c).after 3 t = iblk m c 3 t := by dsimp only [dats]
theorem after0_4 (c : Dev nD) (t : Fin cfg0.N) : (dats m G6 G7 0 c).after 4 t = iblk m c 4 t := by dsimp only [dats]
theorem after0_5 (c : Dev nD) (t : Fin cfg0.N) : (dats m G6 G7 0 c).after 5 t = iblk m c 5 t := by dsimp only [dats]
theorem after0_6 (c : Dev nD) (t : Fin cfg0.N) : (dats m G6 G7 0 c).after 6 t = o6 G6 c t := by dsimp only [dats]
theorem after0_7 (c : Dev nD) (t : Fin cfg0.N) : (dats m G6 G7 0 c).after 7 t = o7 G7 c t := by dsimp only [dats]

theorem before0_0 (c : Dev nD) (t : Fin cfg0.N) (d) : (dats m G6 G7 0 c).before 0 t d = iblk m c 0 t :=
  before0_0_of m (dats m G6 G7 0 c) (A_eq m G6 G7 c 0) (after0_0 m G6 G7 c) t d
theorem before0_1 (c : Dev nD) (t : Fin cfg0.N) (d) : (dats m G6 G7 0 c).before 1 t d = iblk m c 1 t :=
  before0_1_of m (dats m G6 G7 0 c) (A_eq m G6 G7 c 1) (after0_1 m G6 G7 c) t d
theorem before0_2 (c : Dev nD) (t : Fin cfg0.N) (d) : (dats m G6 G7 0 c).before 2 t d = iblk m c 2 t :=
  before0_2_of m (dats m G6 G7 0 c) (A_eq m G6 G7 c 2) (after0_2 m G6 G7 c) t d
theorem before0_3 (c : Dev nD) (t : Fin cfg0.N) (d) : (dats m G6 G7 0 c).before 3 t d = iblk m c 3 t :=
  before0_3_of m (dats m G6 G7 0 c) (A_eq m G6 G7 c 3) (after0_3 m G6 G7 c) t d
theorem before0_4 (c : Dev nD) (t : Fin cfg0.N) (d) : (dats m G6 G7 0 c).before 4 t d = iblk m c 4 t :=
  before0_4_of m (dats m G6 G7 0 c) (A_eq m G6 G7 c 4) (after0_4 m G6 G7 c) t d
theorem before0_5 (c : Dev nD) (t : Fin cfg0.N) (d) : (dats m G6 G7 0 c).before 5 t d = iblk m c 5 t :=
  before0_5_of m (dats m G6 G7 0 c) (A_eq m G6 G7 c 5) (after0_5 m G6 G7 c) t d

/-- The invariant between two points: the six scratch buffers and the generator register, at anything. -/
theorem Phi_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) ∗ (∃ r, prngReg c r)) := by
  unfold Pipeline.ΦA; rw [scopedRest0_eq]; simp only [owns_whole]; try rfl

def bodyPre (c : Dev nD) (t : Fin cfg0.N) : sProp 𝕄 :=
  iprop((dats m G6 G7 0 c).Φ t.castSucc ∗ (dats m G6 G7 0 c).owesAt () t.castSucc
    ∗ (∃ d, owns (c : Thread nD τ) (st0_0 t) fullShare ((dats m G6 G7 0 c).before 0 t d))
    ∗ (∃ d, owns (c : Thread nD τ) (st0_1 t) fullShare ((dats m G6 G7 0 c).before 1 t d))
    ∗ (∃ d, owns (c : Thread nD τ) (st0_2 t) fullShare ((dats m G6 G7 0 c).before 2 t d))
    ∗ (∃ d, owns (c : Thread nD τ) (st0_3 t) fullShare ((dats m G6 G7 0 c).before 3 t d))
    ∗ (∃ d, owns (c : Thread nD τ) (st0_4 t) fullShare ((dats m G6 G7 0 c).before 4 t d))
    ∗ (∃ d, owns (c : Thread nD τ) (st0_5 t) fullShare ((dats m G6 G7 0 c).before 5 t d))
    ∗ (∃ d, owns (c : Thread nD τ) (st0_6 t) fullShare ((dats m G6 G7 0 c).before 6 t d))
    ∗ (∃ d, owns (c : Thread nD τ) (st0_7 t) fullShare ((dats m G6 G7 0 c).before 7 t d)))
def bodyPost (c : Dev nD) (t : Fin cfg0.N) : sProp 𝕄 :=
  iprop((dats m G6 G7 0 c).Φ t.succ ∗ (dats m G6 G7 0 c).owesAt () t.succ
    ∗ owns (c : Thread nD τ) (st0_0 t) fullShare ((dats m G6 G7 0 c).after 0 t)
    ∗ owns (c : Thread nD τ) (st0_1 t) fullShare ((dats m G6 G7 0 c).after 1 t)
    ∗ owns (c : Thread nD τ) (st0_2 t) fullShare ((dats m G6 G7 0 c).after 2 t)
    ∗ owns (c : Thread nD τ) (st0_3 t) fullShare ((dats m G6 G7 0 c).after 3 t)
    ∗ owns (c : Thread nD τ) (st0_4 t) fullShare ((dats m G6 G7 0 c).after 4 t)
    ∗ owns (c : Thread nD τ) (st0_5 t) fullShare ((dats m G6 G7 0 c).after 5 t)
    ∗ owns (c : Thread nD τ) (st0_6 t) fullShare ((dats m G6 G7 0 c).after 6 t)
    ∗ owns (c : Thread nD τ) (st0_7 t) fullShare ((dats m G6 G7 0 c).after 7 t))

theorem sound_body (hgood : Good m G6 G7) (c : Dev nD) (t : Fin cfg0.N) :
    bodyPre m G6 G7 c t ⊢ wp frame (wpE (defs₀ (F := F)) Variants.none c none) Set.univ (bodyAt0 t) (fun _ => bodyPost m G6 G7 c t) := by
  unfold bodyPre bodyPost bodyAt0
  simp only [before0_0, before0_1, before0_2, before0_3, before0_4, before0_5]
  rw [show (dats m G6 G7 0 c).Φ t.succ = (dats m G6 G7 0 c).Φ t.castSucc from rfl,
    show (dats m G6 G7 0 c).owesAt () t.succ = (dats m G6 G7 0 c).owesAt () t.castSucc from rfl,
    after0_0, after0_1, after0_2, after0_3, after0_4, after0_5, after0_6, after0_7,
    show (dats m G6 G7 0 c).Φ t.castSucc = Pipeline.ΦA spec0 c from rfl, Phi_eq]
  iintro ⟨⟨⟨S0, S1, S2, S3, S4, S5⟩, Hg⟩, HO, ⟨%d0, W0⟩, ⟨%d1, W1⟩, ⟨%d2, W2⟩, ⟨%d3, W3⟩, ⟨%d4, W4⟩, ⟨%d5, W5⟩, ⟨%d6, W6⟩, ⟨%d7, W7⟩⟩
  iapply (body_run c (grid0.coords t) (st0_0 t) _ (st0_1 t) _ (st0_2 t) _ (st0_3 t) _ (st0_4 t) _ (st0_5 t) _ (st0_6 t) _ (st0_7 t) _ (Memref.whole cc0_scratch0) _ (Memref.whole cc0_scratch1) _ (Memref.whole cc0_scratch2) _ (Memref.whole cc0_scratch3) _ (Memref.whole cc0_scratch4) _ (Memref.whole cc0_scratch5) _ (iblk m c 0 t) (iblk m c 1 t) (iblk m c 2 t) (iblk m c 3 t) (iblk m c 4 t) (iblk m c 5 t) _)
  isplitl [W0]; · iexact W0
  isplitl [W1]; · iexact W1
  isplitl [W2]; · iexact W2
  isplitl [W3]; · iexact W3
  isplitl [W4]; · iexact W4
  isplitl [W5]; · iexact W5
  isplitl [W6]; · iexists _; iexact W6
  isplitl [W7]; · iexists _; iexact W7
  isplitl [S0]; · iexact S0
  isplitl [S1]; · iexact S1
  isplitl [S2]; · iexact S2
  isplitl [S3]; · iexact S3
  isplitl [S4]; · iexact S4
  isplitl [S5]; · iexact S5
  iintro ⟨W0, W1, W2, W3, W4, W5, ⟨%e7, %e8, %hr, W6, W7⟩, S0, S1, S2, S3, S4, S5⟩
  obtain ⟨he7, he8⟩ := hgood c t _ _ _ _ _ _ _ _ _ _ _ _ _ _ hr
  subst he7 he8
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [HO]; · iexact HO
  isplitl [W0]; · iexact W0
  isplitl [W1]; · iexact W1
  isplitl [W2]; · iexact W2
  isplitl [W3]; · iexact W3
  isplitl [W4]; · iexact W4
  isplitl [W5]; · iexact W5
  isplitl [W6]; · iexact W6
  iexact W7

theorem defs₀_row (t : Fin cfg0.N) : defs₀ (F := F) .tc cfg0.body (cfg0.bodyArgs t (cfg0.slots t)) = bodyAt0 t := by
  unfold defs₀; rw [Defs.onTc_tc]

theorem body_obligation (hgood : Good m G6 G7) (c : Dev nD) :
    BodyObligation (dats (F := F) m G6 G7 0 c) (defs₀ (F := F)) Variants.none () Set.univ := fun t => by
  rw [bigSep_W0, bigSep_W0, defs₀_row]
  exact triple_restated (sound_body m G6 G7 hgood c t) rfl .rfl fun _ => .rfl

set_option backward.isDefEq.respectTransparency.types false in
theorem run_main (hgood : Good m G6 G7) :
    θ_run defs (onTc (τ := τ) (main (F := F))) (s₀ m ρ) (fun r => Pipeline.FramePost cfgs (dats m G6 G7) 0 (V m) r) :=
  Pipeline.θ_run_frame (Q' := _) cfgs (dats m G6 G7) (0 : Fin 1) launch0 defs₀ Variants.none m ρ main
    (hbody := fun c => (body_obligation m G6 G7 hgood c).loose) (hshare := fun c => (dats m G6 G7 0 c).share_full fun _ => rfl)
    (howed := fun _ _ => rfl) (V := V m) (hmain := hmain m Variants.none) (hA := A_eq m G6 G7) (hΦ := fun _ _ => rfl)

theorem start6 : ∀ t : Fin grid0.N, win0_6.index t 0 = 0 ∧ win0_6.index t 1 = 0 ∧ win0_6.index t 2 = t.val := by decide +kernel
theorem start7 : ∀ t : Fin grid0.N, win0_7.index t 0 = t.val ∧ win0_7.index t 1 = 0 := by decide +kernel

theorem final6 (c : Dev nD) : (dats m G6 G7 0 c).arrAt 6 cfg0.N = G6 c :=
  (dats m G6 G7 0 c).arrAt_eq_of_cover 6 (G6 c) (fun t hf => by
    show (cfg0.win 6).cut (grid0.coords t) ((dats m G6 G7 0 c).after 6 t) = _
    rw [after0_6]; rfl) fun i => by
    have h0 : (i 0 : Nat) < 12 := (i 0).isLt
    have h1 : (i 1 : Nat) < 2048 := (i 1).isLt
    have h2 : (i 2 : Nat) < 512 := (i 2).isLt
    have hN : grid0.N = 4 := N_0
    let t : Fin grid0.N := ⟨(i 2 : Nat) / 128, by omega⟩
    refine ⟨t, flush0_6 t, ?_⟩
    show i ∈ ((View.whole main_v47_0).slice (win0_6.rect t)).set
    rw [View.set_slice_whole, Rect.mem_set_unit]
    have hs := start6 t
    have ht : t.val = (i 2 : Nat) / 128 := rfl
    intro a
    match a with
    | ⟨0, _⟩ => show win0_6.index t 0 * 12 ≤ (i 0 : Nat) ∧ (i 0 : Nat) < win0_6.index t 0 * 12 + 12
                omega
    | ⟨1, _⟩ => show win0_6.index t 1 * 2048 ≤ (i 1 : Nat) ∧ (i 1 : Nat) < win0_6.index t 1 * 2048 + 2048
                omega
    | ⟨2, _⟩ => show win0_6.index t 2 * 128 ≤ (i 2 : Nat) ∧ (i 2 : Nat) < win0_6.index t 2 * 128 + 128
                omega

theorem final7 (c : Dev nD) : (dats m G6 G7 0 c).arrAt 7 cfg0.N = G7 c :=
  (dats m G6 G7 0 c).arrAt_eq_of_cover 7 (G7 c) (fun t hf => by
    show (cfg0.win 7).cut (grid0.coords t) ((dats m G6 G7 0 c).after 7 t) = _
    rw [after0_7]; rfl) fun i => by
    have h0 : (i 0 : Nat) < 512 := (i 0).isLt
    have h1 : (i 1 : Nat) < 2048 := (i 1).isLt
    have hN : grid0.N = 4 := N_0
    let t : Fin grid0.N := ⟨(i 0 : Nat) / 128, by omega⟩
    refine ⟨t, flush0_7 t, ?_⟩
    show i ∈ ((View.whole main_v47_1).slice (win0_7.rect t)).set
    rw [View.set_slice_whole, Rect.mem_set_unit]
    have hs := start7 t
    have ht : t.val = (i 0 : Nat) / 128 := rfl
    intro a
    match a with
    | ⟨0, _⟩ => show win0_7.index t 0 * 128 ≤ (i 0 : Nat) ∧ (i 0 : Nat) < win0_7.index t 0 * 128 + 128
                omega
    | ⟨1, _⟩ => show win0_7.index t 1 * 2048 ≤ (i 1 : Nat) ∧ (i 1 : Nat) < win0_7.index t 1 * 2048 + 2048
                omega

/-- The run, read: the results at `G6` and `G7`, the arguments unchanged. -/
theorem run (hgood : Good m G6 G7) :
    θ_run defs (onTc (τ := τ) (main (F := F))) ⟨m, fun _ => 0, ρ⟩ (fun r => ∀ c : Dev nD,
      r.2.mem ((c.tc : Thread nD τ).loc main_v47_0) = G6 c
      ∧ r.2.mem ((c.tc : Thread nD τ).loc main_v47_1) = G7 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final6 m G6 G7 c), ((h c).1 7).trans (final7 m G6 G7 c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩) (run_main m ρ G6 G7 hgood)

end Cert.KernelIdeal.Val
end
-- ==== Proof.GoodValue.lean ====
/-
  The kernel's two results as functions of the arguments: every point's body leaves its blocks of them.
-/
module

public import proofs.«01_k».proof.Proof.Entry
public import proofs.«01_k».proof.Proof.BodyValue
public import proofs.«01_k».proof.Proof.KernelValue

@[expose] public section

set_option maxRecDepth 16384
set_option maxHeartbeats 400000

noncomputable section

namespace Cert.KernelIdeal.Val

open Cert.KernelIdeal Cert.KernelIdeal.Gen Cert.KernelIdeal.Hand
open Idealize.ShloMosaic Idealize.ShloMosaic.TcCoe Idealize.ShloMosaic.ValueIdx
open Finset

/-- The gradient of the input at batch `b`, time `t`, channel `c`. -/
def dxVal (dy : S12x2048x512.Idx → BitVec 8) (dsc : S12x2048.Idx → EReal) (h : S512x2048.Idx → BitVec 8) (hs : S512.Idx → EReal) (b t c : ℕ) : EReal :=
  (∑ U ∈ range 2048, Zv (at3 dy c) (at2 dsc) b U * dec4 (hzv (atH h c) U t)) * at1 hs c

/-- The gradient of the filter at channel `c`, lag `k`. -/
def dhVal (x : S12x2048x512.Idx → BitVec 8) (xsc : S12x2048.Idx → EReal) (dy : S12x2048x512.Idx → BitVec 8) (dsc : S12x2048.Idx → EReal) (c k : ℕ) : EReal :=
  ∑ b ∈ range 16, ∑ τ ∈ range 2048, XX (at3 x c) (at2 xsc) b τ * Zv (at3 dy c) (at2 dsc) b (τ + k)

variable (m : (ℓ : Loc nD τ sig) → Buf (Elt Ideal) ℓ)

def G6 (c : Dev nD) : Buf (Elt Ideal) ((c : Thread nD τ).loc main_v47_0) := fun i : S12x2048x512.Idx =>
  dxVal (m ((c : Thread nD τ).loc main_arg2)) (m ((c : Thread nD τ).loc main_arg3)) (m ((c : Thread nD τ).loc main_arg4))
    (m ((c : Thread nD τ).loc main_arg5)) (i 0).val (i 1).val (i 2).val
def G7 (c : Dev nD) : Buf (Elt Ideal) ((c : Thread nD τ).loc main_v47_1) := fun i : S512x2048.Idx =>
  dhVal (m ((c : Thread nD τ).loc main_arg0)) (m ((c : Thread nD τ).loc main_arg1)) (m ((c : Thread nD τ).loc main_arg2))
    (m ((c : Thread nD τ).loc main_arg3)) (i 0).val (i 1).val

/-! ## Where the blocks lie -/

theorem start0 : ∀ t : Fin grid0.N, win0_0.index t 0 = t.val ∧ win0_0.index t 1 = 0 ∧ win0_0.index t 2 = 0 := by decide +kernel
theorem start1 : ∀ t : Fin grid0.N, win0_1.index t 0 = 0 ∧ win0_1.index t 1 = t.val := by decide +kernel
theorem start2 : ∀ t : Fin grid0.N, win0_2.index t 0 = 0 ∧ win0_2.index t 1 = t.val := by decide +kernel
theorem start3 : ∀ t : Fin grid0.N, win0_3.index t 0 = t.val ∧ win0_3.index t 1 = 0 ∧ win0_3.index t 2 = 0 := by decide +kernel
theorem start4 : ∀ t : Fin grid0.N, win0_4.index t 0 = 0 ∧ win0_4.index t 1 = 0 := by decide +kernel
theorem start5 : ∀ t : Fin grid0.N, win0_5.index t 0 = 0 ∧ win0_5.index t 1 = 0 ∧ win0_5.index t 2 = 0 ∧ win0_5.index t 3 = 0 := by decide +kernel

variable (c : Dev nD) (t : Fin grid0.N)

theorem rd0 (l : Fin 128) (k : Fin 4) (hk : k.val = t.val) : iblk m c 0 t (ix3 0 0 l) = V m c main_v44 (ix3 k 0 l) := by
  obtain ⟨h0, h1, h2⟩ := start0 t
  refine congrArg (V m c main_v44) (funext fun a => ?_)
  match a with
  | ⟨0, _⟩ => exact Fin.ext (by show win0_0.index t 0 * 1 + 1 * 0 = k.val; omega)
  | ⟨1, _⟩ => exact Fin.ext (by show win0_0.index t 1 * 1 + 1 * 0 = 0; omega)
  | ⟨2, _⟩ => exact Fin.ext (by show win0_0.index t 2 * 128 + 1 * l.val = l.val; omega)

theorem rd1 (p : Fin 24576) (l : Fin 128) (k : Fin 512) (hk : k.val = 128 * t.val + l.val) : iblk m c 1 t (ix2 p l) = V m c main_v45 (ix2 p k) := by
  obtain ⟨h0, h1⟩ := start1 t
  refine congrArg (V m c main_v45) (funext fun a => ?_)
  match a with
  | ⟨0, _⟩ => exact Fin.ext (by show win0_1.index t 0 * 24576 + 1 * p.val = p.val; omega)
  | ⟨1, _⟩ => exact Fin.ext (by show win0_1.index t 1 * 128 + 1 * l.val = k.val; omega)

theorem rd2 (p : Fin 24576) (l : Fin 128) (k : Fin 512) (hk : k.val = 128 * t.val + l.val) : iblk m c 2 t (ix2 p l) = V m c main_v46 (ix2 p k) := by
  obtain ⟨h0, h1⟩ := start2 t
  refine congrArg (V m c main_v46) (funext fun a => ?_)
  match a with
  | ⟨0, _⟩ => exact Fin.ext (by show win0_2.index t 0 * 24576 + 1 * p.val = p.val; omega)
  | ⟨1, _⟩ => exact Fin.ext (by show win0_2.index t 1 * 128 + 1 * l.val = k.val; omega)

theorem rd3 (l : Fin 128) (e : Fin 24) (z : Fin 128) (k : Fin 512) (hk : k.val = 128 * t.val + l.val) :
    iblk m c 3 t (ix3 l e z) = V m c main_v19 (ix3 k e z) := by
  obtain ⟨h0, h1, h2⟩ := start3 t
  refine congrArg (V m c main_v19) (funext fun a => ?_)
  match a with
  | ⟨0, _⟩ => exact Fin.ext (by show win0_3.index t 0 * 128 + 1 * l.val = k.val; omega)
  | ⟨1, _⟩ => exact Fin.ext (by show win0_3.index t 1 * 24 + 1 * e.val = e.val; omega)
  | ⟨2, _⟩ => exact Fin.ext (by show win0_3.index t 2 * 128 + 1 * z.val = z.val; omega)

theorem rd4 (s : Fin 32) (k : Fin 1024) : iblk m c 4 t (ix2 s k) = V m c main_v24 (ix2 s k) := by
  obtain ⟨h0, h1⟩ := start4 t
  refine congrArg (V m c main_v24) (funext fun a => ?_)
  match a with
  | ⟨0, _⟩ => exact Fin.ext (by show win0_4.index t 0 * 32 + 1 * s.val = s.val; omega)
  | ⟨1, _⟩ => exact Fin.ext (by show win0_4.index t 1 * 1024 + 1 * k.val = k.val; omega)

theorem rd5 (v : Fin 4) (q b : Fin 16) (l : Fin 128) : iblk m c 5 t (ix4 v q b l) = V m c main_v43 (ix4 v q b l) := by
  obtain ⟨h0, h1, h2, h3⟩ := start5 t
  refine congrArg (V m c main_v43) (funext fun a => ?_)
  match a with
  | ⟨0, _⟩ => exact Fin.ext (by show win0_5.index t 0 * 4 + 1 * v.val = v.val; omega)
  | ⟨1, _⟩ => exact Fin.ext (by show win0_5.index t 1 * 16 + 1 * q.val = q.val; omega)
  | ⟨2, _⟩ => exact Fin.ext (by show win0_5.index t 2 * 16 + 1 * b.val = b.val; omega)
  | ⟨3, _⟩ => exact Fin.ext (by show win0_5.index t 3 * 128 + 1 * l.val = l.val; omega)

theorem flat_apply (x : S12x2048x512.Idx → BitVec 8) (p : Fin 24576) (k : Fin 512) :
    shapeCast S24576x512 x shapeCasts_S12x2048x512_S24576x512 (ix2 p k) = at3 x k.val (p.val / 2048) (p.val % 2048) := by
  have hp := p.isLt
  rw [shapeCast_apply _ _ (ix2 p k) (ix3 (⟨p.val / 2048, by omega⟩ : Fin 12) (⟨p.val % 2048, by omega⟩ : Fin 2048) k) (by
    rw [Shape.rowMajor_val_three, Shape.rowMajor_val_two]
    show (p.val / 2048 * 2048 + p.val % 2048) * 512 + k.val = p.val * 512 + k.val
    omega)]
  unfold at3
  congr 1
  funext a
  match a with
  | ⟨0, _⟩ => exact (ofNat_val 12 ⟨p.val / 2048, by omega⟩).symm
  | ⟨1, _⟩ => exact (ofNat_val 2048 ⟨p.val % 2048, by omega⟩).symm
  | ⟨2, _⟩ => exact (ofNat_val 512 k).symm

theorem blocks_at : Blocks (iblk m c 0 t) (iblk m c 1 t) (iblk m c 2 t) (iblk m c 3 t) (iblk m c 4 t) (iblk m c 5 t)
    (fun k => at3 (m ((c : Thread nD τ).loc main_arg0)) (128 * t.val + k)) (fun k => at3 (m ((c : Thread nD τ).loc main_arg2)) (128 * t.val + k))
    (fun k => atH (m ((c : Thread nD τ).loc main_arg4)) (128 * t.val + k))
    (at2 (m ((c : Thread nD τ).loc main_arg1))) (at2 (m ((c : Thread nD τ).loc main_arg3)))
    (fun k => at1 (m ((c : Thread nD τ).loc main_arg5)) (128 * t.val + k)) := by
  have ht : t.val < 4 := by have := t.isLt; have := N_0; omega
  refine ⟨fun k => ?_, fun p k => ?_, fun p k => ?_, fun k e l j he hj => ?_, fun s k => ?_, fun v q b l => ?_⟩
  · have hk := k.isLt
    rw [rd0 m c t k ⟨t.val, ht⟩ rfl, V_v44, shapeCast_apply _ _ (ix3 (⟨t.val, ht⟩ : Fin 4) 0 k) (ix1 (⟨128 * t.val + k.val, by omega⟩ : Fin 512)) (by
      rw [Shape.rowMajor_val_three, Shape.rowMajor_val_one]
      show 128 * t.val + k.val = (t.val * 1 + 0) * 128 + k.val
      omega)]
    unfold at1
    congr 1
    funext a
    match a with
    | ⟨0, _⟩ => exact (ofNat_val 512 ⟨128 * t.val + k.val, by omega⟩).symm
  · have hk := k.isLt
    rw [rd1 m c t p k ⟨128 * t.val + k.val, by omega⟩ rfl, V_v45]
    exact flat_apply _ p _
  · have hk := k.isLt
    rw [rd2 m c t p k ⟨128 * t.val + k.val, by omega⟩ rfl, V_v46]
    exact flat_apply _ p _
  · have hk := k.isLt
    rw [rd3 m c t k e l ⟨128 * t.val + k.val, by omega⟩ rfl, V_v19]
    exact hWin_apply _ ⟨128 * t.val + k.val, by omega⟩ e he l j hj
  · rw [rd4 m c t s k, V_v24]
    exact xsArr_apply _ s k
  · rw [rd5 m c t v q b l, V_v43]
    exact dsArr_apply _ v q b l

theorem good : Good m (G6 m) (G7 m) := by
  intro c t arg1 arg2 arg3 arg4 arg5 arg6 arg7 arg8 arg9 arg10 arg11 arg12 d7 d8 h
  have B := blocks_at m c t
  constructor
  · obtain ⟨h0, h1, h2⟩ := start6 t
    funext i
    have e : (i : S12x2048x128.Idx) = ix3 (i 0) (i 1) (i 2) := by
      funext a
      match a with
      | ⟨0, _⟩ => rfl
      | ⟨1, _⟩ => rfl
      | ⟨2, _⟩ => rfl
    rw [e]
    refine (ran_dx B h (i 0) (i 1) (i 2)).trans ?_
    show dxVal _ _ _ _ (i 0).val (i 1).val (128 * t.val + (i 2).val) = dxVal _ _ _ _ (win0_6.index t 0 * 12 + 1 * (i 0).val) (win0_6.index t 1 * 2048 + 1 * (i 1).val) (win0_6.index t 2 * 128 + 1 * (i 2).val)
    congr 1 <;> omega
  · obtain ⟨h0, h1⟩ := start7 t
    funext i
    have e : (i : S128x2048.Idx) = ix2 (i 0) (i 1) := by
      funext a
      match a with
      | ⟨0, _⟩ => rfl
      | ⟨1, _⟩ => rfl
    rw [e]
    refine (ran_dh B h (i 0) (i 1)).trans ?_
    show dhVal _ _ _ _ (128 * t.val + (i 0).val) (i 1).val = dhVal _ _ _ _ (win0_7.index t 0 * 128 + 1 * (i 0).val) (win0_7.index t 1 * 2048 + 1 * (i 1).val)
    congr 1 <;> omega

end Cert.KernelIdeal.Val
end
-- ==== Proof.RefValue.lean ====
/-
  The reference's two results, element by element, are the sums that the kernel's results are.
-/
module

public import proofs.«01_k».proof.Proof.RefElem
public import proofs.«01_k».proof.Proof.GoodValue

@[expose] public section

set_option maxRecDepth 16384
set_option maxHeartbeats 400000

noncomputable section

namespace Cert.ReferenceIdeal.Val

open Cert.ReferenceIdeal Cert.ReferenceIdeal.Gen
open Idealize.ShloMosaic Idealize.ShloMosaic.TcCoe Idealize.ShloMosaic.ValueIdx
open Cert.KernelIdeal.Val (dec4 dec5 dec4_zero hzv Zv XX at1 at2 at3 atH ofNat_val sitofp_zero dxVal dhVal)

theorem zeroS_apply (i : S_.Idx) : (zeroS i : EReal) = 0 := sitofp_zero i

/-! ## The arguments at natural numbers -/

theorem at1_val {α : Type} (f : S512.Idx → α) (c : Fin 512) : at1 f c.val = f (ix1 c) := by
  unfold at1
  rw [ofNat_val]
theorem at2_val {α : Type} (f : S12x2048.Idx → α) (b : Fin 12) (t : Fin 2048) : at2 f b.val t.val = f (ix2 b t) := by
  unfold at2
  rw [ofNat_val, ofNat_val]
theorem at3_val {α : Type} (f : S12x2048x512.Idx → α) (c : Fin 512) (b : Fin 12) (t : Fin 2048) :
    at3 f c.val b.val t.val = f (ix3 b t c) := by
  unfold at3
  rw [ofNat_val, ofNat_val, ofNat_val]
theorem atH_val {α : Type} (f : S512x2048.Idx → α) (c : Fin 512) (t : Fin 2048) : atH f c.val t.val = f (ix2 c t) := by
  unfold atH
  rw [ofNat_val, ofNat_val]

/-! ## The scaled arrays -/

theorem z_apply (dy : S12x2048x512.Idx → BitVec 8) (dsc : FVec Ideal S12x2048 .f32) (b : Fin 12) (t : Fin 2048) (c : Fin 512) :
    (scaled (dyDec dy) dsc (ix3 b t c) : EReal) = Zv (at3 dy c.val) (at2 dsc) b.val t.val := by
  rw [scaled_apply]
  unfold Zv
  rw [if_pos ⟨b.isLt, t.isLt⟩, at3_val, at2_val]
  rfl

theorem x_apply (x : S12x2048x512.Idx → BitVec 8) (xsc : FVec Ideal S12x2048 .f32) (b : Fin 12) (t : Fin 2048) (c : Fin 512) :
    (scaled (xDec x) xsc (ix3 b t c) : EReal) = XX (at3 x c.val) (at2 xsc) b.val t.val := by
  rw [scaled_apply]
  unfold XX
  rw [if_pos b.isLt, at3_val, at2_val]
  rfl

/-! ## The input's gradient -/

theorem toeplitz_apply (h : S512x2048.Idx → BitVec 8) (c : Fin 512) (t u : Fin 2048) :
    (toeplitz (hDec h) (ix3 c t u) : EReal) = dec4 (hzv (atH h c.val) u.val t.val) := by
  have hu := u.isLt
  have ht := t.isLt
  unfold toeplitz
  show Scalar.select (broadcastInDim S512x2048x2048 ![1, 2] bcast_S2048x2048_S512x2048x2048_1_2 (cmpi .sge lag (every 0#32)) (ix3 c t u))
    (Host.gather gather_S512x2048_S2048x2048x1_S512x2048x2048_0_1_n_n_1_2_5121 (hDec h) (starts 2048#32 (maxsi lag (every 0#32))) (ix3 c t u))
    (broadcastInDim S512x2048x2048 ![] bcast_S_S512x2048x2048 zeroS (ix3 c t u)) = _
  rw [broadcastInDim_apply _ _ _ (ix3 c t u) (ix2 t u) (fun a => by
      match a with
      | ⟨0, _⟩ => rfl
      | ⟨1, _⟩ => rfl), lag_sge, gather_filter]
  unfold hzv
  by_cases hl : t.val ≤ u.val
  · rw [if_pos hl, if_pos ⟨hl, by omega⟩]
    show (hDec h _ : EReal) = _
    have e := starts_apply 2048#32 (maxsi lag (every 0#32)) t u (u.val - t.val) (by omega) (lag_max t u)
    have ei : (⟨min (starts 2048#32 (maxsi lag (every 0#32)) (ix3 t u (0 : Fin 1))).toInt.toNat 2047, by omega⟩ : Fin 2048)
        = ⟨u.val - t.val, by omega⟩ := by
      apply Fin.ext
      show min _ 2047 = u.val - t.val
      rw [e, BitVec.toInt_eq_toNat_of_lt (by simp only [BitVec.toNat_ofNat]; omega), BitVec.toNat_ofNat]
      omega
    rw [ei]
    exact (congrArg dec4 (atH_val h c ⟨u.val - t.val, by omega⟩)).symm
  · rw [if_neg hl, if_neg (fun h => hl h.1), dec4_zero]
    exact zeroS_apply _

theorem dx_apply (dy : S12x2048x512.Idx → BitVec 8) (dsc : FVec Ideal S12x2048 .f32) (h : S512x2048.Idx → BitVec 8)
    (hs : FVec Ideal S512 .f32) (b : Fin 12) (t : Fin 2048) (c : Fin 512) :
    (dxRef (scaled (dyDec dy) dsc) (hDec h) hs (ix3 b t c) : EReal) = dxVal dy dsc h hs b.val t.val c.val := by
  have e1 : (transpose S12x2048x512 [1, 2, 0]
      (Host.dotGeneral dot_S12x2048x512_S512x2048x2048_S512x12x2048_1_2_0_1_2_0 none (scaled (dyDec dy) dsc) (toeplitz (hDec h)))
      transposes_S512x12x2048_S12x2048x512_1_2_0 (ix3 b t c) : EReal)
      = ∑ U ∈ Finset.range 2048, Zv (at3 dy c.val) (at2 dsc) b.val U * dec4 (hzv (atH h c.val) U t.val) := by
    rw [transpose_apply _ _ _ _ (ix3 c b t) (fun a => by
      match a with
      | ⟨0, _⟩ => rfl
      | ⟨1, _⟩ => rfl
      | ⟨2, _⟩ => rfl), dot_dx, Finset.sum_range]
    refine Finset.sum_congr rfl fun u _ => ?_
    rw [z_apply, toeplitz_apply]
  have e2 : (broadcastInDim S12x2048x512 ![0, 1, 2] bcast_S1x1x512_S12x2048x512_0_1_2
      (broadcastInDim S1x1x512 ![2] bcast_S512_S1x1x512_2 hs) (ix3 b t c) : EReal) = at1 hs c.val := by
    rw [broadcastInDim_apply _ _ _ (ix3 b t c) (ix3 (0 : Fin 1) (0 : Fin 1) c) (fun a => by
        match a with
        | ⟨0, _⟩ => rfl
        | ⟨1, _⟩ => rfl
        | ⟨2, _⟩ => rfl),
      broadcastInDim_apply _ _ _ (ix3 (0 : Fin 1) (0 : Fin 1) c) (ix1 c) (fun a => by
        match a with
        | ⟨0, _⟩ => rfl), at1_val]
  exact congr (congrArg (fun p q : EReal => p * q) e1) e2

/-! ## The filter's gradient -/

theorem ahead_apply (dy : S12x2048x512.Idx → BitVec 8) (dsc : FVec Ideal S12x2048 .f32) (b : Fin 12) (t k : Fin 2048) (c : Fin 512) :
    (ahead (scaled (dyDec dy) dsc) (ix4 b t k c) : EReal) = Zv (at3 dy c.val) (at2 dsc) b.val (t.val + k.val) := by
  have ht := t.isLt
  have hk := k.isLt
  unfold ahead
  rw [gather_ahead]
  have e := starts_apply 4096#32 (addi down across) t k (t.val + k.val) (by omega) (by
    show down (ix2 t k) + across (ix2 t k) = _
    rw [down_apply, across_apply, ← BitVec.ofNat_add])
  have ei : (⟨min (starts 4096#32 (addi down across) (ix3 t k (0 : Fin 1))).toInt.toNat 4095, by omega⟩ : Fin 4096)
      = ⟨t.val + k.val, by omega⟩ := by
    apply Fin.ext
    show min _ 4095 = t.val + k.val
    rw [e, BitVec.toInt_eq_toNat_of_lt (by simp only [BitVec.toNat_ofNat]; omega), BitVec.toNat_ofNat]
    omega
  rw [ei]
  by_cases hl : t.val + k.val < 2048
  · rw [pad_apply_of_inside _ _ _ _ _ _ _ (ix3 b (⟨t.val + k.val, by omega⟩ : Fin 4096) c) (ix3 b (⟨t.val + k.val, hl⟩ : Fin 2048) c) (fun a => by
      match a with
      | ⟨0, _⟩ => show b.val = 0 + b.val * 1; omega
      | ⟨1, _⟩ => show t.val + k.val = 0 + (t.val + k.val) * 1; omega
      | ⟨2, _⟩ => show c.val = 0 + c.val * 1; omega), z_apply]
  · rw [pad_apply_of_not_inside _ _ _ _ _ _ _ (ix3 b (⟨t.val + k.val, by omega⟩ : Fin 4096) c) 1 (by
      show ¬(0 ≤ t.val + k.val ∧ (t.val + k.val - 0) % 1 = 0 ∧ (t.val + k.val - 0) / 1 < 2048); omega)]
    unfold Zv
    rw [if_neg (fun h => hl h.2)]
    exact zeroS_apply _

theorem dh_apply (x : S12x2048x512.Idx → BitVec 8) (xsc : FVec Ideal S12x2048 .f32) (dy : S12x2048x512.Idx → BitVec 8)
    (dsc : FVec Ideal S12x2048 .f32) (c : Fin 512) (k : Fin 2048) :
    (dhRef (scaled (xDec x) xsc) (scaled (dyDec dy) dsc) (ix2 c k) : EReal) = dhVal x xsc dy dsc c.val k.val := by
  unfold dhRef dhVal
  rw [dot_dh, ← Finset.sum_subset (Finset.range_mono (show 12 ≤ 16 by omega)) (fun b _ hb => Finset.sum_eq_zero fun t _ => by
    unfold XX
    rw [if_neg (fun h => hb (Finset.mem_range.mpr h)), zero_mul]), Finset.sum_range]
  refine Finset.sum_congr rfl fun b _ => ?_
  rw [Finset.sum_range]
  refine Finset.sum_congr rfl fun t _ => ?_
  rw [x_apply, ahead_apply]

end Cert.ReferenceIdeal.Val
end
-- ==== Proof.Algebraic.lean ====
/-
  At the ideal values the kernel and the reference end with equal results.
-/
module

public import proofs.«01_k».proof.Defs
public import proofs.«01_k».proof.Proof.RefValue
public import proofs.«01_k».proof.Proof.GoodValue
public import proofs.«01_k».proof.Proof.KernelValue

@[expose] public section

set_option maxRecDepth 16384
set_option maxHeartbeats 400000

noncomputable section

namespace Cert.Proof

open Idealize.ShloMosaic Idealize.ShloMosaic.ValueIdx Idealize.SL.Sem

theorem algebraic : Cert.algebraic_KernelIdeal_ReferenceIdeal
    (hKernelIdeal := Cert.KernelIdeal.Gen.facts) (hReferenceIdeal := Cert.ReferenceIdeal.Gen.facts) := by
  intro m g m' g' _ hagree
  refine ⟨fun c => Cert.KernelIdeal.Val.G6 m c, fun c => Cert.KernelIdeal.Val.G7 m c,
    Cert.KernelIdeal.Val.run (F := Ideal) m g (Cert.KernelIdeal.Val.G6 m) (Cert.KernelIdeal.Val.G7 m) (Cert.KernelIdeal.Val.good m), ?_⟩
  refine (θ_run _ _ _).mono (fun _ h c => ?_) (Cert.ReferenceIdeal.Val.run m' g')
  obtain ⟨h0, h1, hargs⟩ := h c
  obtain ⟨a0, a1, a2, a3, a4, a5⟩ := hagree c
  refine ⟨h0.trans ?_, h1.trans ?_, hargs⟩
  · rw [a2, a3, a4, a5]
    funext i
    exact (congrArg _ (eq_ix3 (n0 := 12) (n1 := 2048) (n2 := 512) i)).trans
      (Cert.ReferenceIdeal.Val.dx_apply _ _ _ _ (i 0) (i 1) (i 2))
  · rw [a0, a1, a2, a3]
    funext i
    exact (congrArg _ (eq_ix2 (n0 := 512) (n1 := 2048) i)).trans
      (Cert.ReferenceIdeal.Val.dh_apply _ _ _ _ (i 0) (i 1))

end Cert.Proof

end
-- ==== Proof.lean ====
/-
  The certificate of the claims stated in the statement.
-/
module

public import proofs.«01_k».proof.Defs
public import proofs.«01_k».proof.Proof.Gen.Kernel
public import proofs.«01_k».proof.Proof.Gen.KernelIdeal
public import proofs.«01_k».proof.Proof.KernelFrame
public import proofs.«01_k».proof.Proof.KernelIdealFrame
public import proofs.«01_k».proof.Proof.Gen.ReferenceIdeal.Frame
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  fun m g _ => Cert.Kernel.Hand.frame m g, fun m g _ => Cert.KernelIdeal.Hand.frame m g,
  fun m g _ => Cert.ReferenceIdeal.Gen.frame m g, trivial, algebraic⟩

end Cert.Proof

end
